-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_rows [hPre_finite_rows : Cert.Pre_finite_rows.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_rows [hPre_finite_rows : Cert.Pre_finite_rows.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_rows.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite_rows [hKernel2Ideal : Cert.Kernel2Ideal.Facts] [hPre_finite_rows : Cert.Pre_finite_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_rows m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite_rows [hReference2Ideal : Cert.Reference2Ideal.Facts] [hPre_finite_rows : Cert.Pre_finite_rows.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_rows m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v63_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v63_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Kernel2_Kernel2Ideal : Prop :=
  True

def algebraic_Kernel2Ideal_Reference2Ideal_pre_finite_rows [hKernel2Ideal : Cert.Kernel2Ideal.Facts] [hReference2Ideal : Cert.Reference2Ideal.Facts] [hPre_finite_rows : Cert.Pre_finite_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_rows m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v66_0)) (v1 : (c : Dev Cert.Kernel2Ideal.nD) → Buf (Elt Ideal) ((c.tc : Thread Cert.Kernel2Ideal.nD Cert.Kernel2Ideal.τ).loc Cert.Kernel2Ideal.main_v66_1)) (v2 : (c : Dev Cert.Kernel2Ideal.nD) → Buf (Elt Ideal) ((c.tc : Thread Cert.Kernel2Ideal.nD Cert.Kernel2Ideal.τ).loc Cert.Kernel2Ideal.main_v66_2)) (v3 : (c : Dev Cert.Kernel2Ideal.nD) → Buf (Elt Ideal) ((c.tc : Thread Cert.Kernel2Ideal.nD Cert.Kernel2Ideal.τ).loc Cert.Kernel2Ideal.main_v66_3)) (v4 : (c : Dev Cert.Kernel2Ideal.nD) → Buf (Elt Ideal) ((c.tc : Thread Cert.Kernel2Ideal.nD Cert.Kernel2Ideal.τ).loc Cert.Kernel2Ideal.main_v66_4)) (v5 : (c : Dev Cert.Kernel2Ideal.nD) → Buf (Elt Ideal) ((c.tc : Thread Cert.Kernel2Ideal.nD Cert.Kernel2Ideal.τ).loc Cert.Kernel2Ideal.main_v66_5)) (v6 : (c : Dev Cert.Kernel2Ideal.nD) → Buf (Elt Ideal) ((c.tc : Thread Cert.Kernel2Ideal.nD Cert.Kernel2Ideal.τ).loc Cert.Kernel2Ideal.main_v66_6)) (v7 : (c : Dev Cert.Kernel2Ideal.nD) → Buf (Elt Ideal) ((c.tc : Thread Cert.Kernel2Ideal.nD Cert.Kernel2Ideal.τ).loc Cert.Kernel2Ideal.main_v66_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v66_0) = v0 c
          ∧ r.2.mem ((c.tc : Thread Cert.Kernel2Ideal.nD Cert.Kernel2Ideal.τ).loc Cert.Kernel2Ideal.main_v66_1) = v1 c
          ∧ r.2.mem ((c.tc : Thread Cert.Kernel2Ideal.nD Cert.Kernel2Ideal.τ).loc Cert.Kernel2Ideal.main_v66_2) = v2 c
          ∧ r.2.mem ((c.tc : Thread Cert.Kernel2Ideal.nD Cert.Kernel2Ideal.τ).loc Cert.Kernel2Ideal.main_v66_3) = v3 c
          ∧ r.2.mem ((c.tc : Thread Cert.Kernel2Ideal.nD Cert.Kernel2Ideal.τ).loc Cert.Kernel2Ideal.main_v66_4) = v4 c
          ∧ r.2.mem ((c.tc : Thread Cert.Kernel2Ideal.nD Cert.Kernel2Ideal.τ).loc Cert.Kernel2Ideal.main_v66_5) = v5 c
          ∧ r.2.mem ((c.tc : Thread Cert.Kernel2Ideal.nD Cert.Kernel2Ideal.τ).loc Cert.Kernel2Ideal.main_v66_6) = v6 c
          ∧ r.2.mem ((c.tc : Thread Cert.Kernel2Ideal.nD Cert.Kernel2Ideal.τ).loc Cert.Kernel2Ideal.main_v66_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v131) = v0 c
          ∧ r.2.mem ((c.tc : Thread Cert.Reference2Ideal.nD Cert.Reference2Ideal.τ).loc Cert.Reference2Ideal.main_v132) = v1 c
          ∧ r.2.mem ((c.tc : Thread Cert.Reference2Ideal.nD Cert.Reference2Ideal.τ).loc Cert.Reference2Ideal.main_v133) = v2 c
          ∧ r.2.mem ((c.tc : Thread Cert.Reference2Ideal.nD Cert.Reference2Ideal.τ).loc Cert.Reference2Ideal.main_v134) = v3 c
          ∧ r.2.mem ((c.tc : Thread Cert.Reference2Ideal.nD Cert.Reference2Ideal.τ).loc Cert.Reference2Ideal.main_v136) = v4 c
          ∧ r.2.mem ((c.tc : Thread Cert.Reference2Ideal.nD Cert.Reference2Ideal.τ).loc Cert.Reference2Ideal.main_v143) = v5 c
          ∧ r.2.mem ((c.tc : Thread Cert.Reference2Ideal.nD Cert.Reference2Ideal.τ).loc Cert.Reference2Ideal.main_v145) = v6 c
          ∧ r.2.mem ((c.tc : Thread Cert.Reference2Ideal.nD Cert.Reference2Ideal.τ).loc Cert.Reference2Ideal.main_v21) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_scores : Cert.Pre_finite_scores.Facts) (hPre_finite_rows : Cert.Pre_finite_rows.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_rows (hKernel2Ideal := hKernel2Ideal) (hPre_finite_rows := hPre_finite_rows)
    ∧ quiescent_Reference2Ideal (hReference2Ideal := hReference2Ideal)
    ∧ quiescent_Reference2Ideal_pre_finite_rows (hReference2Ideal := hReference2Ideal) (hPre_finite_rows := hPre_finite_rows)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_rows (hKernel2Ideal := hKernel2Ideal) (hReference2Ideal := hReference2Ideal) (hPre_finite_rows := hPre_finite_rows)
-- ==== Pre_finite_rows.lean ====
abbrev S8x2048x1024 : Shape := ⟨3, ![8, 2048, 1024]⟩
abbrev S9x1x3072 : Shape := ⟨3, ![9, 1, 3072]⟩
abbrev S1024 : Shape := ⟨1, ![1024]⟩
abbrev S1024x2464 : Shape := ⟨2, ![1024, 2464]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S2048x2x8 : Shape := ⟨3, ![2048, 2, 8]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S1024x32 : Shape := ⟨2, ![1024, 32]⟩
abbrev S8x2048x2464 : Shape := ⟨3, ![8, 2048, 2464]⟩
abbrev S8x2048x256 : Shape := ⟨3, ![8, 2048, 256]⟩
abbrev S1x1x256 : Shape := ⟨3, ![1, 1, 256]⟩

class Facts : Prop where
  reducesTo_S8x2048x1024_S8x2048_d2 : S8x2048x1024.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x1024_0_1_2 : S8x2048x1.BroadcastsInDim S8x2048x1024 (![0, 1, 2] : Fin 3 → Fin S8x2048x1024.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  slices_S9x1x3072_S8x1x1024_0_0_0 : S9x1x3072.Slices ![0, 0, 0] S8x1x1024
  slices_S9x1x3072_S8x1x1024_0_0_1024 : S9x1x3072.Slices ![0, 0, 1024] S8x1x1024
  bcast_S_S8x1x1024 : S_.BroadcastsInDim S8x1x1024 (![] : Fin 0 → Fin S8x1x1024.rank)
  bcast_S8x1x1024_S8x2048x1024_0_1_2 : S8x1x1024.BroadcastsInDim S8x2048x1024 (![0, 1, 2] : Fin 3 → Fin S8x2048x1024.rank)
  bcast_S_S8x2048x1024 : S_.BroadcastsInDim S8x2048x1024 (![] : Fin 0 → Fin S8x2048x1024.rank)
  reducesTo_S8x2048x1024_S_d0_1_2 : S8x2048x1024.ReducesTo [0, 1, 2] S_
  slices_S1024x2464_S1024x32_0_384 : S1024x2464.Slices ![0, 384] S1024x32
  bcast_S_S1024x32 : S_.BroadcastsInDim S1024x32 (![] : Fin 0 → Fin S1024x32.rank)
  reducesTo_S1024x32_S_d0_1 : S1024x32.ReducesTo [0, 1] S_
  slices_S8x2048x2464_S8x2048x256_0_0_0 : S8x2048x2464.Slices ![0, 0, 0] S8x2048x256
  reducesTo_S8x2048x256_S8x2048_d2 : S8x2048x256.ReducesTo [2] S8x2048
  bcast_S8x2048x1_S8x2048x256_0_1_2 : S8x2048x1.BroadcastsInDim S8x2048x256 (![0, 1, 2] : Fin 3 → Fin S8x2048x256.rank)
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  bcast_S_S8x2048x256 : S_.BroadcastsInDim S8x2048x256 (![] : Fin 0 → Fin S8x2048x256.rank)
  reducesTo_S8x2048x256_S_d0_1_2 : S8x2048x256.ReducesTo [0, 1, 2] S_
  bcast_S_S256x768 : S_.BroadcastsInDim S256x768 (![] : Fin 0 → Fin S256x768.rank)
  reducesTo_S256x768_S_d0_1 : S256x768.ReducesTo [0, 1] S_
  dot_S8x2048x1024_S1024x2464_S8x2048x2464_2_0_01_1_n_n_wf : DotDims.WF S8x2048x1024 S1024x2464 S8x2048x2464 [2] [0] [0, 1] [1] [] []

variable [Facts]

def dot_S8x2048x1024_S1024x2464_S8x2048x2464_2_0_01_1_n_n : DotDims S8x2048x1024 S1024x2464 S8x2048x2464 where
  lhsContracting := [2]
  rhsContracting := [0]
  lhsNonContracting := [0, 1]
  rhsNonContracting := [1]
  lhsBatch := []
  rhsBatch := []
  wf := dot_S8x2048x1024_S1024x2464_S8x2048x2464_2_0_01_1_n_n_wf
def fn_part3 {F : FTy → Type} [FloatOps F] (main_arg6 : FVec F S256x768 .f32) (main_v39 : IVec S_ 1) (main_v57 : IVec S8x2048x256 1) : IVec S_ 1 :=
  let main_c_12 : IVec S_ 1 := constantI S_ 1 1#1
  let main_v58 : IVec S_ 1 := (fun x v => Host.reduce IntOp.andi x v reducesTo_S8x2048x256_S_d0_1_2 h_S_) main_v57 main_c_12
  let main_v59 : IVec S_ 1 := andi main_v39 main_v58
  let main_v60 : FVec F S256x768 .f32 := Host.absf main_arg6
  let main_cst_13 : FVec F S_ .f32 := constant S_ .f32 0x7F800000#32
  let main_v61 : FVec F S256x768 .f32 := broadcastInDim S256x768 ![] bcast_S_S256x768 main_cst_13
  let main_v62 : IVec S256x768 1 := cmpf .olt main_v60 main_v61
  let main_c_14 : IVec S_ 1 := constantI S_ 1 1#1
  let main_v63 : IVec S_ 1 := (fun x v => Host.reduce IntOp.andi x v reducesTo_S256x768_S_d0_1 h_S_) main_v62 main_c_14
  let main_v64 : IVec S_ 1 := andi main_v59 main_v63
  main_v64

def fn_part2 {F : FTy → Type} [FloatOps F] (main_arg4 : FVec F S1024x2464 .f32) (main_arg5 : FVec F S256 .f32) (main_arg6 : FVec F S256x768 .f32) (main_v29 : FVec F S8x2048x1024 .f32) (main_v33 : IVec S_ 1) (main_v37 : IVec S1024x32 1) (main_c_7 : IVec S_ 1) : IVec S_ 1 :=
  let main_v38 : IVec S_ 1 := (fun x v => Host.reduce IntOp.andi x v reducesTo_S1024x32_S_d0_1 h_S_) main_v37 main_c_7
  let main_v39 : IVec S_ 1 := andi main_v33 main_v38
  let main_v40 : FVec F S8x2048x2464 .f32 := (fun l r => Host.dotGeneral dot_S8x2048x1024_S1024x2464_S8x2048x2464_2_0_01_1_n_n none l r) main_v29 main_arg4
  let main_v41 : FVec F S8x2048x256 .f32 := (extractStridedSlice S8x2048x256 ![0, 0, 0] · slices_S8x2048x2464_S8x2048x256_0_0_0) main_v40
  let main_v42 : FVec F S8x2048x256 .f32 := mulf main_v41 main_v41
  let main_cst_8 : FVec F S_ .f32 := constant S_ .f32 0x00000000#32
  let main_v43 : FVec F S8x2048 .f32 := (fun x v => Host.reduceAdd x v reducesTo_S8x2048x256_S8x2048_d2 h_S_) main_v42 main_cst_8
  let main_v44 : FVec F S8x2048x1 .f32 := broadcastInDim S8x2048x1 ![0, 1] bcast_S8x2048_S8x2048x1_0_1 main_v43
  let main_cst_9 : FVec F S_ .f32 := constant S_ .f32 0x43800000#32
  let main_v45 : FVec F S8x2048x1 .f32 := broadcastInDim S8x2048x1 ![] bcast_S_S8x2048x1 main_cst_9
  let main_v46 : FVec F S8x2048x1 .f32 := Host.divf main_v44 main_v45
  let main_cst_10 : FVec F S_ .f32 := constant S_ .f32 0x358637BD#32
  let main_v47 : FVec F S8x2048x1 .f32 := broadcastInDim S8x2048x1 ![] bcast_S_S8x2048x1 main_cst_10
  let main_v48 : FVec F S8x2048x1 .f32 := addf main_v46 main_v47
  let main_v49 : FVec F S8x2048x1 .f32 := Host.rsqrt main_v48
  let main_v50 : FVec F S8x2048x256 .f32 := broadcastInDim S8x2048x256 ![0, 1, 2] bcast_S8x2048x1_S8x2048x256_0_1_2 main_v49
  let main_v51 : FVec F S8x2048x256 .f32 := mulf main_v41 main_v50
  let main_v52 : FVec F S1x1x256 .f32 := broadcastInDim S1x1x256 ![2] bcast_S256_S1x1x256_2 main_arg5
  let main_v53 : FVec F S8x2048x256 .f32 := broadcastInDim S8x2048x256 ![0, 1, 2] bcast_S1x1x256_S8x2048x256_0_1_2 main_v52
  let main_v54 : FVec F S8x2048x256 .f32 := mulf main_v51 main_v53
  let main_v55 : FVec F S8x2048x256 .f32 := Host.absf main_v54
  let main_cst_11 : FVec F S_ .f32 := constant S_ .f32 0x7F800000#32
  let main_v56 : FVec F S8x2048x256 .f32 := broadcastInDim S8x2048x256 ![] bcast_S_S8x2048x256 main_cst_11
  let main_v57 : IVec S8x2048x256 1 := cmpf .olt main_v55 main_v56
  fn_part3 (F := F) main_arg6 main_v39 main_v57

def fn_part1 {F : FTy → Type} [FloatOps F] (main_arg1 : FVec F S9x1x3072 .f32) (main_arg3 : FVec F S1024 .f32) (main_arg4 : FVec F S1024x2464 .f32) (main_arg5 : FVec F S256 .f32) (main_arg6 : FVec F S256x768 .f32) (main_v18 : FVec F S8x2048x1024 .f32) : IVec S_ 1 :=
  let main_v19 : FVec F S1x1x1024 .f32 := broadcastInDim S1x1x1024 ![2] bcast_S1024_S1x1x1024_2 main_arg3
  let main_v20 : FVec F S8x2048x1024 .f32 := broadcastInDim S8x2048x1024 ![0, 1, 2] bcast_S1x1x1024_S8x2048x1024_0_1_2 main_v19
  let main_v21 : FVec F S8x2048x1024 .f32 := addf main_v18 main_v20
  let main_v22 : FVec F S8x1x1024 .f32 := (extractStridedSlice S8x1x1024 ![0, 0, 0] · slices_S9x1x3072_S8x1x1024_0_0_0) main_arg1
  let main_v23 : FVec F S8x1x1024 .f32 := (extractStridedSlice S8x1x1024 ![0, 0, 1024] · slices_S9x1x3072_S8x1x1024_0_0_1024) main_arg1
  let main_cst_4 : FVec F S_ .f32 := constant S_ .f32 0x3F800000#32
  let main_v24 : FVec F S8x1x1024 .f32 := broadcastInDim S8x1x1024 ![] bcast_S_S8x1x1024 main_cst_4
  let main_v25 : FVec F S8x1x1024 .f32 := addf main_v24 main_v23
  let main_v26 : FVec F S8x2048x1024 .f32 := broadcastInDim S8x2048x1024 ![0, 1, 2] bcast_S8x1x1024_S8x2048x1024_0_1_2 main_v25
  let main_v27 : FVec F S8x2048x1024 .f32 := mulf main_v21 main_v26
  let main_v28 : FVec F S8x2048x1024 .f32 := broadcastInDim S8x2048x1024 ![0, 1, 2] bcast_S8x1x1024_S8x2048x1024_0_1_2 main_v22
  let main_v29 : FVec F S8x2048x1024 .f32 := addf main_v27 main_v28
  let main_v30 : FVec F S8x2048x1024 .f32 := Host.absf main_v29
  let main_cst_5 : FVec F S_ .f32 := constant S_ .f32 0x7F800000#32
  let main_v31 : FVec F S8x2048x1024 .f32 := broadcastInDim S8x2048x1024 ![] bcast_S_S8x2048x1024 main_cst_5
  let main_v32 : IVec S8x2048x1024 1 := cmpf .olt main_v30 main_v31
  let main_c : IVec S_ 1 := constantI S_ 1 1#1
  let main_v33 : IVec S_ 1 := (fun x v => Host.reduce IntOp.andi x v reducesTo_S8x2048x1024_S_d0_1_2 h_S_) main_v32 main_c
  let main_v34 : FVec F S1024x32 .f32 := (extractStridedSlice S1024x32 ![0, 384] · slices_S1024x2464_S1024x32_0_384) main_arg4
  let main_v35 : FVec F S1024x32 .f32 := Host.absf main_v34
  let main_cst_6 : FVec F S_ .f32 := constant S_ .f32 0x7F800000#32
  let main_v36 : FVec F S1024x32 .f32 := broadcastInDim S1024x32 ![] bcast_S_S1024x32 main_cst_6
  let main_v37 : IVec S1024x32 1 := cmpf .olt main_v35 main_v36
  let main_c_7 : IVec S_ 1 := constantI S_ 1 1#1
  fn_part2 (F := F) main_arg4 main_arg5 main_arg6 main_v29 main_v33 main_v37 main_c_7

def fn {F : FTy → Type} [FloatOps F] (main_arg0 : FVec F S8x2048x1024 .f32) (main_arg1 : FVec F S9x1x3072 .f32) (main_arg2 : FVec F S1024 .f32) (main_arg3 : FVec F S1024 .f32) (main_arg4 : FVec F S1024x2464 .f32) (main_arg5 : FVec F S256 .f32) (main_arg6 : FVec F S256x768 .f32) (main_arg7 : FVec F S128 .f32) (main_arg8 : FVec F S128x1024 .f32) (main_arg9 : FVec F S2048x2x8 .f32) (main_arg10 : FVec F S2048x2x8 .f32) : IVec S_ 1 :=
  let main_cst : FVec F S_ .f32 := constant S_ .f32 0x00000000#32
  let main_v0 : FVec F S8x2048 .f32 := (fun x v => Host.reduceAdd x v reducesTo_S8x2048x1024_S8x2048_d2 h_S_) main_arg0 main_cst
  let main_v1 : FVec F S8x2048x1 .f32 := broadcastInDim S8x2048x1 ![0, 1] bcast_S8x2048_S8x2048x1_0_1 main_v0
  let main_cst_0 : FVec F S_ .f32 := constant S_ .f32 0x44800000#32
  let main_v2 : FVec F S8x2048x1 .f32 := broadcastInDim S8x2048x1 ![] bcast_S_S8x2048x1 main_cst_0
  let main_v3 : FVec F S8x2048x1 .f32 := Host.divf main_v1 main_v2
  let main_v4 : FVec F S8x2048x1024 .f32 := broadcastInDim S8x2048x1024 ![0, 1, 2] bcast_S8x2048x1_S8x2048x1024_0_1_2 main_v3
  let main_v5 : FVec F S8x2048x1024 .f32 := subf main_arg0 main_v4
  let main_v6 : FVec F S8x2048x1024 .f32 := mulf main_v5 main_v5
  let main_cst_1 : FVec F S_ .f32 := constant S_ .f32 0x00000000#32
  let main_v7 : FVec F S8x2048 .f32 := (fun x v => Host.reduceAdd x v reducesTo_S8x2048x1024_S8x2048_d2 h_S_) main_v6 main_cst_1
  let main_v8 : FVec F S8x2048x1 .f32 := broadcastInDim S8x2048x1 ![0, 1] bcast_S8x2048_S8x2048x1_0_1 main_v7
  let main_cst_2 : FVec F S_ .f32 := constant S_ .f32 0x44800000#32
  let main_v9 : FVec F S8x2048x1 .f32 := broadcastInDim S8x2048x1 ![] bcast_S_S8x2048x1 main_cst_2
  let main_v10 : FVec F S8x2048x1 .f32 := Host.divf main_v8 main_v9
  let main_cst_3 : FVec F S_ .f32 := constant S_ .f32 0x3727C5AC#32
  let main_v11 : FVec F S8x2048x1 .f32 := broadcastInDim S8x2048x1 ![] bcast_S_S8x2048x1 main_cst_3
  let main_v12 : FVec F S8x2048x1 .f32 := addf main_v10 main_v11
  let main_v13 : FVec F S8x2048x1 .f32 := Host.rsqrt main_v12
  let main_v14 : FVec F S8x2048x1024 .f32 := broadcastInDim S8x2048x1024 ![0, 1, 2] bcast_S8x2048x1_S8x2048x1024_0_1_2 main_v13
  let main_v15 : FVec F S8x2048x1024 .f32 := mulf main_v5 main_v14
  let main_v16 : FVec F S1x1x1024 .f32 := broadcastInDim S1x1x1024 ![2] bcast_S1024_S1x1x1024_2 main_arg2
  let main_v17 : FVec F S8x2048x1024 .f32 := broadcastInDim S8x2048x1024 ![0, 1, 2] bcast_S1x1x1024_S8x2048x1024_0_1_2 main_v16
  let main_v18 : FVec F S8x2048x1024 .f32 := mulf main_v15 main_v17
  fn_part1 (F := F) main_arg1 main_arg3 main_arg4 main_arg5 main_arg6 main_v18
-- ==== Pre_finite_scores.lean ====
abbrev S8x2048x8x64 : Shape := ⟨4, ![8, 2048, 8, 64]⟩
abbrev S8x2048x8x32 : Shape := ⟨4, ![8, 2048, 8, 32]⟩
abbrev S8x256x8x64 : Shape := ⟨4, ![8, 256, 8, 64]⟩
abbrev S8x256x32 : Shape := ⟨3, ![8, 256, 32]⟩
abbrev S8x2048x32 : Shape := ⟨3, ![8, 2048, 32]⟩
abbrev S8x2048x512 : Shape := ⟨3, ![8, 2048, 512]⟩
abbrev S8x4x2048x128 : Shape := ⟨4, ![8, 4, 2048, 128]⟩
abbrev S512 : Shape := ⟨1, ![512]⟩
abbrev S_ : Shape := ⟨0, ![]⟩

class Facts : Prop where
  bcast_S_S8x2048x8x64 : S_.BroadcastsInDim S8x2048x8x64 (![] : Fin 0 → Fin S8x2048x8x64.rank)
  reducesTo_S8x2048x8x64_S_d0_1_2_3 : S8x2048x8x64.ReducesTo [0, 1, 2, 3] S_
  h_S_ : 0 < S_.numel
  bcast_S_S8x2048x8x32 : S_.BroadcastsInDim S8x2048x8x32 (![] : Fin 0 → Fin S8x2048x8x32.rank)
  reducesTo_S8x2048x8x32_S_d0_1_2_3 : S8x2048x8x32.ReducesTo [0, 1, 2, 3] S_
  bcast_S_S8x256x8x64 : S_.BroadcastsInDim S8x256x8x64 (![] : Fin 0 → Fin S8x256x8x64.rank)
  reducesTo_S8x256x8x64_S_d0_1_2_3 : S8x256x8x64.ReducesTo [0, 1, 2, 3] S_
  bcast_S_S8x256x32 : S_.BroadcastsInDim S8x256x32 (![] : Fin 0 → Fin S8x256x32.rank)
  reducesTo_S8x256x32_S_d0_1_2 : S8x256x32.ReducesTo [0, 1, 2] S_
  bcast_S_S8x2048x32 : S_.BroadcastsInDim S8x2048x32 (![] : Fin 0 → Fin S8x2048x32.rank)
  reducesTo_S8x2048x32_S_d0_1_2 : S8x2048x32.ReducesTo [0, 1, 2] S_

variable [Facts]

def fn_part1 {F : FTy → Type} [FloatOps F] (main_arg5 : FVec F S8x2048x8x64 .f32) (main_arg6 : FVec F S8x2048x32 .f32) (main_v13 : IVec S_ 1) (main_v16 : IVec S8x256x32 1) : IVec S_ 1 :=
  let main_c_5 : IVec S_ 1 := constantI S_ 1 1#1
  let main_v17 : IVec S_ 1 := (fun x v => Host.reduce IntOp.andi x v reducesTo_S8x256x32_S_d0_1_2 h_S_) main_v16 main_c_5
  let main_v18 : IVec S_ 1 := andi main_v13 main_v17
  let main_v19 : FVec F S8x2048x8x64 .f32 := Host.absf main_arg5
  let main_cst_6 : FVec F S_ .f32 := constant S_ .f32 0x7F800000#32
  let main_v20 : FVec F S8x2048x8x64 .f32 := broadcastInDim S8x2048x8x64 ![] bcast_S_S8x2048x8x64 main_cst_6
  let main_v21 : IVec S8x2048x8x64 1 := cmpf .olt main_v19 main_v20
  let main_c_7 : IVec S_ 1 := constantI S_ 1 1#1
  let main_v22 : IVec S_ 1 := (fun x v => Host.reduce IntOp.andi x v reducesTo_S8x2048x8x64_S_d0_1_2_3 h_S_) main_v21 main_c_7
  let main_v23 : IVec S_ 1 := andi main_v18 main_v22
  let main_v24 : FVec F S8x2048x32 .f32 := Host.absf main_arg6
  let main_cst_8 : FVec F S_ .f32 := constant S_ .f32 0x7F800000#32
  let main_v25 : FVec F S8x2048x32 .f32 := broadcastInDim S8x2048x32 ![] bcast_S_S8x2048x32 main_cst_8
  let main_v26 : IVec S8x2048x32 1 := cmpf .olt main_v24 main_v25
  let main_c_9 : IVec S_ 1 := constantI S_ 1 1#1
  let main_v27 : IVec S_ 1 := (fun x v => Host.reduce IntOp.andi x v reducesTo_S8x2048x32_S_d0_1_2 h_S_) main_v26 main_c_9
  let main_v28 : IVec S_ 1 := andi main_v23 main_v27
  main_v28

def fn {F : FTy → Type} [FloatOps F] (main_arg0 : FVec F S8x2048x8x64 .f32) (main_arg1 : FVec F S8x2048x8x32 .f32) (main_arg2 : FVec F S8x256x8x64 .f32) (main_arg3 : FVec F S8x256x32 .f32) (main_arg4 : FVec F S8x256x8x64 .f32) (main_arg5 : FVec F S8x2048x8x64 .f32) (main_arg6 : FVec F S8x2048x32 .f32) (main_arg7 : FVec F S8x2048x8x64 .f32) (main_arg8 : FVec F S8x2048x512 .f32) (main_arg9 : FVec F S8x4x2048x128 .f32) (main_arg10 : FVec F S8x2048x512 .f32) (main_arg11 : FVec F S8x2048x512 .f32) (main_arg12 : FVec F S8x2048x512 .f32) (main_arg13 : FVec F S512 .f32) (main_arg14 : FVec F S512 .f32) : IVec S_ 1 :=
  let main_v0 : FVec F S8x2048x8x64 .f32 := Host.absf main_arg0
  let main_cst : FVec F S_ .f32 := constant S_ .f32 0x7F800000#32
  let main_v1 : FVec F S8x2048x8x64 .f32 := broadcastInDim S8x2048x8x64 ![] bcast_S_S8x2048x8x64 main_cst
  let main_v2 : IVec S8x2048x8x64 1 := cmpf .olt main_v0 main_v1
  let main_c : IVec S_ 1 := constantI S_ 1 1#1
  let main_v3 : IVec S_ 1 := (fun x v => Host.reduce IntOp.andi x v reducesTo_S8x2048x8x64_S_d0_1_2_3 h_S_) main_v2 main_c
  let main_v4 : FVec F S8x2048x8x32 .f32 := Host.absf main_arg1
  let main_cst_0 : FVec F S_ .f32 := constant S_ .f32 0x7F800000#32
  let main_v5 : FVec F S8x2048x8x32 .f32 := broadcastInDim S8x2048x8x32 ![] bcast_S_S8x2048x8x32 main_cst_0
  let main_v6 : IVec S8x2048x8x32 1 := cmpf .olt main_v4 main_v5
  let main_c_1 : IVec S_ 1 := constantI S_ 1 1#1
  let main_v7 : IVec S_ 1 := (fun x v => Host.reduce IntOp.andi x v reducesTo_S8x2048x8x32_S_d0_1_2_3 h_S_) main_v6 main_c_1
  let main_v8 : IVec S_ 1 := andi main_v3 main_v7
  let main_v9 : FVec F S8x256x8x64 .f32 := Host.absf main_arg2
  let main_cst_2 : FVec F S_ .f32 := constant S_ .f32 0x7F800000#32
  let main_v10 : FVec F S8x256x8x64 .f32 := broadcastInDim S8x256x8x64 ![] bcast_S_S8x256x8x64 main_cst_2
  let main_v11 : IVec S8x256x8x64 1 := cmpf .olt main_v9 main_v10
  let main_c_3 : IVec S_ 1 := constantI S_ 1 1#1
  let main_v12 : IVec S_ 1 := (fun x v => Host.reduce IntOp.andi x v reducesTo_S8x256x8x64_S_d0_1_2_3 h_S_) main_v11 main_c_3
  let main_v13 : IVec S_ 1 := andi main_v8 main_v12
  let main_v14 : FVec F S8x256x32 .f32 := Host.absf main_arg3
  let main_cst_4 : FVec F S_ .f32 := constant S_ .f32 0x7F800000#32
  let main_v15 : FVec F S8x256x32 .f32 := broadcastInDim S8x256x32 ![] bcast_S_S8x256x32 main_cst_4
  let main_v16 : IVec S8x256x32 1 := cmpf .olt main_v14 main_v15
  fn_part1 (F := F) main_arg5 main_arg6 main_v13 main_v16
-- ==== Kernel.lean ====
abbrev S8x2048x8x64 : Shape := ⟨4, ![8, 2048, 8, 64]⟩
abbrev S8x2048x8x32 : Shape := ⟨4, ![8, 2048, 8, 32]⟩
abbrev S8x256x8x64 : Shape := ⟨4, ![8, 256, 8, 64]⟩
abbrev S8x256x32 : Shape := ⟨3, ![8, 256, 32]⟩
abbrev S8x2048x32 : Shape := ⟨3, ![8, 2048, 32]⟩
abbrev S8x2048x512 : Shape := ⟨3, ![8, 2048, 512]⟩
abbrev S8x4x2048x128 : Shape := ⟨4, ![8, 4, 2048, 128]⟩
abbrev S512 : Shape := ⟨1, ![512]⟩
abbrev S_ : Shape := ⟨0, ![]⟩
abbrev S8x2048x8x128 : Shape := ⟨4, ![8, 2048, 8, 128]⟩
abbrev S8x8x2048x128 : Shape := ⟨4, ![8, 8, 2048, 128]⟩
abbrev S8x2048x1x32 : Shape := ⟨4, ![8, 2048, 1, 32]⟩
abbrev S1x2048x8x64 : Shape := ⟨4, ![1, 2048, 8, 64]⟩
abbrev S1x2048x32 : Shape := ⟨3, ![1, 2048, 32]⟩
abbrev S1x2048x1x32 : Shape := ⟨4, ![1, 2048, 1, 32]⟩
abbrev S1x2048x8x32 : Shape := ⟨4, ![1, 2048, 8, 32]⟩
abbrev S1x2048x8x128 : Shape := ⟨4, ![1, 2048, 8, 128]⟩
abbrev S1x8x2048x128 : Shape := ⟨4, ![1, 8, 2048, 128]⟩
abbrev S8x8x64x2048 : Shape := ⟨4, ![8, 8, 64, 2048]⟩
abbrev S8x8x1x2048 : Shape := ⟨4, ![8, 8, 1, 2048]⟩
abbrev S8x8x15x2048 : Shape := ⟨4, ![8, 8, 15, 2048]⟩
abbrev S8x8x80x2048 : Shape := ⟨4, ![8, 8, 80, 2048]⟩
abbrev S1x8x64x2048 : Shape := ⟨4, ![1, 8, 64, 2048]⟩
abbrev S1x8x1x2048 : Shape := ⟨4, ![1, 8, 1, 2048]⟩
abbrev S1x8x15x2048 : Shape := ⟨4, ![1, 8, 15, 2048]⟩
abbrev S1x8x80x2048 : Shape := ⟨4, ![1, 8, 80, 2048]⟩
abbrev S8x4x128x2048 : Shape := ⟨4, ![8, 4, 128, 2048]⟩
abbrev S8x512x16x128 : Shape := ⟨4, ![8, 512, 16, 128]⟩
abbrev S8x16x512x128 : Shape := ⟨4, ![8, 16, 512, 128]⟩
abbrev S1x512 : Shape := ⟨2, ![1, 512]⟩
abbrev S1x8x512x128 : Shape := ⟨4, ![1, 8, 512, 128]⟩
abbrev S1x8x256x128 : Shape := ⟨4, ![1, 8, 256, 128]⟩
abbrev S1x8x80x256 : Shape := ⟨4, ![1, 8, 80, 256]⟩
abbrev S1x512x512 : Shape := ⟨3, ![1, 512, 512]⟩
abbrev S1x4x512x128 : Shape := ⟨4, ![1, 4, 512, 128]⟩
abbrev S2x2304x512 : Shape := ⟨3, ![2, 2304, 512]⟩
abbrev S512x512 : Shape := ⟨2, ![512, 512]⟩
abbrev S1x1x512x128 : Shape := ⟨4, ![1, 1, 512, 128]⟩
abbrev S512x128 : Shape := ⟨2, ![512, 128]⟩
abbrev S1x1x256x128 : Shape := ⟨4, ![1, 1, 256, 128]⟩
abbrev S256x128 : Shape := ⟨2, ![256, 128]⟩
abbrev S256x512 : Shape := ⟨2, ![256, 512]⟩
abbrev S1x1x2048x128 : Shape := ⟨4, ![1, 1, 2048, 128]⟩
abbrev S2048x128 : Shape := ⟨2, ![2048, 128]⟩
abbrev S2048x512 : Shape := ⟨2, ![2048, 512]⟩
abbrev S1x256x512 : Shape := ⟨3, ![1, 256, 512]⟩
abbrev S1x2048x512 : Shape := ⟨3, ![1, 2048, 512]⟩
abbrev S1x128x512 : Shape := ⟨3, ![1, 128, 512]⟩
abbrev S128x512 : Shape := ⟨2, ![128, 512]⟩
abbrev S128x128 : Shape := ⟨2, ![128, 128]⟩
abbrev S128 : Shape := ⟨1, ![128]⟩
abbrev S128x1 : Shape := ⟨2, ![128, 1]⟩
abbrev S1x1x80x256 : Shape := ⟨4, ![1, 1, 80, 256]⟩
abbrev S80x256 : Shape := ⟨2, ![80, 256]⟩
abbrev S80x512 : Shape := ⟨2, ![80, 512]⟩
abbrev S64x512 : Shape := ⟨2, ![64, 512]⟩

abbrev nBuf : Space → Nat
  | .hbm => 95
  | .vmem => 28
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x32, .f32⟩
  | .hbm, ⟨2, _⟩ => ⟨S8x256x8x64, .f32⟩
  | .hbm, ⟨3, _⟩ => ⟨S8x256x32, .f32⟩
  | .hbm, ⟨4, _⟩ => ⟨S8x256x8x64, .f32⟩
  | .hbm, ⟨5, _⟩ => ⟨S8x2048x8x64, .f32⟩
  | .hbm, ⟨6, _⟩ => ⟨S8x2048x32, .f32⟩
  | .hbm, ⟨7, _⟩ => ⟨S8x2048x8x64, .f32⟩
  | .hbm, ⟨8, _⟩ => ⟨S8x2048x512, .f32⟩
  | .hbm, ⟨9, _⟩ => ⟨S8x4x2048x128, .f32⟩
  | .hbm, ⟨10, _⟩ => ⟨S8x2048x512, .f32⟩
  | .hbm, ⟨11, _⟩ => ⟨S8x2048x512, .f32⟩
  | .hbm, ⟨12, _⟩ => ⟨S8x2048x512, .f32⟩
  | .hbm, ⟨13, _⟩ => ⟨S512, .f32⟩
  | .hbm, ⟨14, _⟩ => ⟨S512, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8x2048x8x32, .f32⟩
  | .hbm, ⟨22, _⟩ => ⟨S8x2048x8x128, .f32⟩
  | .hbm, ⟨23, _⟩ => ⟨S8x8x2048x128, .f32⟩
  | .hbm, ⟨24, _⟩ => ⟨S8x8x2048x128, .f32⟩
  | .hbm, ⟨25, _⟩ => ⟨S8x8x2048x128, .f32⟩
  | .hbm, ⟨26, _⟩ => ⟨S8x8x2048x128, .bf16⟩
  | .hbm, ⟨27, _⟩ => ⟨S8x2048x1x32, .f32⟩
  | .hbm, ⟨28, _⟩ => ⟨S8x2048x8x32, .f32⟩
  | .hbm, ⟨29, _⟩ => ⟨S_, .f32⟩
  | .hbm, ⟨30, _⟩ => ⟨S8x2048x8x32, .f32⟩
  | .hbm, ⟨31, _⟩ => ⟨S8x2048x8x128, .f32⟩
  | .hbm, ⟨32, _⟩ => ⟨S8x8x2048x128, .f32⟩
  | .hbm, ⟨33, _⟩ => ⟨S8x8x2048x128, .bf16⟩
  | .hbm, ⟨34, _⟩ => ⟨S1x2048x8x64, .f32⟩
  | .hbm, ⟨35, _⟩ => ⟨S1x2048x32, .f32⟩
  | .hbm, ⟨36, _⟩ => ⟨S1x2048x1x32, .f32⟩
  | .hbm, ⟨37, _⟩ => ⟨S1x2048x8x32, .f32⟩
  | .hbm, ⟨38, _⟩ => ⟨S_, .f32⟩
  | .hbm, ⟨39, _⟩ => ⟨S1x2048x8x32, .f32⟩
  | .hbm, ⟨40, _⟩ => ⟨S1x2048x8x128, .f32⟩
  | .hbm, ⟨41, _⟩ => ⟨S1x8x2048x128, .f32⟩
  | .hbm, ⟨42, _⟩ => ⟨S1x8x2048x128, .bf16⟩
  | .hbm, ⟨43, _⟩ => ⟨S8x8x64x2048, .f32⟩
  | .hbm, ⟨44, _⟩ => ⟨S_, .f32⟩
  | .hbm, ⟨45, _⟩ => ⟨S8x8x1x2048, .f32⟩
  | .hbm, ⟨46, _⟩ => ⟨S_, .f32⟩
  | .hbm, ⟨47, _⟩ => ⟨S8x8x15x2048, .f32⟩
  | .hbm, ⟨48, _⟩ => ⟨S8x8x80x2048, .f32⟩
  | .hbm, ⟨49, _⟩ => ⟨S8x8x80x2048, .bf16⟩
  | .hbm, ⟨50, _⟩ => ⟨S1x2048x8x64, .f32⟩
  | .hbm, ⟨51, _⟩ => ⟨S1x8x64x2048, .f32⟩
  | .hbm, ⟨52, _⟩ => ⟨S_, .f32⟩
  | .hbm, ⟨53, _⟩ => ⟨S1x8x1x2048, .f32⟩
  | .hbm, ⟨54, _⟩ => ⟨S_, .f32⟩
  | .hbm, ⟨55, _⟩ => ⟨S1x8x15x2048, .f32⟩
  | .hbm, ⟨56, _⟩ => ⟨S1x8x80x2048, .f32⟩
  | .hbm, ⟨57, _⟩ => ⟨S1x8x80x2048, .bf16⟩
  | .hbm, ⟨58, _⟩ => ⟨S8x2048x512, .f32⟩
  | .hbm, ⟨59, _⟩ => ⟨S8x2048x512, .f32⟩
  | .hbm, ⟨60, _⟩ => ⟨S_, .f32⟩
  | .hbm, ⟨61, _⟩ => ⟨S8x2048x512, .f32⟩
  | .hbm, ⟨62, _⟩ => ⟨S8x2048x512, .f32⟩
  | .hbm, ⟨63, _⟩ => ⟨S_, .f32⟩
  | .hbm, ⟨64, _⟩ => ⟨S8x2048x512, .f32⟩
  | .hbm, ⟨65, _⟩ => ⟨S8x2048x512, .f32⟩
  | .hbm, ⟨66, _⟩ => ⟨S8x2048x512, .f32⟩
  | .hbm, ⟨67, _⟩ => ⟨S8x2048x512, .bf16⟩
  | .hbm, ⟨68, _⟩ => ⟨S8x2048x512, .f32⟩
  | .hbm, ⟨69, _⟩ => ⟨S8x2048x512, .f32⟩
  | .hbm, ⟨70, _⟩ => ⟨S_, .f32⟩
  | .hbm, ⟨71, _⟩ => ⟨S8x2048x512, .f32⟩
  | .hbm, ⟨72, _⟩ => ⟨S8x2048x512, .f32⟩
  | .hbm, ⟨73, _⟩ => ⟨S_, .f32⟩
  | .hbm, ⟨74, _⟩ => ⟨S8x2048x512, .f32⟩
  | .hbm, ⟨75, _⟩ => ⟨S8x2048x512, .f32⟩
  | .hbm, ⟨76, _⟩ => ⟨S8x2048x512, .bf16⟩
  | .hbm, ⟨77, _⟩ => ⟨S8x2048x512, .f32⟩
  | .hbm, ⟨78, _⟩ => ⟨S8x2048x512, .f32⟩
  | .hbm, ⟨79, _⟩ => ⟨S_, .f32⟩
  | .hbm, ⟨80, _⟩ => ⟨S8x2048x512, .f32⟩
  | .hbm, ⟨81, _⟩ => ⟨S8x2048x512, .f32⟩
  | .hbm, ⟨82, _⟩ => ⟨S_, .f32⟩
  | .hbm, ⟨83, _⟩ => ⟨S8x2048x512, .f32⟩
  | .hbm, ⟨84, _⟩ => ⟨S8x2048x512, .f32⟩
  | .hbm, ⟨85, _⟩ => ⟨S8x2048x512, .f32⟩
  | .hbm, ⟨86, _⟩ => ⟨S8x2048x512, .bf16⟩
  | .hbm, ⟨87, _⟩ => ⟨S8x4x128x2048, .f32⟩
  | .hbm, ⟨88, _⟩ => ⟨S8x512x16x128, .f32⟩
  | .hbm, ⟨89, _⟩ => ⟨S8x16x512x128, .f32⟩
  | .hbm, ⟨90, _⟩ => ⟨S8x2048x512, .bf16⟩
  | .hbm, ⟨91, _⟩ => ⟨S1x512, .f32⟩
  | .hbm, ⟨92, _⟩ => ⟨S1x512, .f32⟩
  | .hbm, ⟨93, _⟩ => ⟨S8x2048x512, .bf16⟩
  | .hbm, ⟨94, _⟩ => ⟨S8x2048x512, .bf16⟩
  | .local _ .vmem, ⟨0, _⟩ => ⟨S1x8x512x128, .bf16⟩
  | .local _ .vmem, ⟨1, _⟩ => ⟨S1x8x512x128, .bf16⟩
  | .local _ .vmem, ⟨2, _⟩ => ⟨S1x8x256x128, .bf16⟩
  | .local _ .vmem, ⟨3, _⟩ => ⟨S1x8x256x128, .bf16⟩
  | .local _ .vmem, ⟨4, _⟩ => ⟨S1x8x2048x128, .bf16⟩
  | .local _ .vmem, ⟨5, _⟩ => ⟨S1x8x2048x128, .bf16⟩
  | .local _ .vmem, ⟨6, _⟩ => ⟨S1x8x80x256, .bf16⟩
  | .local _ .vmem, ⟨7, _⟩ => ⟨S1x8x80x256, .bf16⟩
  | .local _ .vmem, ⟨8, _⟩ => ⟨S1x8x80x2048, .bf16⟩
  | .local _ .vmem, ⟨9, _⟩ => ⟨S1x8x80x2048, .bf16⟩
  | .local _ .vmem, ⟨10, _⟩ => ⟨S1x512x512, .bf16⟩
  | .local _ .vmem, ⟨11, _⟩ => ⟨S1x512x512, .bf16⟩
  | .local _ .vmem, ⟨12, _⟩ => ⟨S1x4x512x128, .f32⟩
  | .local _ .vmem, ⟨13, _⟩ => ⟨S1x4x512x128, .f32⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512, .f32⟩
  | .local _ .vmem, ⟨21, _⟩ => ⟨S1x512, .f32⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S2x2304x512, .f32⟩
  | .local _ .vmem, ⟨27, _⟩ => ⟨S512x512, .f32⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_cst_1 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_cst_7 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_v37 : Ref sig .tc := ⟨.hbm, 62, rfl⟩
abbrev main_cst_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_12 : Ref sig .tc := ⟨.hbm, 79, rfl⟩
abbrev main_v51 : Ref sig .tc := ⟨.hbm, 80, rfl⟩
abbrev main_v52 : Ref sig .tc := ⟨.hbm, 81, rfl⟩
abbrev main_cst_13 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63_0 : Ref sig .tc := ⟨.hbm, 93, rfl⟩
abbrev main_v63_1 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![8, 4], ![false, false]⟩

def k0_mult1 : BitVec 32 :=
  let c0_i32 : BitVec 32 := 0#32
  c0_i32
@[reducible] def k0_t1_loop : Scf.Loop 32 :=
  let c0_i32_55 : BitVec 32 := 0#32
  let c3_i32 : BitVec 32 := 3#32
  let v120 : BitVec 32 := Scalar.addi c0_i32_55 c3_i32
  let c1_i32 : BitVec 32 := 1#32
  ⟨c0_i32_55, v120, c1_i32⟩
def k0_off1 (k0_t1 : Fin k0_t1_loop.trips) (c1_i32_223 : BitVec 32) : Fin 4 → Nat :=
  let c0_224 : Index := 0#32
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let v348 : BitVec 32 := Scalar.addi v347 c1_i32_223
  let v349 : Index := Scalar.indexCast v348
  let c0_225 : Index := 0#32
  let c0_226 : Index := 0#32
  ![0, v349.toNat, 0, 0]
def k0_off2 (k0_t1 : Fin k0_t1_loop.trips) (c1_i32_223 : BitVec 32) : Fin 4 → Nat :=
  let c0_227 : Index := 0#32
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let v348 : BitVec 32 := Scalar.addi v347 c1_i32_223
  let v352 : Index := Scalar.indexCast v348
  let c0_228 : Index := 0#32
  let c0_229 : Index := 0#32
  ![0, v352.toNat, 0, 0]
def k0_off3 (k0_t1 : Fin k0_t1_loop.trips) (c1_i32_223 : BitVec 32) : Fin 4 → Nat :=
  let c0_231 : Index := 0#32
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let v348 : BitVec 32 := Scalar.addi v347 c1_i32_223
  let v356 : Index := Scalar.indexCast v348
  let c0_232 : Index := 0#32
  let c0_233 : Index := 0#32
  ![0, v356.toNat, 0, 0]
def k0_mult2 (k0_t1 : Fin k0_t1_loop.trips) : BitVec 32 :=
  let c0_i32_55 : BitVec 32 := 0#32
  let c1_i32 : BitVec 32 := 1#32
  let arg18 : BitVec 32 := Scf.iv c0_i32_55 c1_i32 k0_t1
  let c1_i32_243 : BitVec 32 := 1#32
  let v371 : BitVec 32 := Scalar.addi arg18 c1_i32_243
  let c128_i32 : BitVec 32 := 128#32
  let v372 : BitVec 32 := Scalar.muli v371 c128_i32
  v372
def k0_off4 (k0_t1 : Fin k0_t1_loop.trips) : Fin 4 → Nat :=
  let c0_244 : Index := 0#32
  let c0_i32_55 : BitVec 32 := 0#32
  let c1_i32 : BitVec 32 := 1#32
  let arg18 : BitVec 32 := Scf.iv c0_i32_55 c1_i32 k0_t1
  let c1_i32_243 : BitVec 32 := 1#32
  let v371 : BitVec 32 := Scalar.addi arg18 c1_i32_243
  let v374 : Index := Scalar.indexCast v371
  let c0_245 : Index := 0#32
  let c0_246 : Index := 0#32
  ![0, v374.toNat, 0, 0]
def k0_off5 (k0_t1 : Fin k0_t1_loop.trips) : Fin 3 → Nat :=
  let c0_247 : Index := 0#32
  let c0_i32_55 : BitVec 32 := 0#32
  let c1_i32 : BitVec 32 := 1#32
  let arg18 : BitVec 32 := Scf.iv c0_i32_55 c1_i32 k0_t1
  let c1_i32_243 : BitVec 32 := 1#32
  let v371 : BitVec 32 := Scalar.addi arg18 c1_i32_243
  let c128_i32 : BitVec 32 := 128#32
  let v372 : BitVec 32 := Scalar.muli v371 c128_i32
  let v373 : BitVec 32 := v372
  let v377 : Index := Scalar.indexCast v373
  let c0_248 : Index := 0#32
  ![0, v377.toNat, 0]
def k0_off6 (k0_t1 : Fin k0_t1_loop.trips) : Fin 4 → Nat :=
  let c0_282 : Index := 0#32
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let v481 : Index := Scalar.indexCast v347
  let c0_283 : Index := 0#32
  let c0_284 : Index := 0#32
  ![0, v481.toNat, 0, 0]
def k0_off7 (k0_t1 : Fin k0_t1_loop.trips) : Fin 4 → Nat :=
  let c0_289 : Index := 0#32
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let v491 : Index := Scalar.indexCast v347
  let c0_290 : Index := 0#32
  let c0_291 : Index := 0#32
  ![0, v491.toNat, 0, 0]
def k0_off8 (k0_t1 : Fin k0_t1_loop.trips) : Fin 4 → Nat :=
  let c0_296 : Index := 0#32
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let v502 : Index := Scalar.indexCast v347
  let c0_297 : Index := 0#32
  let c256_298 : Index := 256#32
  ![0, v502.toNat, 0, 256]
def k0_off9 (k0_t1 : Fin k0_t1_loop.trips) : Fin 4 → Nat :=
  let c0_303 : Index := 0#32
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let v513 : Index := Scalar.indexCast v347
  let c0_304 : Index := 0#32
  let c512_305 : Index := 512#32
  ![0, v513.toNat, 0, 512]
def k0_off10 (k0_t1 : Fin k0_t1_loop.trips) : Fin 4 → Nat :=
  let c0_310 : Index := 0#32
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let v524 : Index := Scalar.indexCast v347
  let c0_311 : Index := 0#32
  let c768_312 : Index := 768#32
  ![0, v524.toNat, 0, 768]
def k0_off11 (k0_t1 : Fin k0_t1_loop.trips) : Fin 4 → Nat :=
  let c0_317 : Index := 0#32
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let v535 : Index := Scalar.indexCast v347
  let c0_318 : Index := 0#32
  let c1024_319 : Index := 1024#32
  ![0, v535.toNat, 0, 1024]
def k0_off12 (k0_t1 : Fin k0_t1_loop.trips) : Fin 4 → Nat :=
  let c0_324 : Index := 0#32
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let v546 : Index := Scalar.indexCast v347
  let c0_325 : Index := 0#32
  let c1280_326 : Index := 1280#32
  ![0, v546.toNat, 0, 1280]
def k0_off13 (k0_t1 : Fin k0_t1_loop.trips) : Fin 4 → Nat :=
  let c0_331 : Index := 0#32
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let v557 : Index := Scalar.indexCast v347
  let c0_332 : Index := 0#32
  let c1536_333 : Index := 1536#32
  ![0, v557.toNat, 0, 1536]
def k0_off14 (k0_t1 : Fin k0_t1_loop.trips) : Fin 4 → Nat :=
  let c0_338 : Index := 0#32
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let v568 : Index := Scalar.indexCast v347
  let c0_339 : Index := 0#32
  let c1792_340 : Index := 1792#32
  ![0, v568.toNat, 0, 1792]
def k0_mult3 (k0_t1 : Fin k0_t1_loop.trips) : BitVec 32 :=
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let c64_i32 : BitVec 32 := 64#32
  let v573 : BitVec 32 := Scalar.muli v347 c64_i32
  v573
def k0_off15 (k0_t1 : Fin k0_t1_loop.trips) : Fin 2 → Nat :=
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let c64_i32 : BitVec 32 := 64#32
  let v573 : BitVec 32 := Scalar.muli v347 c64_i32
  let v574 : BitVec 32 := v573
  let v579 : Index := Scalar.indexCast v574
  let c0_342 : Index := 0#32
  ![v579.toNat, 0]
def k0_off16 (k0_t1 : Fin k0_t1_loop.trips) : Fin 4 → Nat :=
  let c0_367 : Index := 0#32
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let c1_i32_363 : BitVec 32 := 1#32
  let v606 : BitVec 32 := Scalar.addi v347 c1_i32_363
  let v613 : Index := Scalar.indexCast v606
  let c0_368 : Index := 0#32
  let c0_369 : Index := 0#32
  ![0, v613.toNat, 0, 0]
def k0_off17 (k0_t1 : Fin k0_t1_loop.trips) : Fin 4 → Nat :=
  let c0_374 : Index := 0#32
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let c1_i32_363 : BitVec 32 := 1#32
  let v606 : BitVec 32 := Scalar.addi v347 c1_i32_363
  let v623 : Index := Scalar.indexCast v606
  let c0_375 : Index := 0#32
  let c0_376 : Index := 0#32
  ![0, v623.toNat, 0, 0]
def k0_off18 (k0_t1 : Fin k0_t1_loop.trips) : Fin 4 → Nat :=
  let c0_381 : Index := 0#32
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let c1_i32_363 : BitVec 32 := 1#32
  let v606 : BitVec 32 := Scalar.addi v347 c1_i32_363
  let v634 : Index := Scalar.indexCast v606
  let c0_382 : Index := 0#32
  let c256_383 : Index := 256#32
  ![0, v634.toNat, 0, 256]
def k0_off19 (k0_t1 : Fin k0_t1_loop.trips) : Fin 4 → Nat :=
  let c0_388 : Index := 0#32
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let c1_i32_363 : BitVec 32 := 1#32
  let v606 : BitVec 32 := Scalar.addi v347 c1_i32_363
  let v645 : Index := Scalar.indexCast v606
  let c0_389 : Index := 0#32
  let c512_390 : Index := 512#32
  ![0, v645.toNat, 0, 512]
def k0_off20 (k0_t1 : Fin k0_t1_loop.trips) : Fin 4 → Nat :=
  let c0_395 : Index := 0#32
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let c1_i32_363 : BitVec 32 := 1#32
  let v606 : BitVec 32 := Scalar.addi v347 c1_i32_363
  let v656 : Index := Scalar.indexCast v606
  let c0_396 : Index := 0#32
  let c768_397 : Index := 768#32
  ![0, v656.toNat, 0, 768]
def k0_off21 (k0_t1 : Fin k0_t1_loop.trips) : Fin 4 → Nat :=
  let c0_402 : Index := 0#32
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let c1_i32_363 : BitVec 32 := 1#32
  let v606 : BitVec 32 := Scalar.addi v347 c1_i32_363
  let v667 : Index := Scalar.indexCast v606
  let c0_403 : Index := 0#32
  let c1024_404 : Index := 1024#32
  ![0, v667.toNat, 0, 1024]
def k0_off22 (k0_t1 : Fin k0_t1_loop.trips) : Fin 4 → Nat :=
  let c0_409 : Index := 0#32
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let c1_i32_363 : BitVec 32 := 1#32
  let v606 : BitVec 32 := Scalar.addi v347 c1_i32_363
  let v678 : Index := Scalar.indexCast v606
  let c0_410 : Index := 0#32
  let c1280_411 : Index := 1280#32
  ![0, v678.toNat, 0, 1280]
def k0_off23 (k0_t1 : Fin k0_t1_loop.trips) : Fin 4 → Nat :=
  let c0_416 : Index := 0#32
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let c1_i32_363 : BitVec 32 := 1#32
  let v606 : BitVec 32 := Scalar.addi v347 c1_i32_363
  let v689 : Index := Scalar.indexCast v606
  let c0_417 : Index := 0#32
  let c1536_418 : Index := 1536#32
  ![0, v689.toNat, 0, 1536]
def k0_off24 (k0_t1 : Fin k0_t1_loop.trips) : Fin 4 → Nat :=
  let c0_423 : Index := 0#32
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let c1_i32_363 : BitVec 32 := 1#32
  let v606 : BitVec 32 := Scalar.addi v347 c1_i32_363
  let v700 : Index := Scalar.indexCast v606
  let c0_424 : Index := 0#32
  let c1792_425 : Index := 1792#32
  ![0, v700.toNat, 0, 1792]
def k0_mult4 (k0_t1 : Fin k0_t1_loop.trips) : BitVec 32 :=
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let c1_i32_363 : BitVec 32 := 1#32
  let v606 : BitVec 32 := Scalar.addi v347 c1_i32_363
  let c64_i32_427 : BitVec 32 := 64#32
  let v705 : BitVec 32 := Scalar.muli v606 c64_i32_427
  v705
def k0_off25 (k0_t1 : Fin k0_t1_loop.trips) : Fin 2 → Nat :=
  let c2_i32 : BitVec 32 := 2#32
  let c0_i32_55 : BitVec 32 := 0#32
  let c1_i32 : BitVec 32 := 1#32
  let arg18 : BitVec 32 := Scf.iv c0_i32_55 c1_i32 k0_t1
  let v347 : BitVec 32 := Scalar.muli c2_i32 arg18
  let c1_i32_363 : BitVec 32 := 1#32
  let v606 : BitVec 32 := Scalar.addi v347 c1_i32_363
  let c64_i32_427 : BitVec 32 := 64#32
  let v705 : BitVec 32 := Scalar.muli v606 c64_i32_427
  let v706 : BitVec 32 := v705
  let v711 : Index := Scalar.indexCast v706
  let c0_428 : Index := 0#32
  ![v711.toNat, 0]
def k0_mult5 : BitVec 32 :=
  let c384_i32 : BitVec 32 := 384#32
  c384_i32
def k0_mult6 : BitVec 32 :=
  let c448_i32 : BitVec 32 := 448#32
  c448_i32
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x80x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x80x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S8x2048x8x64 : Shape := ⟨4, ![8, 2048, 8, 64]⟩
abbrev S8x2048x8x32 : Shape := ⟨4, ![8, 2048, 8, 32]⟩
abbrev S8x256x8x64 : Shape := ⟨4, ![8, 256, 8, 64]⟩
abbrev S8x256x32 : Shape := ⟨3, ![8, 256, 32]⟩
abbrev S8x2048x32 : Shape := ⟨3, ![8, 2048, 32]⟩
abbrev S8x2048x512 : Shape := ⟨3, ![8, 2048, 512]⟩
abbrev S8x4x2048x128 : Shape := ⟨4, ![8, 4, 2048, 128]⟩
abbrev S512 : Shape := ⟨1, ![512]⟩
abbrev S8x2304x8x64 : Shape := ⟨4, ![8, 2304, 8, 64]⟩
abbrev S8x2304x32 : Shape := ⟨3, ![8, 2304, 32]⟩
abbrev S8x8x2048x2304 : Shape := ⟨4, ![8, 8, 2048, 2304]⟩
abbrev S8x2304x2048x8 : Shape := ⟨4, ![8, 2304, 2048, 8]⟩
abbrev S_ : Shape := ⟨0, ![]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S1x1x512 : Shape := ⟨3, ![1, 1, 512]⟩

abbrev nBuf : Space → Nat
  | .hbm => 106
  | .vmem => 0
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x32, .f32⟩
  | .hbm, ⟨2, _⟩ => ⟨S8x256x8x64, .f32⟩
  | .hbm, ⟨3, _⟩ => ⟨S8x256x32, .f32⟩
  | .hbm, ⟨4, _⟩ => ⟨S8x256x8x64, .f32⟩
  | .hbm, ⟨5, _⟩ => ⟨S8x2048x8x64, .f32⟩
  | .hbm, ⟨6, _⟩ => ⟨S8x2048x32, .f32⟩
  | .hbm, ⟨7, _⟩ => ⟨S8x2048x8x64, .f32⟩
  | .hbm, ⟨8, _⟩ => ⟨S8x2048x512, .f32⟩
  | .hbm, ⟨9, _⟩ => ⟨S8x4x2048x128, .f32⟩
  | .hbm, ⟨10, _⟩ => ⟨S8x2048x512, .f32⟩
  | .hbm, ⟨11, _⟩ => ⟨S8x2048x512, .f32⟩
  | .hbm, ⟨12, _⟩ => ⟨S8x2048x512, .f32⟩
  | .hbm, ⟨13, _⟩ => ⟨S512, .f32⟩
  | .hbm, ⟨14, _⟩ => ⟨S512, .f32⟩
  | .hbm, ⟨15, _⟩ => ⟨S8x2304x8x64, .f32⟩
  | .hbm, ⟨16, _⟩ => ⟨S8x2304x32, .f32⟩
  | .hbm, ⟨17, _⟩ => ⟨S8x2304x8x64, .f32⟩
  | .hbm, ⟨18, _⟩ => ⟨S8x8x2048x2304, .f32⟩
  | .hbm, ⟨19, _⟩ => ⟨S8x2304x2048x8, .f32⟩
  | .hbm, ⟨20, _⟩ => ⟨S8x8x2048x2304, .f32⟩
  | .hbm, ⟨21, _⟩ => ⟨S8x8x2048x2304, .f32⟩
  | .hbm, ⟨22, _⟩ => ⟨S_, .f32⟩
  | .hbm, ⟨23, _⟩ => ⟨S_, .f32⟩
  | .hbm, ⟨24, _⟩ => ⟨S8x8x2048x2304, .f32⟩
  | .hbm, ⟨25, _⟩ => ⟨S8x8x2048x2304, .f32⟩
  | .hbm, ⟨26, _⟩ => ⟨S_, .f32⟩
  | .hbm, ⟨27, _⟩ => ⟨S8x8x2048, .f32⟩
  | .hbm, ⟨28, _⟩ => ⟨S_, .f32⟩
  | .hbm, ⟨29, _⟩ => ⟨S8x8x2048, .f32⟩
  | .hbm, ⟨30, _⟩ => ⟨S8x8x2048, .f32⟩
  | .hbm, ⟨31, _⟩ => ⟨S8x8x2048x1, .f32⟩
  | .hbm, ⟨32, _⟩ => ⟨S8x8x2048x2304, .f32⟩
  | .hbm, ⟨33, _⟩ => ⟨S8x8x2048x2304, .f32⟩
  | .hbm, ⟨34, _⟩ => ⟨S8x8x2048x2304, .f32⟩
  | .hbm, ⟨35, _⟩ => ⟨S_, .f32⟩
  | .hbm, ⟨36, _⟩ => ⟨S8x8x2048, .f32⟩
  | .hbm, ⟨37, _⟩ => ⟨S8x8x2048x1, .f32⟩
  | .hbm, ⟨38, _⟩ => ⟨S8x8x2048x2304, .f32⟩
  | .hbm, ⟨39, _⟩ => ⟨S8x8x2048x2304, .f32⟩
  | .hbm, ⟨40, _⟩ => ⟨S8x8x64x2048, .f32⟩
  | .hbm, ⟨41, _⟩ => ⟨S8x2048x8x64, .f32⟩
  | .hbm, ⟨42, _⟩ => ⟨S8x2048x512, .f32⟩
  | .hbm, ⟨43, _⟩ => ⟨S8x2048x512, .f32⟩
  | .hbm, ⟨44, _⟩ => ⟨S8x2048x512, .f32⟩
  | .hbm, ⟨45, _⟩ => ⟨S_, .f32⟩
  | .hbm, ⟨46, _⟩ => ⟨S8x2048x512, .f32⟩
  | .hbm, ⟨47, _⟩ => ⟨S8x2048x512, .f32⟩
  | .hbm, ⟨48, _⟩ => ⟨S_, .f32⟩
  | .hbm, ⟨49, _⟩ => ⟨S8x2048x512, .f32⟩
  | .hbm, ⟨50, _⟩ => ⟨S8x2048x512, .f32⟩
  | .hbm, ⟨51, _⟩ => ⟨S8x2048x4x128, .f32⟩
  | .hbm, ⟨52, _⟩ => ⟨S8x2048x512, .f32⟩
  | .hbm, ⟨53, _⟩ => ⟨S8x2048x512, .f32⟩
  | .hbm, ⟨54, _⟩ => ⟨S8x2048x4x128, .f32⟩
  | .hbm, ⟨55, _⟩ => ⟨S_, .f32⟩
  | .hbm, ⟨56, _⟩ => ⟨S8x2048x4, .f32⟩
  | .hbm, ⟨57, _⟩ => ⟨S8x2048x4x1, .f32⟩
  | .hbm, ⟨58, _⟩ => ⟨S_, .f32⟩
  | .hbm, ⟨59, _⟩ => ⟨S8x2048x4x1, .f32⟩
  | .hbm, ⟨60, _⟩ => ⟨S8x2048x4x1, .f32⟩
  | .hbm, ⟨61, _⟩ => ⟨S8x2048x4x128, .f32⟩
  | .hbm, ⟨62, _⟩ => ⟨S8x2048x4x128, .f32⟩
  | .hbm, ⟨63, _⟩ => ⟨S8x2048x4x128, .f32⟩
  | .hbm, ⟨64, _⟩ => ⟨S_, .f32⟩
  | .hbm, ⟨65, _⟩ => ⟨S8x2048x4, .f32⟩
  | .hbm, ⟨66, _⟩ => ⟨S8x2048x4x1, .f32⟩
  | .hbm, ⟨67, _⟩ => ⟨S_, .f32⟩
  | .hbm, ⟨68, _⟩ => ⟨S8x2048x4x1, .f32⟩
  | .hbm, ⟨69, _⟩ => ⟨S8x2048x4x1, .f32⟩
  | .hbm, ⟨70, _⟩ => ⟨S_, .f32⟩
  | .hbm, ⟨71, _⟩ => ⟨S8x2048x4x1, .f32⟩
  | .hbm, ⟨72, _⟩ => ⟨S8x2048x4x1, .f32⟩
  | .hbm, ⟨73, _⟩ => ⟨S8x2048x4x1, .f32⟩
  | .hbm, ⟨74, _⟩ => ⟨S8x2048x4x128, .f32⟩
  | .hbm, ⟨75, _⟩ => ⟨S8x2048x4x128, .f32⟩
  | .hbm, ⟨76, _⟩ => ⟨S8x2048x512, .f32⟩
  | .hbm, ⟨77, _⟩ => ⟨S1x1x512, .f32⟩
  | .hbm, ⟨78, _⟩ => ⟨S8x2048x512, .f32⟩
  | .hbm, ⟨79, _⟩ => ⟨S8x2048x512, .f32⟩
  | .hbm, ⟨80, _⟩ => ⟨S1x1x512, .f32⟩
  | .hbm, ⟨81, _⟩ => ⟨S8x2048x512, .f32⟩
  | .hbm, ⟨82, _⟩ => ⟨S8x2048x512, .f32⟩
  | .hbm, ⟨83, _⟩ => ⟨S8x2048x512, .f32⟩
  | .hbm, ⟨84, _⟩ => ⟨S8x2048x512, .f32⟩
  | .hbm, ⟨85, _⟩ => ⟨S8x2048x512, .f32⟩
  | .hbm, ⟨86, _⟩ => ⟨S_, .f32⟩
  | .hbm, ⟨87, _⟩ => ⟨S8x2048x512, .f32⟩
  | .hbm, ⟨88, _⟩ => ⟨S8x2048x512, .f32⟩
  | .hbm, ⟨89, _⟩ => ⟨S_, .f32⟩
  | .hbm, ⟨90, _⟩ => ⟨S8x2048x512, .f32⟩
  | .hbm, ⟨91, _⟩ => ⟨S8x2048x512, .f32⟩
  | .hbm, ⟨92, _⟩ => ⟨S8x2048x512, .f32⟩
  | .hbm, ⟨93, _⟩ => ⟨S8x2048x512, .f32⟩
  | .hbm, ⟨94, _⟩ => ⟨S8x2048x512, .f32⟩
  | .hbm, ⟨95, _⟩ => ⟨S8x2048x512, .f32⟩
  | .hbm, ⟨96, _⟩ => ⟨S_, .f32⟩
  | .hbm, ⟨97, _⟩ => ⟨S8x2048x512, .f32⟩
  | .hbm, ⟨98, _⟩ => ⟨S8x2048x512, .f32⟩
  | .hbm, ⟨99, _⟩ => ⟨S_, .f32⟩
  | .hbm, ⟨100, _⟩ => ⟨S8x2048x512, .f32⟩
  | .hbm, ⟨101, _⟩ => ⟨S8x2048x512, .f32⟩
  | .hbm, ⟨102, _⟩ => ⟨S8x2048x512, .f32⟩
  | .hbm, ⟨103, _⟩ => ⟨S8x2048x512, .f32⟩
  | .hbm, ⟨104, _⟩ => ⟨S8x2048x512, .bf16⟩
  | .hbm, ⟨105, _⟩ => ⟨S8x2048x512, .bf16⟩
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call0_v0 : Ref sig .tc := ⟨.hbm, 84, rfl⟩
abbrev main_call0_v1 : Ref sig .tc := ⟨.hbm, 85, rfl⟩
abbrev main_call0_cst : Ref sig .tc := ⟨.hbm, 86, rfl⟩
abbrev main_call0_v2 : Ref sig .tc := ⟨.hbm, 87, rfl⟩
abbrev main_call0_v3 : Ref sig .tc := ⟨.hbm, 88, rfl⟩
abbrev main_call0_cst_0 : Ref sig .tc := ⟨.hbm, 89, rfl⟩
abbrev main_call0_v4 : Ref sig .tc := ⟨.hbm, 90, rfl⟩
abbrev main_call0_v5 : Ref sig .tc := ⟨.hbm, 91, rfl⟩
abbrev main_v58 : Ref sig .tc := ⟨.hbm, 92, rfl⟩
abbrev main_v59 : Ref sig .tc := ⟨.hbm, 93, rfl⟩
abbrev main_call1_v0 : Ref sig .tc := ⟨.hbm, 94, rfl⟩
abbrev main_call1_v1 : Ref sig .tc := ⟨.hbm, 95, rfl⟩
abbrev main_call1_cst : Ref sig .tc := ⟨.hbm, 96, rfl⟩
abbrev main_call1_v2 : Ref sig .tc := ⟨.hbm, 97, rfl⟩
abbrev main_call1_v3 : Ref sig .tc := ⟨.hbm, 98, rfl⟩
abbrev main_call1_cst_0 : Ref sig .tc := ⟨.hbm, 99, rfl⟩
abbrev main_call1_v4 : Ref sig .tc := ⟨.hbm, 100, rfl⟩
abbrev main_call1_v5 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩

abbrev nD : Nat := 1
abbrev τ : Topo := Topo.v7x

variable {F : FTy → Type} [FloatOps F]
-- ==== Kernel2.lean ====
abbrev S8x2048x1024 : Shape := ⟨3, ![8, 2048, 1024]⟩
abbrev S9x1x3072 : Shape := ⟨3, ![9, 1, 3072]⟩
abbrev S1024 : Shape := ⟨1, ![1024]⟩
abbrev S1024x2464 : Shape := ⟨2, ![1024, 2464]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S2048x2x8 : Shape := ⟨3, ![2048, 2, 8]⟩
abbrev S1024x32 : Shape := ⟨2, ![1024, 32]⟩
abbrev S1024x384 : Shape := ⟨2, ![1024, 384]⟩
abbrev S_ : Shape := ⟨0, ![]⟩
abbrev S1024x64 : Shape := ⟨2, ![1024, 64]⟩
abbrev S1024x8 : Shape := ⟨2, ![1024, 8]⟩
abbrev S1024x512 : Shape := ⟨2, ![1024, 512]⟩
abbrev S1024x2048 : Shape := ⟨2, ![1024, 2048]⟩
abbrev S256x8x96 : Shape := ⟨3, ![256, 8, 96]⟩
abbrev S256x8x64 : Shape := ⟨3, ![256, 8, 64]⟩
abbrev S256x8x32 : Shape := ⟨3, ![256, 8, 32]⟩
abbrev S256x8x8 : Shape := ⟨3, ![256, 8, 8]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S8x64x128 : Shape := ⟨3, ![8, 64, 128]⟩
abbrev S512x128 : Shape := ⟨2, ![512, 128]⟩
abbrev S1x1024 : Shape := ⟨2, ![1, 1024]⟩
abbrev S1x256 : Shape := ⟨2, ![1, 256]⟩
abbrev S1x128 : Shape := ⟨2, ![1, 128]⟩
abbrev S2048x64 : Shape := ⟨2, ![2048, 64]⟩
abbrev S2048x32 : Shape := ⟨2, ![2048, 32]⟩
abbrev S2048x2x1x8 : Shape := ⟨4, ![2048, 2, 1, 8]⟩
abbrev S2048x2x2x8 : Shape := ⟨4, ![2048, 2, 2, 8]⟩
abbrev S2048x128 : Shape := ⟨2, ![2048, 128]⟩
abbrev S8x8x2048x128 : Shape := ⟨4, ![8, 8, 2048, 128]⟩
abbrev S8x8x80x2048 : Shape := ⟨4, ![8, 8, 80, 2048]⟩
abbrev S8x2048x512 : Shape := ⟨3, ![8, 2048, 512]⟩
abbrev S1x1024x1024 : Shape := ⟨3, ![1, 1024, 1024]⟩
abbrev S1x1x3072 : Shape := ⟨3, ![1, 1, 3072]⟩
abbrev S1024x128 : Shape := ⟨2, ![1024, 128]⟩
abbrev S1x8x1024x128 : Shape := ⟨4, ![1, 8, 1024, 128]⟩
abbrev S1x8x80x1024 : Shape := ⟨4, ![1, 8, 80, 1024]⟩
abbrev S1x1024x512 : Shape := ⟨3, ![1, 1024, 512]⟩
abbrev S1x3072 : Shape := ⟨2, ![1, 3072]⟩
abbrev S16x256 : Shape := ⟨2, ![16, 256]⟩
abbrev S1x256x1024 : Shape := ⟨3, ![1, 256, 1024]⟩
abbrev S256x1 : Shape := ⟨2, ![256, 1]⟩
abbrev S256x512 : Shape := ⟨2, ![256, 512]⟩
abbrev S256x128 : Shape := ⟨2, ![256, 128]⟩
abbrev S1x256x512 : Shape := ⟨3, ![1, 256, 512]⟩
abbrev S1x1x256x128 : Shape := ⟨4, ![1, 1, 256, 128]⟩
abbrev S512x256 : Shape := ⟨2, ![512, 256]⟩
abbrev S64x256 : Shape := ⟨2, ![64, 256]⟩
abbrev S1x1x64x256 : Shape := ⟨4, ![1, 1, 64, 256]⟩
abbrev S1x1x16x256 : Shape := ⟨4, ![1, 1, 16, 256]⟩
abbrev S256x256 : Shape := ⟨2, ![256, 256]⟩

abbrev nBuf : Space → Nat
  | .hbm => 95
  | .vmem => 37
  | .smem => 0
  | _ => 0

abbrev bufTy : (tb : Table) → Fin (tcTables nBuf tb) → BufTy
  | .hbm, ⟨0, _⟩ => ⟨S8x2048x1024, .f32⟩
  | .hbm, ⟨1, _⟩ => ⟨S9x1x3072, .f32⟩
  | .hbm, ⟨2, _⟩ => ⟨S1024, .f32⟩
  | .hbm, ⟨3, _⟩ => ⟨S1024, .f32⟩
  | .hbm, ⟨4, _⟩ => ⟨S1024x2464, .f32⟩
  | .hbm, ⟨5, _⟩ => ⟨S256, .f32⟩
  | .hbm, ⟨6, _⟩ => ⟨S256x768, .f32⟩
  | .hbm, ⟨7, _⟩ => ⟨S128, .f32⟩
  | .hbm, ⟨8, _⟩ => ⟨S128x1024, .f32⟩
  | .hbm, ⟨9, _⟩ => ⟨S2048x2x8, .f32⟩
  | .hbm, ⟨10, _⟩ => ⟨S2048x2x8, .f32⟩
  | .hbm, ⟨11, _⟩ => ⟨S1024x32, .f32⟩
  | .hbm, ⟨12, _⟩ => ⟨S1024x384, .f32⟩
  | .hbm, ⟨13, _⟩ => ⟨S_, .f32⟩
  | .hbm, ⟨14, _⟩ => ⟨S1024x64, .f32⟩
  | .hbm, ⟨15, _⟩ => ⟨S1024x8, .f32⟩
  | .hbm, ⟨16, _⟩ => ⟨S1024x8, .f32⟩
  | .hbm, ⟨17, _⟩ => ⟨S1024x8, .f32⟩
  | .hbm, ⟨18, _⟩ => ⟨S1024x8, .f32⟩
  | .hbm, ⟨19, _⟩ => ⟨S1024x8, .f32⟩
  | .hbm, ⟨20, _⟩ => ⟨S1024x8, .f32⟩
  | .hbm, ⟨21, _⟩ => ⟨S1024x32, .f32⟩
  | .hbm, ⟨22, _⟩ => ⟨S1024x512, .f32⟩
  | .hbm, ⟨23, _⟩ => ⟨S1024x512, .bf16⟩
  | .hbm, ⟨24, _⟩ => ⟨S1024x2048, .f32⟩
  | .hbm, ⟨25, _⟩ => ⟨S1024x2048, .bf16⟩
  | .hbm, ⟨26, _⟩ => ⟨S256x8x96, .f32⟩
  | .hbm, ⟨27, _⟩ => ⟨S256x8x64, .f32⟩
  | .hbm, ⟨28, _⟩ => ⟨S256x8x32, .f32⟩
  | .hbm, ⟨29, _⟩ => ⟨S256x8x8, .f32⟩
  | .hbm, ⟨30, _⟩ => ⟨S256x8x8, .f32⟩
  | .hbm, ⟨31, _⟩ => ⟨S256x8x8, .f32⟩
  | .hbm, ⟨32, _⟩ => ⟨S256x8x8, .f32⟩
  | .hbm, ⟨33, _⟩ => ⟨S256x8x8, .f32⟩
  | .hbm, ⟨34, _⟩ => ⟨S256x8x8, .f32⟩
  | .hbm, ⟨35, _⟩ => ⟨S256x8x32, .f32⟩
  | .hbm, ⟨36, _⟩ => ⟨S256x8x32, .f32⟩
  | .hbm, ⟨37, _⟩ => ⟨S256x8x128, .f32⟩
  | .hbm, ⟨38, _⟩ => ⟨S256x1024, .f32⟩
  | .hbm, ⟨39, _⟩ => ⟨S256x1024, .bf16⟩
  | .hbm, ⟨40, _⟩ => ⟨S128x8x128, .f32⟩
  | .hbm, ⟨41, _⟩ => ⟨S128x8x64, .f32⟩
  | .hbm, ⟨42, _⟩ => ⟨S_, .f32⟩
  | .hbm, ⟨43, _⟩ => ⟨S128x8x64, .f32⟩
  | .hbm, ⟨44, _⟩ => ⟨S128x8x128, .f32⟩
  | .hbm, ⟨45, _⟩ => ⟨S128x1024, .f32⟩
  | .hbm, ⟨46, _⟩ => ⟨S128x1024, .bf16⟩
  | .hbm, ⟨47, _⟩ => ⟨S128x8x64, .f32⟩
  | .hbm, ⟨48, _⟩ => ⟨S8x64x128, .f32⟩
  | .hbm, ⟨49, _⟩ => ⟨S512x128, .f32⟩
  | .hbm, ⟨50, _⟩ => ⟨S512x128, .bf16⟩
  | .hbm, ⟨51, _⟩ => ⟨S1x1024, .f32⟩
  | .hbm, ⟨52, _⟩ => ⟨S1x1024, .f32⟩
  | .hbm, ⟨53, _⟩ => ⟨S1x256, .f32⟩
  | .hbm, ⟨54, _⟩ => ⟨S1x128, .f32⟩
  | .hbm, ⟨55, _⟩ => ⟨S_, .f32⟩
  | .hbm, ⟨56, _⟩ => ⟨S2048x64, .f32⟩
  | .hbm, ⟨57, _⟩ => ⟨S_, .f32⟩
  | .hbm, ⟨58, _⟩ => ⟨S2048x32, .f32⟩
  | .hbm, ⟨59, _⟩ => ⟨S2048x2x1x8, .f32⟩
  | .hbm, ⟨60, _⟩ => ⟨S2048x2x2x8, .f32⟩
  | .hbm, ⟨61, _⟩ => ⟨S2048x32, .f32⟩
  | .hbm, ⟨62, _⟩ => ⟨S2048x128, .f32⟩
  | .hbm, ⟨63, _⟩ => ⟨S_, .f32⟩
  | .hbm, ⟨64, _⟩ => ⟨S2048x64, .f32⟩
  | .hbm, ⟨65, _⟩ => ⟨S_, .f32⟩
  | .hbm, ⟨66, _⟩ => ⟨S2048x32, .f32⟩
  | .hbm, ⟨67, _⟩ => ⟨S2048x2x1x8, .f32⟩
  | .hbm, ⟨68, _⟩ => ⟨S2048x2x2x8, .f32⟩
  | .hbm, ⟨69, _⟩ => ⟨S2048x32, .f32⟩
  | .hbm, ⟨70, _⟩ => ⟨S2048x128, .f32⟩
  | .hbm, ⟨71, _⟩ => ⟨S_, .f32⟩
  | .hbm, ⟨72, _⟩ => ⟨S2048x64, .f32⟩
  | .hbm, ⟨73, _⟩ => ⟨S_, .f32⟩
  | .hbm, ⟨74, _⟩ => ⟨S2048x32, .f32⟩
  | .hbm, ⟨75, _⟩ => ⟨S2048x2x1x8, .f32⟩
  | .hbm, ⟨76, _⟩ => ⟨S2048x2x2x8, .f32⟩
  | .hbm, ⟨77, _⟩ => ⟨S2048x32, .f32⟩
  | .hbm, ⟨78, _⟩ => ⟨S2048x128, .f32⟩
  | .hbm, ⟨79, _⟩ => ⟨S_, .f32⟩
  | .hbm, ⟨80, _⟩ => ⟨S2048x64, .f32⟩
  | .hbm, ⟨81, _⟩ => ⟨S_, .f32⟩
  | .hbm, ⟨82, _⟩ => ⟨S2048x32, .f32⟩
  | .hbm, ⟨83, _⟩ => ⟨S2048x2x1x8, .f32⟩
  | .hbm, ⟨84, _⟩ => ⟨S2048x2x2x8, .f32⟩
  | .hbm, ⟨85, _⟩ => ⟨S2048x32, .f32⟩
  | .hbm, ⟨86, _⟩ => ⟨S2048x128, .f32⟩
  | .hbm, ⟨87, _⟩ => ⟨S8x8x2048x128, .bf16⟩
  | .hbm, ⟨88, _⟩ => ⟨S8x8x2048x128, .bf16⟩
  | .hbm, ⟨89, _⟩ => ⟨S8x8x80x2048, .bf16⟩
  | .hbm, ⟨90, _⟩ => ⟨S8x2048x512, .bf16⟩
  | .hbm, ⟨91, _⟩ => ⟨S8x2048x512, .bf16⟩
  | .hbm, ⟨92, _⟩ => ⟨S8x2048x512, .bf16⟩
  | .hbm, ⟨93, _⟩ => ⟨S8x2048x512, .bf16⟩
  | .hbm, ⟨94, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1x1024, .f32⟩
  | .local _ .vmem, ⟨6, _⟩ => ⟨S1024x512, .bf16⟩
  | .local _ .vmem, ⟨7, _⟩ => ⟨S1024x2048, .bf16⟩
  | .local _ .vmem, ⟨8, _⟩ => ⟨S1x256, .f32⟩
  | .local _ .vmem, ⟨9, _⟩ => ⟨S256x1024, .bf16⟩
  | .local _ .vmem, ⟨10, _⟩ => ⟨S1x128, .f32⟩
  | .local _ .vmem, ⟨11, _⟩ => ⟨S128x1024, .bf16⟩
  | .local _ .vmem, ⟨12, _⟩ => ⟨S512x128, .bf16⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1x8x1024x128, .bf16⟩
  | .local _ .vmem, ⟨22, _⟩ => ⟨S1x8x1024x128, .bf16⟩
  | .local _ .vmem, ⟨23, _⟩ => ⟨S1x8x1024x128, .bf16⟩
  | .local _ .vmem, ⟨24, _⟩ => ⟨S1x8x1024x128, .bf16⟩
  | .local _ .vmem, ⟨25, _⟩ => ⟨S1x8x80x1024, .bf16⟩
  | .local _ .vmem, ⟨26, _⟩ => ⟨S1x8x80x1024, .bf16⟩
  | .local _ .vmem, ⟨27, _⟩ => ⟨S1x1024x512, .bf16⟩
  | .local _ .vmem, ⟨28, _⟩ => ⟨S1x1024x512, .bf16⟩
  | .local _ .vmem, ⟨29, _⟩ => ⟨S1x1024x512, .bf16⟩
  | .local _ .vmem, ⟨30, _⟩ => ⟨S1x1024x512, .bf16⟩
  | .local _ .vmem, ⟨31, _⟩ => ⟨S1x1024x512, .bf16⟩
  | .local _ .vmem, ⟨32, _⟩ => ⟨S1x1024x512, .bf16⟩
  | .local _ .vmem, ⟨33, _⟩ => ⟨S1x1024x512, .bf16⟩
  | .local _ .vmem, ⟨34, _⟩ => ⟨S1x1024x512, .bf16⟩
  | .local _ .vmem, ⟨35, _⟩ => ⟨S1x1024x1024, .f32⟩
  | .local _ .vmem, ⟨36, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_1 : Ref sig .tc := ⟨.hbm, 55, rfl⟩
abbrev main_v42 : Ref sig .tc := ⟨.hbm, 56, rfl⟩
abbrev main_cst_2 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_3 : Ref sig .tc := ⟨.hbm, 63, rfl⟩
abbrev main_v48 : Ref sig .tc := ⟨.hbm, 64, rfl⟩
abbrev main_cst_4 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_5 : Ref sig .tc := ⟨.hbm, 71, rfl⟩
abbrev main_v54 : Ref sig .tc := ⟨.hbm, 72, rfl⟩
abbrev main_cst_6 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_7 : Ref sig .tc := ⟨.hbm, 79, rfl⟩
abbrev main_v60 : Ref sig .tc := ⟨.hbm, 80, rfl⟩
abbrev main_cst_8 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66_0 : Ref sig .tc := ⟨.hbm, 87, rfl⟩
abbrev main_v66_1 : Ref sig .tc := ⟨.hbm, 88, rfl⟩
abbrev main_v66_2 : Ref sig .tc := ⟨.hbm, 89, rfl⟩
abbrev main_v66_3 : Ref sig .tc := ⟨.hbm, 90, rfl⟩
abbrev main_v66_4 : Ref sig .tc := ⟨.hbm, 91, rfl⟩
abbrev main_v66_5 : Ref sig .tc := ⟨.hbm, 92, rfl⟩
abbrev main_v66_6 : Ref sig .tc := ⟨.hbm, 93, rfl⟩
abbrev main_v66_7 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x8x1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x1024x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x80x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1024x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x1024x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== Reference2Ideal.lean ====
abbrev S8x2048x1024 : Shape := ⟨3, ![8, 2048, 1024]⟩
abbrev S9x1x3072 : Shape := ⟨3, ![9, 1, 3072]⟩
abbrev S1024 : Shape := ⟨1, ![1024]⟩
abbrev S1024x2464 : Shape := ⟨2, ![1024, 2464]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S2048x2x8 : Shape := ⟨3, ![2048, 2, 8]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x2464 : Shape := ⟨3, ![8, 2048, 2464]⟩
abbrev S8x2048x256 : Shape := ⟨3, ![8, 2048, 256]⟩
abbrev S8x2048x128 : Shape := ⟨3, ![8, 2048, 128]⟩
abbrev S8x2048x32 : Shape := ⟨3, ![8, 2048, 32]⟩
abbrev S8x2048x512 : Shape := ⟨3, ![8, 2048, 512]⟩
abbrev S1x1x256 : Shape := ⟨3, ![1, 1, 256]⟩
abbrev S8x2048x768 : Shape := ⟨3, ![8, 2048, 768]⟩
abbrev S8x2048x8x96 : Shape := ⟨4, ![8, 2048, 8, 96]⟩
abbrev S1x1x128 : Shape := ⟨3, ![1, 1, 128]⟩
abbrev S8x2048x8x128 : Shape := ⟨4, ![8, 2048, 8, 128]⟩
abbrev S8x2048x8x32 : Shape := ⟨4, ![8, 2048, 8, 32]⟩
abbrev S2048x1x2x8 : Shape := ⟨4, ![2048, 1, 2, 8]⟩
abbrev S8x2048x8x2x2x8 : Shape := ⟨6, ![8, 2048, 8, 2, 2, 8]⟩
abbrev S8x2048x8x2x1x8 : Shape := ⟨6, ![8, 2048, 8, 2, 1, 8]⟩
abbrev S8x2048x8x2x8 : Shape := ⟨5, ![8, 2048, 8, 2, 8]⟩
abbrev S1x2048x1x2x8 : Shape := ⟨5, ![1, 2048, 1, 2, 8]⟩
abbrev S8x2048x2x2x8 : Shape := ⟨5, ![8, 2048, 2, 2, 8]⟩
abbrev S8x2048x2x1x8 : Shape := ⟨5, ![8, 2048, 2, 1, 8]⟩
abbrev S8x2048x2x8 : Shape := ⟨4, ![8, 2048, 2, 8]⟩
abbrev S1x2048x2x8 : Shape := ⟨4, ![1, 2048, 2, 8]⟩
abbrev S8x2048x1x32 : Shape := ⟨4, ![8, 2048, 1, 32]⟩
abbrev S8x2048x8x64 : Shape := ⟨4, ![8, 2048, 8, 64]⟩
abbrev S8x8x2048x128 : Shape := ⟨4, ![8, 8, 2048, 128]⟩
abbrev S8x8x64x2048 : Shape := ⟨4, ![8, 8, 64, 2048]⟩
abbrev S8x8x1x2048 : Shape := ⟨4, ![8, 8, 1, 2048]⟩
abbrev S8x8x15x2048 : Shape := ⟨4, ![8, 8, 15, 2048]⟩
abbrev S8x8x80x2048 : Shape := ⟨4, ![8, 8, 80, 2048]⟩

abbrev nBuf : Space → Nat
  | .hbm => 190
  | .vmem => 0
  | .smem => 0
  | _ => 0

abbrev hbmTy0_0 (i : Nat) : BufTy := match i % 128 with
  | 0 => ⟨S8x2048x1024, .f32⟩
  | 1 => ⟨S9x1x3072, .f32⟩
  | 2 => ⟨S1024, .f32⟩
  | 3 => ⟨S1024, .f32⟩
  | 4 => ⟨S1024x2464, .f32⟩
  | 5 => ⟨S256, .f32⟩
  | 6 => ⟨S256x768, .f32⟩
  | 7 => ⟨S128, .f32⟩
  | 8 => ⟨S128x1024, .f32⟩
  | 9 => ⟨S2048x2x8, .f32⟩
  | 10 => ⟨S2048x2x8, .f32⟩
  | 11 => ⟨S_, .f32⟩
  | 12 => ⟨S8x2048, .f32⟩
  | 13 => ⟨S8x2048x1, .f32⟩
  | 14 => ⟨S_, .f32⟩
  | 15 => ⟨S8x2048x1, .f32⟩
  | 16 => ⟨S8x2048x1, .f32⟩
  | 17 => ⟨S8x2048x1024, .f32⟩
  | 18 => ⟨S8x2048x1024, .f32⟩
  | 19 => ⟨S8x2048x1024, .f32⟩
  | 20 => ⟨S_, .f32⟩
  | 21 => ⟨S8x2048, .f32⟩
  | 22 => ⟨S8x2048x1, .f32⟩
  | 23 => ⟨S_, .f32⟩
  | 24 => ⟨S8x2048x1, .f32⟩
  | 25 => ⟨S8x2048x1, .f32⟩
  | 26 => ⟨S_, .f32⟩
  | 27 => ⟨S8x2048x1, .f32⟩
  | 28 => ⟨S8x2048x1, .f32⟩
  | 29 => ⟨S8x2048x1, .f32⟩
  | 30 => ⟨S8x2048x1024, .f32⟩
  | 31 => ⟨S8x2048x1024, .f32⟩
  | 32 => ⟨S1x1x1024, .f32⟩
  | 33 => ⟨S8x2048x1024, .f32⟩
  | 34 => ⟨S8x2048x1024, .f32⟩
  | 35 => ⟨S1x1x1024, .f32⟩
  | 36 => ⟨S8x2048x1024, .f32⟩
  | 37 => ⟨S8x2048x1024, .f32⟩
  | 38 => ⟨S8x1x1024, .f32⟩
  | 39 => ⟨S8x1x1024, .f32⟩
  | 40 => ⟨S_, .f32⟩
  | 41 => ⟨S8x1x1024, .f32⟩
  | 42 => ⟨S8x1x1024, .f32⟩
  | 43 => ⟨S8x2048x1024, .f32⟩
  | 44 => ⟨S8x2048x1024, .f32⟩
  | 45 => ⟨S8x2048x1024, .f32⟩
  | 46 => ⟨S8x2048x1024, .f32⟩
  | 47 => ⟨S8x2048x2464, .f32⟩
  | 48 => ⟨S8x2048x256, .f32⟩
  | 49 => ⟨S8x2048x128, .f32⟩
  | 50 => ⟨S8x2048x32, .f32⟩
  | 51 => ⟨S8x2048x512, .f32⟩
  | 52 => ⟨S8x2048x512, .f32⟩
  | 53 => ⟨S8x2048x512, .f32⟩
  | 54 => ⟨S8x2048x512, .f32⟩
  | 55 => ⟨S8x2048x256, .f32⟩
  | 56 => ⟨S_, .f32⟩
  | 57 => ⟨S8x2048, .f32⟩
  | 58 => ⟨S8x2048x1, .f32⟩
  | 59 => ⟨S_, .f32⟩
  | 60 => ⟨S8x2048x1, .f32⟩
  | 61 => ⟨S8x2048x1, .f32⟩
  | 62 => ⟨S_, .f32⟩
  | 63 => ⟨S8x2048x1, .f32⟩
  | 64 => ⟨S8x2048x1, .f32⟩
  | 65 => ⟨S8x2048x1, .f32⟩
  | 66 => ⟨S8x2048x256, .f32⟩
  | 67 => ⟨S8x2048x256, .f32⟩
  | 68 => ⟨S1x1x256, .f32⟩
  | 69 => ⟨S8x2048x256, .f32⟩
  | 70 => ⟨S8x2048x256, .f32⟩
  | 71 => ⟨S8x2048x768, .f32⟩
  | 72 => ⟨S8x2048x8x96, .f32⟩
  | 73 => ⟨S8x2048x128, .f32⟩
  | 74 => ⟨S_, .f32⟩
  | 75 => ⟨S8x2048, .f32⟩
  | 76 => ⟨S8x2048x1, .f32⟩
  | 77 => ⟨S_, .f32⟩
  | 78 => ⟨S8x2048x1, .f32⟩
  | 79 => ⟨S8x2048x1, .f32⟩
  | 80 => ⟨S_, .f32⟩
  | 81 => ⟨S8x2048x1, .f32⟩
  | 82 => ⟨S8x2048x1, .f32⟩
  | 83 => ⟨S8x2048x1, .f32⟩
  | 84 => ⟨S8x2048x128, .f32⟩
  | 85 => ⟨S8x2048x128, .f32⟩
  | 86 => ⟨S1x1x128, .f32⟩
  | 87 => ⟨S8x2048x128, .f32⟩
  | 88 => ⟨S8x2048x128, .f32⟩
  | 89 => ⟨S8x2048x1024, .f32⟩
  | 90 => ⟨S8x2048x8x128, .f32⟩
  | 91 => ⟨S8x2048x8x32, .f32⟩
  | 92 => ⟨S2048x1x2x8, .f32⟩
  | 93 => ⟨S2048x1x2x8, .f32⟩
  | 94 => ⟨S8x2048x8x2x2x8, .f32⟩
  | 95 => ⟨S8x2048x8x2x1x8, .f32⟩
  | 96 => ⟨S8x2048x8x2x8, .f32⟩
  | 97 => ⟨S8x2048x8x2x1x8, .f32⟩
  | 98 => ⟨S8x2048x8x2x8, .f32⟩
  | 99 => ⟨S1x2048x1x2x8, .f32⟩
  | 100 => ⟨S8x2048x8x2x8, .f32⟩
  | 101 => ⟨S8x2048x8x2x8, .f32⟩
  | 102 => ⟨S1x2048x1x2x8, .f32⟩
  | 103 => ⟨S8x2048x8x2x8, .f32⟩
  | 104 => ⟨S8x2048x8x2x8, .f32⟩
  | 105 => ⟨S8x2048x8x2x8, .f32⟩
  | 106 => ⟨S1x2048x1x2x8, .f32⟩
  | 107 => ⟨S8x2048x8x2x8, .f32⟩
  | 108 => ⟨S8x2048x8x2x8, .f32⟩
  | 109 => ⟨S1x2048x1x2x8, .f32⟩
  | 110 => ⟨S8x2048x8x2x8, .f32⟩
  | 111 => ⟨S8x2048x8x2x8, .f32⟩
  | 112 => ⟨S8x2048x8x2x8, .f32⟩
  | 113 => ⟨S8x2048x8x2x1x8, .f32⟩
  | 114 => ⟨S8x2048x8x2x1x8, .f32⟩
  | 115 => ⟨S8x2048x8x2x2x8, .f32⟩
  | 116 => ⟨S8x2048x8x32, .f32⟩
  | 117 => ⟨S8x2048x2x2x8, .f32⟩
  | 118 => ⟨S8x2048x2x1x8, .f32⟩
  | 119 => ⟨S8x2048x2x8, .f32⟩
  | 120 => ⟨S8x2048x2x1x8, .f32⟩
  | 121 => ⟨S8x2048x2x8, .f32⟩
  | 122 => ⟨S1x2048x2x8, .f32⟩
  | 123 => ⟨S8x2048x2x8, .f32⟩
  | 124 => ⟨S8x2048x2x8, .f32⟩
  | 125 => ⟨S1x2048x2x8, .f32⟩
  | 126 => ⟨S8x2048x2x8, .f32⟩
  | 127 => ⟨S8x2048x2x8, .f32⟩
  | _ => ⟨S8x2048x1024, .f32⟩

abbrev hbmTy0_1 (i : Nat) : BufTy := match i % 128 with
  | 0 => ⟨S8x2048x2x8, .f32⟩
  | 1 => ⟨S1x2048x2x8, .f32⟩
  | 2 => ⟨S8x2048x2x8, .f32⟩
  | 3 => ⟨S8x2048x2x8, .f32⟩
  | 4 => ⟨S1x2048x2x8, .f32⟩
  | 5 => ⟨S8x2048x2x8, .f32⟩
  | 6 => ⟨S8x2048x2x8, .f32⟩
  | 7 => ⟨S8x2048x2x8, .f32⟩
  | 8 => ⟨S8x2048x2x1x8, .f32⟩
  | 9 => ⟨S8x2048x2x1x8, .f32⟩
  | 10 => ⟨S8x2048x2x2x8, .f32⟩
  | 11 => ⟨S8x2048x32, .f32⟩
  | 12 => ⟨S8x2048x1x32, .f32⟩
  | 13 => ⟨S8x2048x8x32, .f32⟩
  | 14 => ⟨S_, .f32⟩
  | 15 => ⟨S8x2048x8x32, .f32⟩
  | 16 => ⟨S8x2048x8x64, .f32⟩
  | 17 => ⟨S8x2048x8x128, .f32⟩
  | 18 => ⟨S8x8x2048x128, .f32⟩
  | 19 => ⟨S8x2048x8x64, .f32⟩
  | 20 => ⟨S8x2048x8x128, .f32⟩
  | 21 => ⟨S8x8x2048x128, .f32⟩
  | 22 => ⟨S8x2048x8x64, .f32⟩
  | 23 => ⟨S8x8x64x2048, .f32⟩
  | 24 => ⟨S_, .f32⟩
  | 25 => ⟨S8x8x1x2048, .f32⟩
  | 26 => ⟨S_, .f32⟩
  | 27 => ⟨S8x8x15x2048, .f32⟩
  | 28 => ⟨S8x8x80x2048, .f32⟩
  | 29 => ⟨S8x8x2048x128, .bf16⟩
  | 30 => ⟨S8x8x2048x128, .bf16⟩
  | 31 => ⟨S8x8x80x2048, .bf16⟩
  | 32 => ⟨S8x2048x512, .bf16⟩
  | 33 => ⟨S8x2048x512, .f32⟩
  | 34 => ⟨S8x2048x512, .f32⟩
  | 35 => ⟨S_, .f32⟩
  | 36 => ⟨S8x2048x512, .f32⟩
  | 37 => ⟨S8x2048x512, .f32⟩
  | 38 => ⟨S_, .f32⟩
  | 39 => ⟨S8x2048x512, .f32⟩
  | 40 => ⟨S8x2048x512, .f32⟩
  | 41 => ⟨S8x2048x512, .f32⟩
  | 42 => ⟨S8x2048x512, .bf16⟩
  | 43 => ⟨S8x2048x512, .f32⟩
  | 44 => ⟨S8x2048x512, .f32⟩
  | 45 => ⟨S_, .f32⟩
  | 46 => ⟨S8x2048x512, .f32⟩
  | 47 => ⟨S8x2048x512, .f32⟩
  | 48 => ⟨S_, .f32⟩
  | 49 => ⟨S8x2048x512, .f32⟩
  | 50 => ⟨S8x2048x512, .f32⟩
  | 51 => ⟨S8x2048x512, .bf16⟩
  | 52 => ⟨S8x2048x512, .f32⟩
  | 53 => ⟨S8x2048x512, .f32⟩
  | 54 => ⟨S_, .f32⟩
  | 55 => ⟨S8x2048x512, .f32⟩
  | 56 => ⟨S8x2048x512, .f32⟩
  | 57 => ⟨S_, .f32⟩
  | 58 => ⟨S8x2048x512, .f32⟩
  | 59 => ⟨S8x2048x512, .f32⟩
  | 60 => ⟨S8x2048x512, .f32⟩
  | 61 => ⟨S8x2048x512, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_cst_3 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_cst_11 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_cst_12 : Ref sig .tc := ⟨.hbm, 152, rfl⟩
abbrev main_v128 : Ref sig .tc := ⟨.hbm, 153, rfl⟩
abbrev main_cst_13 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_call0_v0 : Ref sig .tc := ⟨.hbm, 161, rfl⟩
abbrev main_call0_v1 : Ref sig .tc := ⟨.hbm, 162, rfl⟩
abbrev main_call0_cst : Ref sig .tc := ⟨.hbm, 163, rfl⟩
abbrev main_call0_v2 : Ref sig .tc := ⟨.hbm, 164, rfl⟩
abbrev main_call0_v3 : Ref sig .tc := ⟨.hbm, 165, rfl⟩
abbrev main_call0_cst_0 : Ref sig .tc := ⟨.hbm, 166, rfl⟩
abbrev main_call0_v4 : Ref sig .tc := ⟨.hbm, 167, rfl⟩
abbrev main_call0_v5 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_cst_14 : Ref sig .tc := ⟨.hbm, 173, rfl⟩
abbrev main_v139 : Ref sig .tc := ⟨.hbm, 174, rfl⟩
abbrev main_v140 : Ref sig .tc := ⟨.hbm, 175, rfl⟩
abbrev main_cst_15 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_call1_v0 : Ref sig .tc := ⟨.hbm, 180, rfl⟩
abbrev main_call1_v1 : Ref sig .tc := ⟨.hbm, 181, rfl⟩
abbrev main_call1_cst : Ref sig .tc := ⟨.hbm, 182, rfl⟩
abbrev main_call1_v2 : Ref sig .tc := ⟨.hbm, 183, rfl⟩
abbrev main_call1_v3 : Ref sig .tc := ⟨.hbm, 184, rfl⟩
abbrev main_call1_cst_0 : Ref sig .tc := ⟨.hbm, 185, rfl⟩
abbrev main_call1_v4 : Ref sig .tc := ⟨.hbm, 186, rfl⟩
abbrev main_call1_v5 : Ref sig .tc := ⟨.hbm, 187, rfl⟩
abbrev main_v144 : Ref sig .tc := ⟨.hbm, 188, rfl⟩
abbrev main_v145 : Ref sig .tc := ⟨.hbm, 189, rfl⟩

abbrev nD : Nat := 1
abbrev τ : Topo := Topo.v7x

variable {F : FTy → Type} [FloatOps F]
-- ==== Proof.Run.lean ====
/-
  One grid point of the attention call run from its text, at any float values: what it leaves in its two result
  buffers is named here (`bodyRun`), as a function of what its buffers held before; the module `Value…` says what
  those contents are.
-/
module

public import proofs.«01_k».proof.Proof.Gen.KernelIdeal.Frame
public import proofs.«01_k».proof.Proof.Gen.KernelIdeal.Loops

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The body on whole memrefs: the inputs at their contents, the results and the scratches at any; the contents it
    leaves in the two results are found by the run. -/
@[irreducible] def bodyRun (c : Dev nD) (i : grid0.Coords) (arg2 : Memref sig .tc .vmem S1x8x512x128 .bf16) (harg2 : arg2.IsWhole) (arg3 : Memref sig .tc .vmem S1x8x256x128 .bf16) (harg3 : arg3.IsWhole) (arg4 : Memref sig .tc .vmem S1x8x2048x128 .bf16) (harg4 : arg4.IsWhole) (arg5 : Memref sig .tc .vmem S1x8x80x256 .bf16) (harg5 : arg5.IsWhole) (arg6 : Memref sig .tc .vmem S1x8x80x2048 .bf16) (harg6 : arg6.IsWhole) (arg7 : Memref sig .tc .vmem S1x512x512 .bf16) (harg7 : arg7.IsWhole) (arg8 : Memref sig .tc .vmem S1x4x512x128 .f32) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512x512 .bf16) (harg14 : arg14.IsWhole) (arg15 : Memref sig .tc .vmem S1x512x512 .bf16) (harg15 : arg15.IsWhole) (arg16 : Memref sig .tc .vmem S2x2304x512 .f32) (harg16 : arg16.IsWhole) (arg17 : Memref sig .tc .vmem S512x512 .f32) (harg17 : arg17.IsWhole)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) :
    Σ' (Y_arg14 : (BufTy.Contents (Elt F) arg14.view.ty) → (BufTy.Contents (Elt F) arg15.view.ty) → (BufTy.Contents (Elt F) arg16.view.ty) → (BufTy.Contents (Elt F) arg17.view.ty) → BufTy.Contents (Elt F) arg14.view.ty), { Y_arg15 : (BufTy.Contents (Elt F) arg14.view.ty) → (BufTy.Contents (Elt F) arg15.view.ty) → (BufTy.Contents (Elt F) arg16.view.ty) → (BufTy.Contents (Elt F) arg17.view.ty) → BufTy.Contents (Elt F) arg15.view.ty //
      ∀ (E : Set ℕ) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (K : PUnit → sProp 𝕄),
        iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17)
            ∗ (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} (Y_arg14 f_arg14 f_arg15 f_arg16 f_arg17)) ∗ (arg15.view.loc (c : Thread nD τ) ↦[arg15.view.set]{fullShare} (Y_arg15 f_arg14 f_arg15 f_arg16 f_arg17)) ∗ (∃ g, (arg16.view.loc (c : Thread nD τ) ↦[arg16.view.set]{fullShare} g)) ∗ (∃ g, (arg17.view.loc (c : Thread nD τ) ↦[arg17.view.set]{fullShare} g))) -∗ K ⟨⟩))
          ⊢ wp frame (wpE (defs₀ (F := F)) Variants.none (c : Thread nD τ) none) E (cc0_mla_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E f_arg14 f_arg15 f_arg16 f_arg17 K => ?run⟩
  case run =>
    iintro ⟨Harg2, Harg3, Harg4, Harg5, Harg6, Harg7, Harg8, Harg9, Harg10, Harg11, Harg12, Harg13, Harg14, Harg15, Harg16, Harg17, Hk⟩
    simp only [cc0_mla_attention_eq_skeleton]; unfold cc0_mla_attention_skel
    sl_exec
    sl_step
    iapply Hk
    isplitl [Harg2]; · iexact Harg2
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    isplitl [Harg10]; · iexact Harg10
    isplitl [Harg11]; · iexact Harg11
    isplitl [Harg12]; · iexact Harg12
    isplitl [Harg13]; · iexact Harg13
    isplitl [Harg14]; · iexact Harg14
    isplitl [Harg15]; · iexact Harg15
    isplitl [Harg16]; · iexists _; iexact Harg16
    iexists _; iexact Harg17

end Cert.Attn

end
-- ==== Proof.Model.lean ====
/-
  What one grid point of the attention call computes, at any float values: per head the scores of the 512 queries
  against the 256 + 2048 keys, their running maximum, the nine products of the weights with the value columns, the
  quotient by the row of ones' product; and per 128 lanes of the cell output the gated normalisation. The payloads are
  the program's own (`Gen.k0_pay…`); here they are put together per head and per lane group.
-/
module

public import proofs.«01_k».proof.Proof.Run
public import Idealize.ShloMosaic.Lib.WritesUnit

@[expose] public section

set_option maxRecDepth 16384

noncomputable section

namespace Cert.Attn

open Cert.KernelIdeal Cert.KernelIdeal.Gen
open Idealize.ShloMosaic Idealize.ShloMosaic.TcCoe

variable {F : FTy → Type} [FloatOps F]

/-- The part of `x` at offsets `off` of sizes `size`. -/
def cut {s : Shape} {e : EltTy} (x : s.Idx → Elt F e) (off size : Fin s.rank → ℕ) (h : ∀ a, off a + size a ≤ s.size a) :
    (⟨s.rank, size⟩ : Shape).Idx → Elt F e :=
  fun j => x ((Rect.unit (s := s) off size h).toLoadRect.idx j)

omit [FloatOps F] in
/-- A load at offsets known equal to `off'` is the cut there of what the buffer reads. -/
theorem readAt_cut {κ : Kind} {sp : Space} {s : Shape} {e : EltTy} (v : View sig κ sp s e) (X : v.ty.Contents (Elt F))
    {off off' size : Fin s.rank → ℕ} (eo : off = off') (h : ∀ a, off a + size a ≤ s.size a)
    (h' : ∀ a, off' a + size a ≤ s.size a) :
    View.readAt (Elt F) v (Rect.unit (s := s) off size h).toLoadRect X = cut (v.read (Elt F) X) off' size h' := by
  subst eo; rfl

/-- The blocks one grid point is given. -/
structure Blk (F : FTy → Type) where
  q : S1x8x512x128.Idx → Elt F .bf16
  kc : S1x8x256x128.Idx → Elt F .bf16
  kl : S1x8x2048x128.Idx → Elt F .bf16
  vc : S1x8x80x256.Idx → Elt F .bf16
  vl : S1x8x80x2048.Idx → Elt F .bf16
  za : S1x512x512.Idx → Elt F .bf16
  hs : S1x4x512x128.Idx → Elt F .f32
  om : S1x512x512.Idx → Elt F .bf16
  zm : S1x512x512.Idx → Elt F .bf16
  xc : S1x512x512.Idx → Elt F .bf16
  mg : S1x512.Idx → Elt F .f32
  sk : S1x512.Idx → Elt F .f32

theorem inb_q : ∀ (h : Fin 8) (a : Fin 4), (![0, h.val, 0, 0] : Fin 4 → ℕ) a + S1x1x512x128.size a ≤ S1x8x512x128.size a := by decide
theorem inb_kc : ∀ (h : Fin 8) (a : Fin 4), (![0, h.val, 0, 0] : Fin 4 → ℕ) a + S1x1x256x128.size a ≤ S1x8x256x128.size a := by decide
theorem inb_kl : ∀ (h : Fin 8) (a : Fin 4), (![0, h.val, 0, 0] : Fin 4 → ℕ) a + S1x1x2048x128.size a ≤ S1x8x2048x128.size a := by decide
theorem inb_vc : ∀ (h : Fin 8) (a : Fin 4), (![0, h.val, 0, 0] : Fin 4 → ℕ) a + S1x1x80x256.size a ≤ S1x8x80x256.size a := by decide
theorem inb_vl : ∀ (h i : Fin 8) (a : Fin 4), (![0, h.val, 0, 256 * i.val] : Fin 4 → ℕ) a + S1x1x80x256.size a ≤ S1x8x80x2048.size a := by decide
theorem inb_hs : ∀ (g : Fin 4) (a : Fin 4), (![0, g.val, 0, 0] : Fin 4 → ℕ) a + S1x1x512x128.size a ≤ S1x4x512x128.size a := by decide
theorem inb_ln : ∀ (g : Fin 4) (a : Fin 3), (![0, 128 * g.val, 0] : Fin 3 → ℕ) a + S1x128x512.size a ≤ S1x512x512.size a := by decide
theorem inb_row : ∀ (a : Fin 2), (![0, 0] : Fin 2 → ℕ) a + S1x512.size a ≤ S1x512.size a := by decide
theorem inb_sk : ∀ (i : Fin 8) (a : Fin 3), (![0, 256 * i.val, 0] : Fin 3 → ℕ) a + S1x256x512.size a ≤ S1x2048x512.size a := by decide
theorem inb_slot : ∀ (s : Fin 2) (j : Fin 9) (a : Fin 3), (![s.val, 256 * j.val, 0] : Fin 3 → ℕ) a + S1x256x512.size a ≤ S2x2304x512.size a := by decide

namespace Blk

variable (b : Blk F)

def qh (h : Fin 8) : Vec F S1x1x512x128 .bf16 := cut b.q ![0, h.val, 0, 0] S1x1x512x128.size (inb_q h)
def kch (h : Fin 8) : Vec F S1x1x256x128 .bf16 := cut b.kc ![0, h.val, 0, 0] S1x1x256x128.size (inb_kc h)
def klh (h : Fin 8) : Vec F S1x1x2048x128 .bf16 := cut b.kl ![0, h.val, 0, 0] S1x1x2048x128.size (inb_kl h)
def vch (h : Fin 8) : Vec F S1x1x80x256 .bf16 := cut b.vc ![0, h.val, 0, 0] S1x1x80x256.size (inb_vc h)
def vlh (h i : Fin 8) : Vec F S1x1x80x256 .bf16 := cut b.vl ![0, h.val, 0, 256 * i.val] S1x1x80x256.size (inb_vl h i)

/-- Head `h`'s scores against the 256 context keys, and against the 2048 latent keys. -/
def sc (h : Fin 8) : FVec F S1x256x512 .f32 := k0_pay5 (b.qh h) (b.kch h)
def skl (h : Fin 8) : FVec F S1x2048x512 .f32 := k0_pay6 (b.qh h) (b.klh h)
/-- Head `h`'s maximum over all keys. -/
def mx (h : Fin 8) : FVec F S1x512 .f32 := k0_pay7 (b.qh h) (b.kch h) (b.klh h)
/-- The nine groups of 256 keys' scores. -/
def chunk (h : Fin 8) (j : Fin 9) : Vec F S1x256x512 .f32 :=
  Fin.cases (b.sc h) (fun i => cut (s := S1x2048x512) (b.skl h) ![0, 256 * i.val, 0] S1x256x512.size (inb_sk i)) j

/-- Head `h`'s output, values along the rows. -/
def oh (h : Fin 8) : FVec F S64x512 .f32 :=
  k0_pay24 (k0_pay23 (b.mx h)
    (k0_pay22 (b.mx h) (k0_pay19 (b.mx h) (b.chunk h 0) (b.vch h) (b.chunk h 1) (b.vlh h 0))
      (k0_pay20 (b.mx h) (b.chunk h 2)) (k0_pay21 (b.vlh h 1)) (b.chunk h 3) (b.vlh h 2) (b.chunk h 4) (b.vlh h 3)
      (b.chunk h 5) (b.vlh h 4))
    (b.chunk h 6) (b.vlh h 5) (b.chunk h 7) (b.vlh h 6) (b.chunk h 8) (b.vlh h 7))

def hsg (g : Fin 4) : Vec F S1x1x512x128 .f32 := cut b.hs ![0, g.val, 0, 0] S1x1x512x128.size (inb_hs g)
def omg (g : Fin 4) : Vec F S1x128x512 .bf16 := cut b.om ![0, 128 * g.val, 0] S1x128x512.size (inb_ln g)
def zmg (g : Fin 4) : Vec F S1x128x512 .bf16 := cut b.zm ![0, 128 * g.val, 0] S1x128x512.size (inb_ln g)
def xcg (g : Fin 4) : Vec F S1x128x512 .bf16 := cut b.xc ![0, 128 * g.val, 0] S1x128x512.size (inb_ln g)
def mgr : Vec F S1x512 .f32 := cut b.mg ![0, 0] S1x512.size inb_row
def skr : Vec F S1x512 .f32 := cut b.sk ![0, 0] S1x512.size inb_row

/-- The gated, normalised cell output of the 128 rows `128 g …`. -/
def yg (g : Fin 4) : Vec F S1x128x512 .bf16 :=
  k0_pay18 (k0_pay9 (b.zmg g)) (k0_pay17 (k0_pay10 (b.xcg g)) (k0_pay11 b.mgr) (k0_pay12 b.skr)
    (k0_pay13 (k0_pay8 (b.hsg g)) (b.omg g)) (k0_pay14 (k0_pay8 (b.hsg g)) (b.omg g))
    (k0_pay15 (k0_pay8 (b.hsg g)) (b.omg g)) (k0_pay16 (k0_pay8 (b.hsg g)) (b.omg g)))

end Blk

/-- The slot `s` of a score buffer holds head `h`'s scores. -/
def SlotIs (b : Blk F) (f : S2x2304x512.Idx → Elt F .f32) (s : Fin 2) (h : Fin 8) : Prop :=
  ∀ j : Fin 9, cut f ![s.val, 256 * j.val, 0] S1x256x512.size (inb_slot s j) = b.chunk h j

section Slots

variable {κ : Kind} {sp : Space} (v : View sig κ sp S2x2304x512 .f32)

/-- The two stores of a head's scores into slot `s` make the slot hold them. -/
theorem slotIs_store (b : Blk F) (f : v.ty.Contents (Elt F)) (s : Fin 2) (h : Fin 8) (L : List (View.Piece (Elt F) S2x2304x512 .f32))
    {o₁ o₂ : Fin 3 → ℕ} (i₁ : ∀ a, o₁ a + S1x2048x512.size a ≤ S2x2304x512.size a) (i₂ : ∀ a, o₂ a + S1x256x512.size a ≤ S2x2304x512.size a)
    (e₁ : o₁ = ![s.val, 256, 0]) (e₂ : o₂ = ![s.val, 0, 0]) :
    SlotIs b (v.read (Elt F) (v.writes (Elt F) f (⟨Rect.unit o₁ S1x2048x512.size i₁, b.skl h⟩ :: ⟨Rect.unit o₂ S1x256x512.size i₂, b.sc h⟩ :: L))) s h := by
  subst e₁ e₂
  intro j
  funext y
  refine Fin.cases ?_ (fun i => ?_) j
  · refine (View.read_writes_cons_unit_of_not_mem v f i₁ _ _ _ rfl (1 : Fin 3) (Or.inl ?_)).trans ?_
    · show 256 * 0 + 1 * (y (1 : Fin 3)).val < 256
      have := (y (1 : Fin 3)).isLt
      change _ < 256 at this
      omega
    · refine View.read_writes_cons_unit_of_mem v f i₂ _ L _ y rfl fun a => ?_
      show (![s.val, 256 * 0, 0] : Fin 3 → ℕ) a + 1 * (y a).val = (![s.val, 0, 0] : Fin 3 → ℕ) a + (y a).val
      rw [Nat.mul_zero, Nat.one_mul]
  · refine (View.read_writes_cons_unit_of_mem v f i₁ _ _ _
      ((Rect.unit (s := S1x2048x512) ![0, 256 * i.val, 0] S1x256x512.size (inb_sk i)).toLoadRect.idx y) rfl fun a => ?_).trans rfl
    have h0 := (y (0 : Fin 3)).isLt
    change _ < 1 at h0
    match a with
    | 0 => show s.val + 1 * (y (0 : Fin 3)).val = s.val + (0 + 1 * (y (0 : Fin 3)).val); omega
    | 1 => show 256 * (i.val + 1) + 1 * (y (1 : Fin 3)).val = 256 + (256 * i.val + 1 * (y (1 : Fin 3)).val); omega
    | 2 => show 0 + 1 * (y (2 : Fin 3)).val = 0 + (0 + 1 * (y (2 : Fin 3)).val); omega

/-- A store into the other slot leaves the slot's head. -/
theorem slotIs_skip (b : Blk F) (f : v.ty.Contents (Elt F)) (s s' : Fin 2) (hs : s ≠ s') (h : Fin 8) (L : List (View.Piece (Elt F) S2x2304x512 .f32))
    {o size : Fin 3 → ℕ} (i₁ : ∀ a, o a + size a ≤ S2x2304x512.size a) (w : (Rect.unit (s := S2x2304x512) o size i₁).shape.Idx → Elt F .f32)
    (e₀ : o 0 = s'.val) (e₁ : size 0 = 1) (H : SlotIs b (v.read (Elt F) (v.writes (Elt F) f L)) s h) :
    SlotIs b (v.read (Elt F) (v.writes (Elt F) f (⟨Rect.unit o size i₁, w⟩ :: L))) s h := by
  intro j
  rw [← H j]
  funext y
  refine View.read_writes_cons_unit_of_not_mem v f i₁ w L _ rfl (0 : Fin 3) ?_
  have h0 := (y (0 : Fin 3)).isLt
  change _ < 1 at h0
  have : s.val ≠ s'.val := fun h => hs (Fin.ext h)
  show s.val + 1 * (y (0 : Fin 3)).val < o 0 ∨ o 0 + size 0 ≤ s.val + 1 * (y (0 : Fin 3)).val
  rw [e₀, e₁]; omega

/-- A load of 256 keys' scores from a slot. -/
theorem readAt_slot (b : Blk F) (f : v.ty.Contents (Elt F)) (s : Fin 2) (h : Fin 8) (H : SlotIs b (v.read (Elt F) f) s h) (j : Fin 9)
    {o : Fin 3 → ℕ} (i : ∀ a, o a + S1x256x512.size a ≤ S2x2304x512.size a) (e : o = ![s.val, 256 * j.val, 0]) :
    View.readAt (Elt F) v (Rect.unit (s := S2x2304x512) o S1x256x512.size i).toLoadRect f = b.chunk h j := by
  rw [← H j]; exact readAt_cut v f e i _

end Slots

end Cert.Attn

end
-- ==== Proof.Trip.lean ====
/-
  One trip of the head loop: given the scores and maximum of the even head in slot 0, it leaves the next even head's
  there, adds the two heads' outputs to the output scratch and 128 more rows of the gated cell output to the result.
-/
module

public import proofs.«01_k».proof.Proof.Model

@[expose] public section

set_option maxRecDepth 16384

noncomputable section

namespace Cert.Attn

open Cert.KernelIdeal Cert.KernelIdeal.Gen
open Idealize.ShloMosaic Idealize.ShloMosaic.TcCoe

variable {F : FTy → Type} [FloatOps F]

theorem off1_odd : ∀ k : Fin k0_t1_loop.trips, k0_off1 k 1#32 = ![0, 2 * k.val + 1, 0, 0] := by decide +kernel
theorem off1_even : ∀ k : Fin k0_t1_loop.trips, k0_off1 k 2#32 = ![0, 2 * k.val + 2, 0, 0] := by decide +kernel
theorem off2_odd : ∀ k : Fin k0_t1_loop.trips, k0_off2 k 1#32 = ![0, 2 * k.val + 1, 0, 0] := by decide +kernel
theorem off2_even : ∀ k : Fin k0_t1_loop.trips, k0_off2 k 2#32 = ![0, 2 * k.val + 2, 0, 0] := by decide +kernel
theorem off3_odd : ∀ k : Fin k0_t1_loop.trips, k0_off3 k 1#32 = ![0, 2 * k.val + 1, 0, 0] := by decide +kernel
theorem off3_even : ∀ k : Fin k0_t1_loop.trips, k0_off3 k 2#32 = ![0, 2 * k.val + 2, 0, 0] := by decide +kernel
theorem off4_eq : ∀ k : Fin k0_t1_loop.trips, k0_off4 k = ![0, k.val + 1, 0, 0] := by decide +kernel
theorem off5_eq : ∀ k : Fin k0_t1_loop.trips, k0_off5 k = ![0, 128 * (k.val + 1), 0] := by decide +kernel
theorem off6_eq : ∀ k : Fin k0_t1_loop.trips, k0_off6 k = ![0, 2 * k.val, 0, 0] := by decide +kernel
theorem off7_eq : ∀ k : Fin k0_t1_loop.trips, k0_off7 k = ![0, 2 * k.val, 0, 256 * 0] := by decide +kernel
theorem off8_eq : ∀ k : Fin k0_t1_loop.trips, k0_off8 k = ![0, 2 * k.val, 0, 256 * 1] := by decide +kernel
theorem off9_eq : ∀ k : Fin k0_t1_loop.trips, k0_off9 k = ![0, 2 * k.val, 0, 256 * 2] := by decide +kernel
theorem off10_eq : ∀ k : Fin k0_t1_loop.trips, k0_off10 k = ![0, 2 * k.val, 0, 256 * 3] := by decide +kernel
theorem off11_eq : ∀ k : Fin k0_t1_loop.trips, k0_off11 k = ![0, 2 * k.val, 0, 256 * 4] := by decide +kernel
theorem off12_eq : ∀ k : Fin k0_t1_loop.trips, k0_off12 k = ![0, 2 * k.val, 0, 256 * 5] := by decide +kernel
theorem off13_eq : ∀ k : Fin k0_t1_loop.trips, k0_off13 k = ![0, 2 * k.val, 0, 256 * 6] := by decide +kernel
theorem off14_eq : ∀ k : Fin k0_t1_loop.trips, k0_off14 k = ![0, 2 * k.val, 0, 256 * 7] := by decide +kernel
theorem off15_eq : ∀ k : Fin k0_t1_loop.trips, k0_off15 k = ![64 * (2 * k.val), 0] := by decide +kernel
theorem off16_eq : ∀ k : Fin k0_t1_loop.trips, k0_off16 k = ![0, 2 * k.val + 1, 0, 0] := by decide +kernel
theorem off17_eq : ∀ k : Fin k0_t1_loop.trips, k0_off17 k = ![0, 2 * k.val + 1, 0, 256 * 0] := by decide +kernel
theorem off18_eq : ∀ k : Fin k0_t1_loop.trips, k0_off18 k = ![0, 2 * k.val + 1, 0, 256 * 1] := by decide +kernel
theorem off19_eq : ∀ k : Fin k0_t1_loop.trips, k0_off19 k = ![0, 2 * k.val + 1, 0, 256 * 2] := by decide +kernel
theorem off20_eq : ∀ k : Fin k0_t1_loop.trips, k0_off20 k = ![0, 2 * k.val + 1, 0, 256 * 3] := by decide +kernel
theorem off21_eq : ∀ k : Fin k0_t1_loop.trips, k0_off21 k = ![0, 2 * k.val + 1, 0, 256 * 4] := by decide +kernel
theorem off22_eq : ∀ k : Fin k0_t1_loop.trips, k0_off22 k = ![0, 2 * k.val + 1, 0, 256 * 5] := by decide +kernel
theorem off23_eq : ∀ k : Fin k0_t1_loop.trips, k0_off23 k = ![0, 2 * k.val + 1, 0, 256 * 6] := by decide +kernel
theorem off24_eq : ∀ k : Fin k0_t1_loop.trips, k0_off24 k = ![0, 2 * k.val + 1, 0, 256 * 7] := by decide +kernel
theorem off25_eq : ∀ k : Fin k0_t1_loop.trips, k0_off25 k = ![64 * (2 * k.val + 1), 0] := by decide +kernel
theorem trips_lt (k : Fin k0_t1_loop.trips) : k.val < 3 := Nat.lt_of_lt_of_le k.isLt k0_t1_abs.2.1

/-- A head by its number. -/
abbrev hd (n : ℕ) (h : n < 8 := by omega) : Fin 8 := ⟨n, h⟩

/-- The program's text of this head's products and quotient is the head's output. -/
theorem oh_even (b : Blk F) (h : Fin 8) {m : FVec F S1x512 .f32} {c0 c1 c2 c3 c4 c5 c6 c7 c8 : Vec F S1x256x512 .f32} {a w0 w1 w2 w3 w4 w5 w6 w7 : Vec F S1x1x80x256 .bf16}
    (hm : m = b.mx h) (ha : a = b.vch h) (hc0 : c0 = b.chunk h 0) (hc1 : c1 = b.chunk h 1) (hc2 : c2 = b.chunk h 2) (hc3 : c3 = b.chunk h 3) (hc4 : c4 = b.chunk h 4) (hc5 : c5 = b.chunk h 5) (hc6 : c6 = b.chunk h 6) (hc7 : c7 = b.chunk h 7) (hc8 : c8 = b.chunk h 8) (hw0 : w0 = b.vlh h 0) (hw1 : w1 = b.vlh h 1) (hw2 : w2 = b.vlh h 2) (hw3 : w3 = b.vlh h 3) (hw4 : w4 = b.vlh h 4) (hw5 : w5 = b.vlh h 5) (hw6 : w6 = b.vlh h 6) (hw7 : w7 = b.vlh h 7) :
    k0_pay24 (k0_pay23 m (k0_pay22 m (k0_pay19 m c0 a c1 w0) (k0_pay20 m c2) (k0_pay21 w1) c3 w2 c4 w3 c5 w4) c6 w5 c7 w6 c8 w7) = b.oh h := by
  subst hm ha hc0 hc1 hc2 hc3 hc4 hc5 hc6 hc7 hc8 hw0 hw1 hw2 hw3 hw4 hw5 hw6 hw7; rfl

/-- The program's text of this head's products and quotient is the head's output. -/
theorem oh_odd (b : Blk F) (h : Fin 8) {m : FVec F S1x512 .f32} {c0 c1 c2 c3 c4 c5 c6 c7 c8 : Vec F S1x256x512 .f32} {a w0 w1 w2 w3 w4 w5 w6 w7 : Vec F S1x1x80x256 .bf16}
    (hm : m = b.mx h) (ha : a = b.vch h) (hc0 : c0 = b.chunk h 0) (hc1 : c1 = b.chunk h 1) (hc2 : c2 = b.chunk h 2) (hc3 : c3 = b.chunk h 3) (hc4 : c4 = b.chunk h 4) (hc5 : c5 = b.chunk h 5) (hc6 : c6 = b.chunk h 6) (hc7 : c7 = b.chunk h 7) (hc8 : c8 = b.chunk h 8) (hw0 : w0 = b.vlh h 0) (hw1 : w1 = b.vlh h 1) (hw2 : w2 = b.vlh h 2) (hw3 : w3 = b.vlh h 3) (hw4 : w4 = b.vlh h 4) (hw5 : w5 = b.vlh h 5) (hw6 : w6 = b.vlh h 6) (hw7 : w7 = b.vlh h 7) :
    k0_pay54 m (k0_pay35 m (k0_pay32 m (k0_pay31 m c0) a c1 w0 c2 w1) (k0_pay33 m c3) (k0_pay34 w2) trip_k0_t1.sl.cst_391 c4 w3 c5 w4 c6 w5) c7 w6 c8 w7 = b.oh h := by
  subst hm ha hc0 hc1 hc2 hc3 hc4 hc5 hc6 hc7 hc8 hw0 hw1 hw2 hw3 hw4 hw5 hw6 hw7; rfl

/-- The program's text of this head's products and quotient is the head's output. -/
theorem oh_six (b : Blk F) (h : Fin 8) {m : FVec F S1x512 .f32} {c0 c1 c2 c3 c4 c5 c6 c7 c8 : Vec F S1x256x512 .f32} {a w0 w1 w2 w3 w4 w5 w6 w7 : Vec F S1x1x80x256 .bf16}
    (hm : m = b.mx h) (ha : a = b.vch h) (hc0 : c0 = b.chunk h 0) (hc1 : c1 = b.chunk h 1) (hc2 : c2 = b.chunk h 2) (hc3 : c3 = b.chunk h 3) (hc4 : c4 = b.chunk h 4) (hc5 : c5 = b.chunk h 5) (hc6 : c6 = b.chunk h 6) (hc7 : c7 = b.chunk h 7) (hc8 : c8 = b.chunk h 8) (hw0 : w0 = b.vlh h 0) (hw1 : w1 = b.vlh h 1) (hw2 : w2 = b.vlh h 2) (hw3 : w3 = b.vlh h 3) (hw4 : w4 = b.vlh h 4) (hw5 : w5 = b.vlh h 5) (hw6 : w6 = b.vlh h 6) (hw7 : w7 = b.vlh h 7) :
    k0_pay65 m (k0_pay64 m (k0_pay62 m (k0_pay61 m c0) a c1 w0 c2 w1) (k0_pay63 m c3) w2 c4 w3 c5 w4 c6 w5) c7 w6 c8 w7 = b.oh h := by
  subst hm ha hc0 hc1 hc2 hc3 hc4 hc5 hc6 hc7 hc8 hw0 hw1 hw2 hw3 hw4 hw5 hw6 hw7; rfl

/-- The program's text of this head's products and quotient is the head's output. -/
theorem oh_seven (b : Blk F) (h : Fin 8) {m : FVec F S1x512 .f32} {c0 c1 c2 c3 c4 c5 c6 c7 c8 : Vec F S1x256x512 .f32} {a w0 w1 w2 w3 w4 w5 w6 w7 : Vec F S1x1x80x256 .bf16}
    (hm : m = b.mx h) (ha : a = b.vch h) (hc0 : c0 = b.chunk h 0) (hc1 : c1 = b.chunk h 1) (hc2 : c2 = b.chunk h 2) (hc3 : c3 = b.chunk h 3) (hc4 : c4 = b.chunk h 4) (hc5 : c5 = b.chunk h 5) (hc6 : c6 = b.chunk h 6) (hc7 : c7 = b.chunk h 7) (hc8 : c8 = b.chunk h 8) (hw0 : w0 = b.vlh h 0) (hw1 : w1 = b.vlh h 1) (hw2 : w2 = b.vlh h 2) (hw3 : w3 = b.vlh h 3) (hw4 : w4 = b.vlh h 4) (hw5 : w5 = b.vlh h 5) (hw6 : w6 = b.vlh h 6) (hw7 : w7 = b.vlh h 7) :
    k0_pay70 m (k0_pay68 m (k0_pay67 m (k0_pay66 m c0) a c1 w0 c2 w1 c3 w2) c4 w3 c5 w4 c6 w5) (k0_pay69 m c7) w6 c8 w7 = b.oh h := by
  subst hm ha hc0 hc1 hc2 hc3 hc4 hc5 hc6 hc7 hc8 hw0 hw1 hw2 hw3 hw4 hw5 hw6 hw7; rfl

/-- Rows of the output scratch: the heads below `n` have their outputs. -/
def ORows (b : Blk F) (f : S512x512.Idx → Elt F .f32) (n : ℕ) : Prop :=
  ∀ h : Fin 8, h.val < n → cut f ![64 * h.val, 0] S64x512.size (by revert h; decide) = b.oh h

/-- Rows of the second result: the lane groups below `n` have their gated cell output. -/
def YRows (b : Blk F) (f : S1x512x512.Idx → Elt F .bf16) (n : ℕ) : Prop :=
  ∀ g : Fin 4, g.val < n → cut f ![0, 128 * g.val, 0] S1x128x512.size (inb_ln g) = b.yg g

section Rows

variable {κ : Kind} {sp : Space}

theorem oRows_store (v : View sig κ sp S512x512 .f32) (b : Blk F) (f : v.ty.Contents (Elt F)) (L : List (View.Piece (Elt F) S512x512 .f32))
    (n : Fin 8) {o : Fin 2 → ℕ} (i : ∀ a, o a + S64x512.size a ≤ S512x512.size a) (e : o = ![64 * n.val, 0]) {w : Vec F S64x512 .f32} (hw : w = b.oh n)
    (H : ORows b (v.read (Elt F) (v.writes (Elt F) f L)) n.val) :
    ORows b (v.read (Elt F) (v.writes (Elt F) f (⟨Rect.unit o S64x512.size i, w⟩ :: L))) (n.val + 1) := by
  subst e hw
  intro h hh
  funext y
  by_cases hn : h.val = n.val
  · obtain rfl : h = n := Fin.ext hn
    refine View.read_writes_cons_unit_of_mem v f i _ L _ y rfl fun a => ?_
    match a with
    | 0 => show 64 * h.val + 1 * (y (0 : Fin 2)).val = 64 * h.val + (y (0 : Fin 2)).val; omega
    | 1 => show 0 + 1 * (y (1 : Fin 2)).val = 0 + (y (1 : Fin 2)).val; omega
  · refine (View.read_writes_cons_unit_of_not_mem v f i _ L _ rfl (0 : Fin 2) (Or.inl ?_)).trans (congrFun (H h (by omega)) y)
    have := (y (0 : Fin 2)).isLt
    change _ < 64 at this
    show 64 * h.val + 1 * (y (0 : Fin 2)).val < 64 * n.val
    omega

theorem yRows_store (v : View sig κ sp S1x512x512 .bf16) (b : Blk F) (f : v.ty.Contents (Elt F)) (L : List (View.Piece (Elt F) S1x512x512 .bf16))
    (n : Fin 4) {o : Fin 3 → ℕ} (i : ∀ a, o a + S1x128x512.size a ≤ S1x512x512.size a) (e : o = ![0, 128 * n.val, 0]) {w : Vec F S1x128x512 .bf16} (hw : w = b.yg n)
    (H : YRows b (v.read (Elt F) (v.writes (Elt F) f L)) n.val) :
    YRows b (v.read (Elt F) (v.writes (Elt F) f (⟨Rect.unit o S1x128x512.size i, w⟩ :: L))) (n.val + 1) := by
  subst e hw
  intro h hh
  funext y
  by_cases hn : h.val = n.val
  · obtain rfl : h = n := Fin.ext hn
    refine View.read_writes_cons_unit_of_mem v f i _ L _ y rfl fun a => ?_
    match a with
    | 0 => show 0 + 1 * (y (0 : Fin 3)).val = 0 + (y (0 : Fin 3)).val; omega
    | 1 => show 128 * h.val + 1 * (y (1 : Fin 3)).val = 128 * h.val + (y (1 : Fin 3)).val; omega
    | 2 => show 0 + 1 * (y (2 : Fin 3)).val = 0 + (y (2 : Fin 3)).val; omega
  · refine (View.read_writes_cons_unit_of_not_mem v f i _ L _ rfl (1 : Fin 3) (Or.inl ?_)).trans (congrFun (H h (by omega)) y)
    have := (y (1 : Fin 3)).isLt
    change _ < 128 at this
    show 128 * h.val + 1 * (y (1 : Fin 3)).val < 128 * n.val
    omega

end Rows

theorem lt_trips {n : ℕ} (h : n + 1 ≤ 3) : n < k0_t1_loop.trips := lt_of_lt_of_le h (by decide +kernel)

section Trip

variable (c : Dev nD) (i : grid0.Coords) (arg2 : Memref sig .tc .vmem S1x8x512x128 .bf16) (harg2 : arg2.IsWhole) (arg3 : Memref sig .tc .vmem S1x8x256x128 .bf16) (harg3 : arg3.IsWhole) (arg4 : Memref sig .tc .vmem S1x8x2048x128 .bf16) (harg4 : arg4.IsWhole) (arg5 : Memref sig .tc .vmem S1x8x80x256 .bf16) (harg5 : arg5.IsWhole) (arg6 : Memref sig .tc .vmem S1x8x80x2048 .bf16) (harg6 : arg6.IsWhole) (arg7 : Memref sig .tc .vmem S1x512x512 .bf16) (harg7 : arg7.IsWhole) (arg8 : Memref sig .tc .vmem S1x4x512x128 .f32) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512x512 .bf16) (harg14 : arg14.IsWhole) (arg15 : Memref sig .tc .vmem S1x512x512 .bf16) (harg15 : arg15.IsWhole) (arg16 : Memref sig .tc .vmem S2x2304x512 .f32) (harg16 : arg16.IsWhole) (arg17 : Memref sig .tc .vmem S512x512 .f32) (harg17 : arg17.IsWhole)
  (v18 : FVec F S1x512 .f32) (v115 : FVec F S128x512 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty)

/-- The blocks the twelve input memrefs hold. -/
def blkOf : Blk F :=
  ⟨arg2.view.read (Elt F) X_arg2, arg3.view.read (Elt F) X_arg3, arg4.view.read (Elt F) X_arg4, arg5.view.read (Elt F) X_arg5,
    arg6.view.read (Elt F) X_arg6, arg7.view.read (Elt F) X_arg7, arg8.view.read (Elt F) X_arg8, arg9.view.read (Elt F) X_arg9,
    arg10.view.read (Elt F) X_arg10, arg11.view.read (Elt F) X_arg11, arg12.view.read (Elt F) X_arg12, arg13.view.read (Elt F) X_arg13⟩

variable (k : Fin k0_t1_loop.trips) (acc : FVec F S1x512 .f32) (f_arg15 : BufTy.Contents (Elt F) arg15.view.ty)
  (f_arg16 : BufTy.Contents (Elt F) arg16.view.ty) (f_arg17 : BufTy.Contents (Elt F) arg17.view.ty)

/-- What the trip yields is the next even head's maximum. -/
theorem trip_max (hk : 2 * k.val + 2 < 8) :
    (trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v115 X_arg2 X_arg3 X_arg4 X_arg5 X_arg6 X_arg8 X_arg9 X_arg10 X_arg11 X_arg12 X_arg13 k).1 acc f_arg15 f_arg16 f_arg17 = (blkOf arg2 arg3 arg4 arg5 arg6 arg7 arg8 arg9 arg10 arg11 arg12 arg13 X_arg2 X_arg3 X_arg4 X_arg5 X_arg6 X_arg7 X_arg8 X_arg9 X_arg10 X_arg11 X_arg12 X_arg13).mx (hd (2 * k.val + 2) hk) := by
  unfold trip_k0_t1; dsimp only
  unfold trip_k0_t1.sl.r_16
  rw [readAt_cut arg2.view X_arg2 (off1_even k) _ (inb_q (hd _ hk)), readAt_cut arg3.view X_arg3 (off2_even k) _ (inb_kc (hd _ hk)), readAt_cut arg4.view X_arg4 (off3_even k) _ (inb_kl (hd _ hk))]
  rfl

/-- The trip's rows of the second result. -/
theorem trip_rows (hk : k.val + 1 < 4) (L : List (View.Piece (Elt F) S1x512x512 .bf16)) (G_arg15 : BufTy.Contents (Elt F) arg15.view.ty)
    (H : YRows (blkOf arg2 arg3 arg4 arg5 arg6 arg7 arg8 arg9 arg10 arg11 arg12 arg13 X_arg2 X_arg3 X_arg4 X_arg5 X_arg6 X_arg7 X_arg8 X_arg9 X_arg10 X_arg11 X_arg12 X_arg13) (arg15.view.read (Elt F) (arg15.view.writes (Elt F) G_arg15 L)) (k.val + 1)) :
    YRows (blkOf arg2 arg3 arg4 arg5 arg6 arg7 arg8 arg9 arg10 arg11 arg12 arg13 X_arg2 X_arg3 X_arg4 X_arg5 X_arg6 X_arg7 X_arg8 X_arg9 X_arg10 X_arg11 X_arg12 X_arg13) (arg15.view.read (Elt F) (arg15.view.writes (Elt F) G_arg15 ((trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v115 X_arg2 X_arg3 X_arg4 X_arg5 X_arg6 X_arg8 X_arg9 X_arg10 X_arg11 X_arg12 X_arg13 k).2.1 acc f_arg15 f_arg16 f_arg17 ++ L))) (k.val + 2) := by
  unfold trip_k0_t1; dsimp only
  refine yRows_store arg15.view _ G_arg15 L ⟨k.val + 1, hk⟩ _ (off5_eq k) ?_ H
  unfold trip_k0_t1.sl.r_2 trip_k0_t1.sl.r_10 trip_k0_t1.sl.r_3 trip_k0_t1.sl.r_4 trip_k0_t1.sl.r_5 trip_k0_t1.sl.r_6 trip_k0_t1.sl.r_7 trip_k0_t1.sl.r_8 trip_k0_t1.sl.r_9 trip_k0_t1.sl.r_1
  rw [readAt_cut arg8.view X_arg8 (off4_eq k) _ (inb_hs ⟨k.val + 1, hk⟩), readAt_cut arg9.view X_arg9 (off5_eq k) _ (inb_ln ⟨k.val + 1, hk⟩), readAt_cut arg10.view X_arg10 (off5_eq k) _ (inb_ln ⟨k.val + 1, hk⟩), readAt_cut arg11.view X_arg11 (off5_eq k) _ (inb_ln ⟨k.val + 1, hk⟩),
    readAt_cut arg12.view X_arg12 (rfl) _ (inb_row ), readAt_cut arg13.view X_arg13 (rfl) _ (inb_row )]
  rfl

/-- The trip leaves the next even head's scores in slot 0, the odd head's in slot 1. -/
theorem trip_slot (hk : 2 * k.val + 2 < 8) (L : List (View.Piece (Elt F) S2x2304x512 .f32)) (G_arg16 : BufTy.Contents (Elt F) arg16.view.ty) :
    SlotIs (blkOf arg2 arg3 arg4 arg5 arg6 arg7 arg8 arg9 arg10 arg11 arg12 arg13 X_arg2 X_arg3 X_arg4 X_arg5 X_arg6 X_arg7 X_arg8 X_arg9 X_arg10 X_arg11 X_arg12 X_arg13) (arg16.view.read (Elt F) (arg16.view.writes (Elt F) G_arg16 ((trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v115 X_arg2 X_arg3 X_arg4 X_arg5 X_arg6 X_arg8 X_arg9 X_arg10 X_arg11 X_arg12 X_arg13 k).2.2.1 acc f_arg15 f_arg16 f_arg17 ++ L))) 0 (hd (2 * k.val + 2) hk) := by
  unfold trip_k0_t1; dsimp only
  unfold trip_k0_t1.sl.HW_arg16_4
  rw [readAt_cut arg2.view X_arg2 (off1_even k) _ (inb_q (hd _ hk)), readAt_cut arg3.view X_arg3 (off2_even k) _ (inb_kc (hd _ hk)), readAt_cut arg4.view X_arg4 (off3_even k) _ (inb_kl (hd _ hk))]
  exact slotIs_store arg16.view _ G_arg16 0 (hd (2 * k.val + 2) hk) _ _ _ rfl rfl

/-- The odd head's scores, as the trip reads them back from what it stored. -/
theorem trip_slot_odd (hk : 2 * k.val + 1 < 8) (G_arg16 : BufTy.Contents (Elt F) arg16.view.ty) :
    SlotIs (blkOf arg2 arg3 arg4 arg5 arg6 arg7 arg8 arg9 arg10 arg11 arg12 arg13 X_arg2 X_arg3 X_arg4 X_arg5 X_arg6 X_arg7 X_arg8 X_arg9 X_arg10 X_arg11 X_arg12 X_arg13) (arg16.view.read (Elt F) (arg16.view.writes (Elt F) G_arg16 (trip_k0_t1.sl.HW_arg16_4 arg2 arg3 arg4 X_arg2 X_arg3 X_arg4 k))) 1 (hd (2 * k.val + 1) hk) := by
  unfold trip_k0_t1.sl.HW_arg16_4
  rw [readAt_cut arg2.view X_arg2 (off1_odd k) _ (inb_q (hd _ hk)), readAt_cut arg3.view X_arg3 (off2_odd k) _ (inb_kc (hd _ hk)), readAt_cut arg4.view X_arg4 (off3_odd k) _ (inb_kl (hd _ hk))]
  refine slotIs_skip arg16.view _ G_arg16 1 0 (by decide) _ _ _ _ rfl rfl ?_
  refine slotIs_skip arg16.view _ G_arg16 1 0 (by decide) _ _ _ _ rfl rfl ?_
  exact slotIs_store arg16.view _ G_arg16 1 (hd (2 * k.val + 1) hk) _ _ _ rfl rfl

/-- The trip's two heads. -/
theorem trip_heads (hk : 2 * k.val + 2 < 8) (hacc : acc = (blkOf arg2 arg3 arg4 arg5 arg6 arg7 arg8 arg9 arg10 arg11 arg12 arg13 X_arg2 X_arg3 X_arg4 X_arg5 X_arg6 X_arg7 X_arg8 X_arg9 X_arg10 X_arg11 X_arg12 X_arg13).mx (hd (2 * k.val)))
    (hs : SlotIs (blkOf arg2 arg3 arg4 arg5 arg6 arg7 arg8 arg9 arg10 arg11 arg12 arg13 X_arg2 X_arg3 X_arg4 X_arg5 X_arg6 X_arg7 X_arg8 X_arg9 X_arg10 X_arg11 X_arg12 X_arg13) (arg16.view.read (Elt F) f_arg16) 0 (hd (2 * k.val)))
    (L : List (View.Piece (Elt F) S512x512 .f32)) (G_arg17 : BufTy.Contents (Elt F) arg17.view.ty)
    (H : ORows (blkOf arg2 arg3 arg4 arg5 arg6 arg7 arg8 arg9 arg10 arg11 arg12 arg13 X_arg2 X_arg3 X_arg4 X_arg5 X_arg6 X_arg7 X_arg8 X_arg9 X_arg10 X_arg11 X_arg12 X_arg13) (arg17.view.read (Elt F) (arg17.view.writes (Elt F) G_arg17 L)) (2 * k.val)) :
    ORows (blkOf arg2 arg3 arg4 arg5 arg6 arg7 arg8 arg9 arg10 arg11 arg12 arg13 X_arg2 X_arg3 X_arg4 X_arg5 X_arg6 X_arg7 X_arg8 X_arg9 X_arg10 X_arg11 X_arg12 X_arg13) (arg17.view.read (Elt F) (arg17.view.writes (Elt F) G_arg17 ((trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v115 X_arg2 X_arg3 X_arg4 X_arg5 X_arg6 X_arg8 X_arg9 X_arg10 X_arg11 X_arg12 X_arg13 k).2.2.2.1 acc f_arg15 f_arg16 f_arg17 ++ L))) (2 * k.val + 2) := by
  unfold trip_k0_t1; dsimp only
  refine oRows_store arg17.view _ G_arg17 _ (hd (2 * k.val + 1)) _ (off25_eq k) ?_
    (oRows_store arg17.view _ G_arg17 L (hd (2 * k.val)) _ (off15_eq k) ?_ H)
  · have hso := trip_slot_odd arg2 arg3 arg4 arg5 arg6 arg7 arg8 arg9 arg10 arg11 arg12 arg13 arg16 X_arg2 X_arg3 X_arg4 X_arg5 X_arg6 X_arg7 X_arg8 X_arg9 X_arg10 X_arg11 X_arg12 X_arg13 k (by omega) arg16.view.junk
    unfold trip_k0_t1.sl.r_21 trip_k0_t1.sl.r_18 trip_k0_t1.sl.r_17 trip_k0_t1.sl.r_19 trip_k0_t1.sl.r_20 trip_k0_t1.sl.r
    refine oh_odd _ (hd (2 * k.val + 1)) ?_ (readAt_cut arg5.view X_arg5 (off16_eq k) _ (inb_vc (hd (2 * k.val + 1))))
      (readAt_slot arg16.view _ _ 1 _ hso 0 _ rfl) (readAt_slot arg16.view _ _ 1 _ hso 1 _ rfl) (readAt_slot arg16.view _ _ 1 _ hso 2 _ rfl) (readAt_slot arg16.view _ _ 1 _ hso 3 _ rfl) (readAt_slot arg16.view _ _ 1 _ hso 4 _ rfl) (readAt_slot arg16.view _ _ 1 _ hso 5 _ rfl) (readAt_slot arg16.view _ _ 1 _ hso 6 _ rfl) (readAt_slot arg16.view _ _ 1 _ hso 7 _ rfl) (readAt_slot arg16.view _ _ 1 _ hso 8 _ rfl)
      (readAt_cut arg6.view X_arg6 (off17_eq k) _ (inb_vl (hd (2 * k.val + 1)) 0)) (readAt_cut arg6.view X_arg6 (off18_eq k) _ (inb_vl (hd (2 * k.val + 1)) 1)) (readAt_cut arg6.view X_arg6 (off19_eq k) _ (inb_vl (hd (2 * k.val + 1)) 2)) (readAt_cut arg6.view X_arg6 (off20_eq k) _ (inb_vl (hd (2 * k.val + 1)) 3)) (readAt_cut arg6.view X_arg6 (off21_eq k) _ (inb_vl (hd (2 * k.val + 1)) 4)) (readAt_cut arg6.view X_arg6 (off22_eq k) _ (inb_vl (hd (2 * k.val + 1)) 5)) (readAt_cut arg6.view X_arg6 (off23_eq k) _ (inb_vl (hd (2 * k.val + 1)) 6)) (readAt_cut arg6.view X_arg6 (off24_eq k) _ (inb_vl (hd (2 * k.val + 1)) 7))
    rw [readAt_cut arg2.view X_arg2 (off1_odd k) _ (inb_q (hd (2 * k.val + 1))), readAt_cut arg3.view X_arg3 (off2_odd k) _ (inb_kc (hd (2 * k.val + 1))), readAt_cut arg4.view X_arg4 (off3_odd k) _ (inb_kl (hd (2 * k.val + 1)))]
    rfl
  · unfold trip_k0_t1.sl.r_15 trip_k0_t1.sl.r_14 trip_k0_t1.sl.r_13 trip_k0_t1.sl.r_12 trip_k0_t1.sl.r_11
    exact oh_even _ (hd (2 * k.val)) hacc (readAt_cut arg5.view X_arg5 (off6_eq k) _ (inb_vc (hd (2 * k.val))))
      (readAt_slot arg16.view _ _ 0 _ hs 0 _ rfl) (readAt_slot arg16.view _ _ 0 _ hs 1 _ rfl) (readAt_slot arg16.view _ _ 0 _ hs 2 _ rfl) (readAt_slot arg16.view _ _ 0 _ hs 3 _ rfl) (readAt_slot arg16.view _ _ 0 _ hs 4 _ rfl) (readAt_slot arg16.view _ _ 0 _ hs 5 _ rfl) (readAt_slot arg16.view _ _ 0 _ hs 6 _ rfl) (readAt_slot arg16.view _ _ 0 _ hs 7 _ rfl) (readAt_slot arg16.view _ _ 0 _ hs 8 _ rfl)
      (readAt_cut arg6.view X_arg6 (off7_eq k) _ (inb_vl (hd (2 * k.val)) 0)) (readAt_cut arg6.view X_arg6 (off8_eq k) _ (inb_vl (hd (2 * k.val)) 1)) (readAt_cut arg6.view X_arg6 (off9_eq k) _ (inb_vl (hd (2 * k.val)) 2)) (readAt_cut arg6.view X_arg6 (off10_eq k) _ (inb_vl (hd (2 * k.val)) 3)) (readAt_cut arg6.view X_arg6 (off11_eq k) _ (inb_vl (hd (2 * k.val)) 4)) (readAt_cut arg6.view X_arg6 (off12_eq k) _ (inb_vl (hd (2 * k.val)) 5)) (readAt_cut arg6.view X_arg6 (off13_eq k) _ (inb_vl (hd (2 * k.val)) 6)) (readAt_cut arg6.view X_arg6 (off14_eq k) _ (inb_vl (hd (2 * k.val)) 7))

variable (G_arg15 : BufTy.Contents (Elt F) arg15.view.ty) (G_arg16 : BufTy.Contents (Elt F) arg16.view.ty) (G_arg17 : BufTy.Contents (Elt F) arg17.view.ty)
  (init : FVec F S1x512 .f32)

/-- Before trip `n`: the even head's maximum and scores, the heads' and lane groups' rows so far. -/
theorem state_at (hinit : init = (blkOf arg2 arg3 arg4 arg5 arg6 arg7 arg8 arg9 arg10 arg11 arg12 arg13 X_arg2 X_arg3 X_arg4 X_arg5 X_arg6 X_arg7 X_arg8 X_arg9 X_arg10 X_arg11 X_arg12 X_arg13).mx 0) (h16 : SlotIs (blkOf arg2 arg3 arg4 arg5 arg6 arg7 arg8 arg9 arg10 arg11 arg12 arg13 X_arg2 X_arg3 X_arg4 X_arg5 X_arg6 X_arg7 X_arg8 X_arg9 X_arg10 X_arg11 X_arg12 X_arg13) (arg16.view.read (Elt F) G_arg16) 0 0)
    (h15 : YRows (blkOf arg2 arg3 arg4 arg5 arg6 arg7 arg8 arg9 arg10 arg11 arg12 arg13 X_arg2 X_arg3 X_arg4 X_arg5 X_arg6 X_arg7 X_arg8 X_arg9 X_arg10 X_arg11 X_arg12 X_arg13) (arg15.view.read (Elt F) G_arg15) 1) : ∀ (n : ℕ) (hn : n ≤ 3),
    (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v115 X_arg2 X_arg3 X_arg4 X_arg5 X_arg6 X_arg8 X_arg9 X_arg10 X_arg11 X_arg12 X_arg13 G_arg15 G_arg16 G_arg17 init n).1 = (blkOf arg2 arg3 arg4 arg5 arg6 arg7 arg8 arg9 arg10 arg11 arg12 arg13 X_arg2 X_arg3 X_arg4 X_arg5 X_arg6 X_arg7 X_arg8 X_arg9 X_arg10 X_arg11 X_arg12 X_arg13).mx (hd (2 * n))
    ∧ SlotIs (blkOf arg2 arg3 arg4 arg5 arg6 arg7 arg8 arg9 arg10 arg11 arg12 arg13 X_arg2 X_arg3 X_arg4 X_arg5 X_arg6 X_arg7 X_arg8 X_arg9 X_arg10 X_arg11 X_arg12 X_arg13) (arg16.view.read (Elt F) (arg16.view.writes (Elt F) G_arg16 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v115 X_arg2 X_arg3 X_arg4 X_arg5 X_arg6 X_arg8 X_arg9 X_arg10 X_arg11 X_arg12 X_arg13 G_arg15 G_arg16 G_arg17 init n).2.2.1)) 0 (hd (2 * n))
    ∧ YRows (blkOf arg2 arg3 arg4 arg5 arg6 arg7 arg8 arg9 arg10 arg11 arg12 arg13 X_arg2 X_arg3 X_arg4 X_arg5 X_arg6 X_arg7 X_arg8 X_arg9 X_arg10 X_arg11 X_arg12 X_arg13) (arg15.view.read (Elt F) (arg15.view.writes (Elt F) G_arg15 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v115 X_arg2 X_arg3 X_arg4 X_arg5 X_arg6 X_arg8 X_arg9 X_arg10 X_arg11 X_arg12 X_arg13 G_arg15 G_arg16 G_arg17 init n).2.1)) (n + 1)
    ∧ ORows (blkOf arg2 arg3 arg4 arg5 arg6 arg7 arg8 arg9 arg10 arg11 arg12 arg13 X_arg2 X_arg3 X_arg4 X_arg5 X_arg6 X_arg7 X_arg8 X_arg9 X_arg10 X_arg11 X_arg12 X_arg13) (arg17.view.read (Elt F) (arg17.view.writes (Elt F) G_arg17 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v115 X_arg2 X_arg3 X_arg4 X_arg5 X_arg6 X_arg8 X_arg9 X_arg10 X_arg11 X_arg12 X_arg13 G_arg15 G_arg16 G_arg17 init n).2.2.2)) (2 * n)
  | 0, _ => ⟨hinit, h16, h15, fun _ h => absurd h (Nat.not_lt_zero _)⟩
  | n + 1, hn => by
    obtain ⟨h₁, h₂, h₃, h₄⟩ := state_at hinit h16 h15 n (by omega)
    have hs := st_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v115 X_arg2 X_arg3 X_arg4 X_arg5 X_arg6 X_arg8 X_arg9 X_arg10 X_arg11 X_arg12 X_arg13 G_arg15 G_arg16 G_arg17 init ⟨n, lt_trips hn⟩
    rw [hs]
    exact ⟨trip_max c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v115 X_arg2 X_arg3 X_arg4 X_arg5 X_arg6 X_arg7 X_arg8 X_arg9 X_arg10 X_arg11 X_arg12 X_arg13 ⟨n, lt_trips hn⟩ _ _ _ _ (by show 2 * n + 2 < 8; omega), trip_slot c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v115 X_arg2 X_arg3 X_arg4 X_arg5 X_arg6 X_arg7 X_arg8 X_arg9 X_arg10 X_arg11 X_arg12 X_arg13 ⟨n, lt_trips hn⟩ _ _ _ _ (by show 2 * n + 2 < 8; omega) _ _,
      trip_rows c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v115 X_arg2 X_arg3 X_arg4 X_arg5 X_arg6 X_arg7 X_arg8 X_arg9 X_arg10 X_arg11 X_arg12 X_arg13 ⟨n, lt_trips hn⟩ _ _ _ _ (by show n + 1 < 4; omega) _ _ h₃, trip_heads c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v115 X_arg2 X_arg3 X_arg4 X_arg5 X_arg6 X_arg7 X_arg8 X_arg9 X_arg10 X_arg11 X_arg12 X_arg13 ⟨n, lt_trips hn⟩ _ _ _ _ (by show 2 * n + 2 < 8; omega) h₁ h₂ _ _ h₄⟩

end Trip

end Cert.Attn

end
-- ==== Proof.Body.lean ====
/-
  The contents one grid point leaves in the two results, as functions of its blocks: the heads' outputs side by side,
  gated; the cell output gated, normalised and gated again.
-/
module

public import proofs.«01_k».proof.Proof.Trip

@[expose] public section

set_option maxRecDepth 16384

noncomputable section

namespace Cert.Attn

open Cert.KernelIdeal Cert.KernelIdeal.Gen
open Idealize.ShloMosaic Idealize.ShloMosaic.TcCoe

variable {F : FTy → Type} [FloatOps F]

namespace Blk

/-- The eight heads' outputs, 64 rows each. -/
def ot (b : Blk F) : Vec F S512x512 .f32 := fun y =>
  b.oh ⟨(y (0 : Fin 2)).val / 64, by have h := (y (0 : Fin 2)).isLt; change _ < 512 at h; omega⟩
    (fun a => match a with
      | 0 => ⟨(y (0 : Fin 2)).val % 64, Nat.mod_lt _ (by decide)⟩
      | 1 => ⟨(y (1 : Fin 2)).val, (y (1 : Fin 2)).isLt⟩)

/-- The first result's block. -/
def ya (b : Blk F) : S1x512x512.Idx → Elt F .bf16 :=
  k0_pay1 (k0_pay71 b.ot (cut b.za ![0, 0, 0] S1x512x512.size inb_S1x512x512_S1x512x512_0_0_0))

/-- The second result's block. -/
def yb (b : Blk F) : S1x512x512.Idx → Elt F .bf16 := fun y =>
  b.yg ⟨(y (1 : Fin 3)).val / 128, by have h := (y (1 : Fin 3)).isLt; change _ < 512 at h; omega⟩
    (fun a => match a with
      | 0 => ⟨(y (0 : Fin 3)).val, (y (0 : Fin 3)).isLt⟩
      | 1 => ⟨(y (1 : Fin 3)).val % 128, Nat.mod_lt _ (by decide)⟩
      | 2 => ⟨(y (2 : Fin 3)).val, (y (2 : Fin 3)).isLt⟩)

end Blk

/-- All eight heads' rows are the outputs side by side. -/
theorem ot_of_rows (b : Blk F) (f : S512x512.Idx → Elt F .f32) (H : ORows b f 8) : f = b.ot := by
  funext y
  have h0 := (y (0 : Fin 2)).isLt
  change _ < 512 at h0
  refine Eq.trans (congrArg f ?_) (congrFun (H ⟨(y (0 : Fin 2)).val / 64, by omega⟩ (by show _ / 64 < 8; omega)) _)
  funext a
  refine Fin.ext ?_
  match a with
  | 0 => show (y (0 : Fin 2)).val = 64 * ((y (0 : Fin 2)).val / 64) + 1 * ((y (0 : Fin 2)).val % 64); omega
  | 1 => show (y (1 : Fin 2)).val = 0 + 1 * (y (1 : Fin 2)).val; omega

/-- The cut of everything is everything. -/
theorem cut_all (f : S512x512.Idx → Elt F .f32) (h : ∀ a, (![0, 0] : Fin 2 → ℕ) a + S512x512.size a ≤ S512x512.size a) :
    cut f ![0, 0] S512x512.size h = f := by
  funext x
  refine congrArg f (funext fun a => Fin.ext ?_)
  match a with
  | 0 => show 0 + 1 * (x (0 : Fin 2)).val = (x (0 : Fin 2)).val; omega
  | 1 => show 0 + 1 * (x (1 : Fin 2)).val = (x (1 : Fin 2)).val; omega

/-- All four lane groups' rows are the second result's block. -/
theorem yb_of_rows (b : Blk F) (f : S1x512x512.Idx → Elt F .bf16) (H : YRows b f 4) : f = b.yb := by
  funext y
  have h0 := (y (1 : Fin 3)).isLt
  change _ < 512 at h0
  refine Eq.trans (congrArg f ?_) (congrFun (H ⟨(y (1 : Fin 3)).val / 128, by omega⟩ (by show _ / 128 < 4; omega)) _)
  funext a
  refine Fin.ext ?_
  match a with
  | 0 => show (y (0 : Fin 3)).val = 0 + 1 * (y (0 : Fin 3)).val; omega
  | 1 => show (y (1 : Fin 3)).val = 128 * ((y (1 : Fin 3)).val / 128) + 1 * ((y (1 : Fin 3)).val % 128); omega
  | 2 => show (y (2 : Fin 3)).val = 0 + 1 * (y (2 : Fin 3)).val; omega

section Body

variable (c : Dev nD) (i : grid0.Coords) (arg2 : Memref sig .tc .vmem S1x8x512x128 .bf16) (harg2 : arg2.IsWhole) (arg3 : Memref sig .tc .vmem S1x8x256x128 .bf16) (harg3 : arg3.IsWhole) (arg4 : Memref sig .tc .vmem S1x8x2048x128 .bf16) (harg4 : arg4.IsWhole) (arg5 : Memref sig .tc .vmem S1x8x80x256 .bf16) (harg5 : arg5.IsWhole) (arg6 : Memref sig .tc .vmem S1x8x80x2048 .bf16) (harg6 : arg6.IsWhole) (arg7 : Memref sig .tc .vmem S1x512x512 .bf16) (harg7 : arg7.IsWhole) (arg8 : Memref sig .tc .vmem S1x4x512x128 .f32) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512x512 .bf16) (harg14 : arg14.IsWhole) (arg15 : Memref sig .tc .vmem S1x512x512 .bf16) (harg15 : arg15.IsWhole) (arg16 : Memref sig .tc .vmem S2x2304x512 .f32) (harg16 : arg16.IsWhole) (arg17 : Memref sig .tc .vmem S512x512 .f32) (harg17 : arg17.IsWhole)

section State

variable (v18 : FVec F S1x512 .f32) (v115 : FVec F S128x512 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty)
  (G_arg15 : BufTy.Contents (Elt F) arg15.view.ty) (G_arg16 : BufTy.Contents (Elt F) arg16.view.ty) (G_arg17 : BufTy.Contents (Elt F) arg17.view.ty)
  (init : FVec F S1x512 .f32)

/-- After the loop. -/
theorem state_end (hinit : init = (blkOf arg2 arg3 arg4 arg5 arg6 arg7 arg8 arg9 arg10 arg11 arg12 arg13 X_arg2 X_arg3 X_arg4 X_arg5 X_arg6 X_arg7 X_arg8 X_arg9 X_arg10 X_arg11 X_arg12 X_arg13).mx 0) (h16 : SlotIs (blkOf arg2 arg3 arg4 arg5 arg6 arg7 arg8 arg9 arg10 arg11 arg12 arg13 X_arg2 X_arg3 X_arg4 X_arg5 X_arg6 X_arg7 X_arg8 X_arg9 X_arg10 X_arg11 X_arg12 X_arg13) (arg16.view.read (Elt F) G_arg16) 0 0)
    (h15 : YRows (blkOf arg2 arg3 arg4 arg5 arg6 arg7 arg8 arg9 arg10 arg11 arg12 arg13 X_arg2 X_arg3 X_arg4 X_arg5 X_arg6 X_arg7 X_arg8 X_arg9 X_arg10 X_arg11 X_arg12 X_arg13) (arg15.view.read (Elt F) G_arg15) 1) (n : ℕ) (hn : n = 3) :
    (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v115 X_arg2 X_arg3 X_arg4 X_arg5 X_arg6 X_arg8 X_arg9 X_arg10 X_arg11 X_arg12 X_arg13 G_arg15 G_arg16 G_arg17 init n).1 = (blkOf arg2 arg3 arg4 arg5 arg6 arg7 arg8 arg9 arg10 arg11 arg12 arg13 X_arg2 X_arg3 X_arg4 X_arg5 X_arg6 X_arg7 X_arg8 X_arg9 X_arg10 X_arg11 X_arg12 X_arg13).mx 6
    ∧ YRows (blkOf arg2 arg3 arg4 arg5 arg6 arg7 arg8 arg9 arg10 arg11 arg12 arg13 X_arg2 X_arg3 X_arg4 X_arg5 X_arg6 X_arg7 X_arg8 X_arg9 X_arg10 X_arg11 X_arg12 X_arg13) (arg15.view.read (Elt F) (arg15.view.writes (Elt F) G_arg15 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v115 X_arg2 X_arg3 X_arg4 X_arg5 X_arg6 X_arg8 X_arg9 X_arg10 X_arg11 X_arg12 X_arg13 G_arg15 G_arg16 G_arg17 init n).2.1)) 4
    ∧ ORows (blkOf arg2 arg3 arg4 arg5 arg6 arg7 arg8 arg9 arg10 arg11 arg12 arg13 X_arg2 X_arg3 X_arg4 X_arg5 X_arg6 X_arg7 X_arg8 X_arg9 X_arg10 X_arg11 X_arg12 X_arg13) (arg17.view.read (Elt F) (arg17.view.writes (Elt F) G_arg17 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v115 X_arg2 X_arg3 X_arg4 X_arg5 X_arg6 X_arg8 X_arg9 X_arg10 X_arg11 X_arg12 X_arg13 G_arg15 G_arg16 G_arg17 init n).2.2.2)) 6 := by
  subst hn
  have h := state_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v115 X_arg2 X_arg3 X_arg4 X_arg5 X_arg6 X_arg7 X_arg8 X_arg9 X_arg10 X_arg11 X_arg12 X_arg13 G_arg15 G_arg16 G_arg17 init hinit h16 h15 3 le_rfl
  exact ⟨h.1, h.2.2.1, h.2.2.2⟩

/-- After the loop, slot 0 holds head 6's scores, whatever the score buffer held before. -/
theorem state_slot (G : BufTy.Contents (Elt F) arg16.view.ty) (L : List (View.Piece (Elt F) S2x2304x512 .f32)) (n : ℕ) (hn : n = 3) :
    SlotIs (blkOf arg2 arg3 arg4 arg5 arg6 arg7 arg8 arg9 arg10 arg11 arg12 arg13 X_arg2 X_arg3 X_arg4 X_arg5 X_arg6 X_arg7 X_arg8 X_arg9 X_arg10 X_arg11 X_arg12 X_arg13) (arg16.view.read (Elt F) (arg16.view.writes (Elt F) G ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v115 X_arg2 X_arg3 X_arg4 X_arg5 X_arg6 X_arg8 X_arg9 X_arg10 X_arg11 X_arg12 X_arg13 G_arg15 G_arg16 G_arg17 init n).2.2.1 ++ L))) 0 6 := by
  subst hn
  have hs := st_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v115 X_arg2 X_arg3 X_arg4 X_arg5 X_arg6 X_arg8 X_arg9 X_arg10 X_arg11 X_arg12 X_arg13 G_arg15 G_arg16 G_arg17 init ⟨2, lt_trips le_rfl⟩
  rw [show (3 : ℕ) = (⟨2, lt_trips le_rfl⟩ : Fin k0_t1_loop.trips).val + 1 from rfl, hs]
  dsimp only
  rw [List.append_assoc]
  exact trip_slot c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v115 X_arg2 X_arg3 X_arg4 X_arg5 X_arg6 X_arg7 X_arg8 X_arg9 X_arg10 X_arg11 X_arg12 X_arg13 ⟨2, lt_trips le_rfl⟩ _ _ _ _ (by decide) _ _

end State

theorem trips_eq : Scf.trips k0_t1_loop.lb k0_t1_loop.ub k0_t1_loop.st = 3 := by decide +kernel

variable (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty)

theorem init_ok : bodyRun.sl.r arg2 arg3 arg4 X_arg2 X_arg3 X_arg4 = (blkOf arg2 arg3 arg4 arg5 arg6 arg7 arg8 arg9 arg10 arg11 arg12 arg13 X_arg2 X_arg3 X_arg4 X_arg5 X_arg6 X_arg7 X_arg8 X_arg9 X_arg10 X_arg11 X_arg12 X_arg13).mx 0 := by
  unfold bodyRun.sl.r
  rfl

theorem slot_ok (f_arg16 : BufTy.Contents (Elt F) arg16.view.ty) :
    SlotIs (blkOf arg2 arg3 arg4 arg5 arg6 arg7 arg8 arg9 arg10 arg11 arg12 arg13 X_arg2 X_arg3 X_arg4 X_arg5 X_arg6 X_arg7 X_arg8 X_arg9 X_arg10 X_arg11 X_arg12 X_arg13) (arg16.view.read (Elt F) (arg16.view.writes (Elt F) f_arg16
      [⟨Rect.unit ![0, 256, 0] S1x2048x512.size inb_S2x2304x512_S1x2048x512_0_256_0, k0_pay40 (View.readAt (Elt F) arg2.view (Rect.unit (s := S1x8x512x128) ![0, 0, 0, 0] S1x1x512x128.size inb_S1x8x512x128_S1x1x512x128_0_0_0_0).toLoadRect X_arg2) (View.readAt (Elt F) arg4.view (Rect.unit (s := S1x8x2048x128) ![0, 0, 0, 0] S1x1x2048x128.size inb_S1x8x2048x128_S1x1x2048x128_0_0_0_0).toLoadRect X_arg4)⟩,
       ⟨Rect.unit ![0, 0, 0] S1x256x512.size inb_S2x2304x512_S1x256x512_0_0_0, k0_pay39 (View.readAt (Elt F) arg2.view (Rect.unit (s := S1x8x512x128) ![0, 0, 0, 0] S1x1x512x128.size inb_S1x8x512x128_S1x1x512x128_0_0_0_0).toLoadRect X_arg2) (View.readAt (Elt F) arg3.view (Rect.unit (s := S1x8x256x128) ![0, 0, 0, 0] S1x1x256x128.size inb_S1x8x256x128_S1x1x256x128_0_0_0_0).toLoadRect X_arg3)⟩])) 0 0 := by
  exact slotIs_store arg16.view _ f_arg16 0 0 [] _ _ rfl rfl

theorem rows_ok (f_arg15 : BufTy.Contents (Elt F) arg15.view.ty) :
    YRows (blkOf arg2 arg3 arg4 arg5 arg6 arg7 arg8 arg9 arg10 arg11 arg12 arg13 X_arg2 X_arg3 X_arg4 X_arg5 X_arg6 X_arg7 X_arg8 X_arg9 X_arg10 X_arg11 X_arg12 X_arg13) (arg15.view.read (Elt F) (arg15.view.writes (Elt F) f_arg15
      [⟨Rect.unit ![0, 0, 0] S1x128x512.size inb_S1x512x512_S1x128x512_0_0_0, k0_pay53 (bodyRun.sl.r_11 arg8 arg9 arg10 arg11 arg12 arg13 X_arg8 X_arg9 X_arg10 X_arg11 X_arg12 X_arg13)⟩])) 1 := by
  refine yRows_store arg15.view _ f_arg15 [] 0 _ rfl ?_ fun _ h => absurd h (Nat.not_lt_zero _)
  unfold bodyRun.sl.r_11 bodyRun.sl.r_3 bodyRun.sl.r_4 bodyRun.sl.r_5 bodyRun.sl.r_6 bodyRun.sl.r_7 bodyRun.sl.r_8 bodyRun.sl.r_9 bodyRun.sl.r_10
  unfold bodyRun.sl.r_1 bodyRun.sl.r_2
  rfl

variable (f_arg14 : BufTy.Contents (Elt F) arg14.view.ty) (f_arg15 : BufTy.Contents (Elt F) arg15.view.ty)
  (f_arg16 : BufTy.Contents (Elt F) arg16.view.ty) (f_arg17 : BufTy.Contents (Elt F) arg17.view.ty)

/-- Slot 1 after head 7's scores are stored, and slot 0 still, as the run reads them back. -/
theorem tail_slots (G : BufTy.Contents (Elt F) arg16.view.ty) :
    SlotIs (blkOf arg2 arg3 arg4 arg5 arg6 arg7 arg8 arg9 arg10 arg11 arg12 arg13 X_arg2 X_arg3 X_arg4 X_arg5 X_arg6 X_arg7 X_arg8 X_arg9 X_arg10 X_arg11 X_arg12 X_arg13) (arg16.view.read (Elt F) (arg16.view.writes (Elt F) G (bodyRun.sl.Harg16_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 X_arg6 X_arg8 X_arg9 X_arg10 X_arg11 X_arg12 X_arg13 f_arg15 f_arg16 f_arg17))) 0 6
    ∧ SlotIs (blkOf arg2 arg3 arg4 arg5 arg6 arg7 arg8 arg9 arg10 arg11 arg12 arg13 X_arg2 X_arg3 X_arg4 X_arg5 X_arg6 X_arg7 X_arg8 X_arg9 X_arg10 X_arg11 X_arg12 X_arg13) (arg16.view.read (Elt F) (arg16.view.writes (Elt F) G (bodyRun.sl.Harg16_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 X_arg6 X_arg8 X_arg9 X_arg10 X_arg11 X_arg12 X_arg13 f_arg15 f_arg16 f_arg17))) 1 7 := by
  unfold bodyRun.sl.Harg16_2
  constructor
  · refine slotIs_skip arg16.view _ G 0 1 (by decide) _ _ _ _ rfl rfl ?_
    refine slotIs_skip arg16.view _ G 0 1 (by decide) _ _ _ _ rfl rfl ?_
    exact state_slot c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ X_arg2 X_arg3 X_arg4 X_arg5 X_arg6 X_arg7 X_arg8 X_arg9 X_arg10 X_arg11 X_arg12 X_arg13 _ _ _ _ G _ _ trips_eq
  · exact slotIs_store arg16.view _ G 1 7 _ _ _ rfl rfl

/-- The output scratch after the last two heads. -/
theorem tail_rows : ORows (blkOf arg2 arg3 arg4 arg5 arg6 arg7 arg8 arg9 arg10 arg11 arg12 arg13 X_arg2 X_arg3 X_arg4 X_arg5 X_arg6 X_arg7 X_arg8 X_arg9 X_arg10 X_arg11 X_arg12 X_arg13) (arg17.view.read (Elt F) (arg17.view.writes (Elt F) f_arg17 (bodyRun.sl.Harg17_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 X_arg6 X_arg8 X_arg9 X_arg10 X_arg11 X_arg12 X_arg13 f_arg15 f_arg16 f_arg17))) 8 := by
  have hs := tail_slots c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 X_arg6 X_arg7 X_arg8 X_arg9 X_arg10 X_arg11 X_arg12 X_arg13 f_arg15 f_arg16 f_arg17 arg16.view.junk
  unfold bodyRun.sl.Harg17_2
  refine oRows_store arg17.view _ f_arg17 _ 7 _ rfl ?_ (oRows_store arg17.view _ f_arg17 _ 6 _ rfl ?_
    (state_end c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ X_arg2 X_arg3 X_arg4 X_arg5 X_arg6 X_arg7 X_arg8 X_arg9 X_arg10 X_arg11 X_arg12 X_arg13 _ _ _ _ (init_ok arg2 arg3 arg4 arg5 arg6 arg7 arg8 arg9 arg10 arg11 arg12 arg13 X_arg2 X_arg3 X_arg4 X_arg5 X_arg6 X_arg7 X_arg8 X_arg9 X_arg10 X_arg11 X_arg12 X_arg13) (slot_ok arg2 arg3 arg4 arg5 arg6 arg7 arg8 arg9 arg10 arg11 arg12 arg13 arg16 X_arg2 X_arg3 X_arg4 X_arg5 X_arg6 X_arg7 X_arg8 X_arg9 X_arg10 X_arg11 X_arg12 X_arg13 f_arg16) (rows_ok arg2 arg3 arg4 arg5 arg6 arg7 arg8 arg9 arg10 arg11 arg12 arg13 arg15 X_arg2 X_arg3 X_arg4 X_arg5 X_arg6 X_arg7 X_arg8 X_arg9 X_arg10 X_arg11 X_arg12 X_arg13 f_arg15) _ trips_eq).2.2)
  · unfold bodyRun.sl.r_22 bodyRun.sl.r_21 bodyRun.sl.r_23 bodyRun.sl.r_20 bodyRun.sl.r_19 bodyRun.sl.r_13
    refine oh_seven _ 7 ?_ (readAt_cut arg5.view X_arg5 (rfl) _ (inb_vc 7))
      (readAt_slot arg16.view _ _ 1 _ hs.2 0 _ rfl) (readAt_slot arg16.view _ _ 1 _ hs.2 1 _ rfl) (readAt_slot arg16.view _ _ 1 _ hs.2 2 _ rfl) (readAt_slot arg16.view _ _ 1 _ hs.2 3 _ rfl) (readAt_slot arg16.view _ _ 1 _ hs.2 4 _ rfl) (readAt_slot arg16.view _ _ 1 _ hs.2 5 _ rfl) (readAt_slot arg16.view _ _ 1 _ hs.2 6 _ rfl) (readAt_slot arg16.view _ _ 1 _ hs.2 7 _ rfl) (readAt_slot arg16.view _ _ 1 _ hs.2 8 _ rfl)
      (readAt_cut arg6.view X_arg6 (rfl) _ (inb_vl 7 0)) (readAt_cut arg6.view X_arg6 (rfl) _ (inb_vl 7 1)) (readAt_cut arg6.view X_arg6 (rfl) _ (inb_vl 7 2)) (readAt_cut arg6.view X_arg6 (rfl) _ (inb_vl 7 3)) (readAt_cut arg6.view X_arg6 (rfl) _ (inb_vl 7 4)) (readAt_cut arg6.view X_arg6 (rfl) _ (inb_vl 7 5)) (readAt_cut arg6.view X_arg6 (rfl) _ (inb_vl 7 6)) (readAt_cut arg6.view X_arg6 (rfl) _ (inb_vl 7 7))
    rfl
  · unfold bodyRun.sl.r_18 bodyRun.sl.r_15 bodyRun.sl.r_14 bodyRun.sl.r_16 bodyRun.sl.r_17 bodyRun.sl.r_12
    exact oh_six _ 6 (state_end c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ X_arg2 X_arg3 X_arg4 X_arg5 X_arg6 X_arg7 X_arg8 X_arg9 X_arg10 X_arg11 X_arg12 X_arg13 _ _ _ _ (init_ok arg2 arg3 arg4 arg5 arg6 arg7 arg8 arg9 arg10 arg11 arg12 arg13 X_arg2 X_arg3 X_arg4 X_arg5 X_arg6 X_arg7 X_arg8 X_arg9 X_arg10 X_arg11 X_arg12 X_arg13) (slot_ok arg2 arg3 arg4 arg5 arg6 arg7 arg8 arg9 arg10 arg11 arg12 arg13 arg16 X_arg2 X_arg3 X_arg4 X_arg5 X_arg6 X_arg7 X_arg8 X_arg9 X_arg10 X_arg11 X_arg12 X_arg13 f_arg16) (rows_ok arg2 arg3 arg4 arg5 arg6 arg7 arg8 arg9 arg10 arg11 arg12 arg13 arg15 X_arg2 X_arg3 X_arg4 X_arg5 X_arg6 X_arg7 X_arg8 X_arg9 X_arg10 X_arg11 X_arg12 X_arg13 f_arg15) _ trips_eq).1 (readAt_cut arg5.view X_arg5 (rfl) _ (inb_vc 6))
      (readAt_slot arg16.view _ _ 0 _ hs.1 0 _ rfl) (readAt_slot arg16.view _ _ 0 _ hs.1 1 _ rfl) (readAt_slot arg16.view _ _ 0 _ hs.1 2 _ rfl) (readAt_slot arg16.view _ _ 0 _ hs.1 3 _ rfl) (readAt_slot arg16.view _ _ 0 _ hs.1 4 _ rfl) (readAt_slot arg16.view _ _ 0 _ hs.1 5 _ rfl) (readAt_slot arg16.view _ _ 0 _ hs.1 6 _ rfl) (readAt_slot arg16.view _ _ 0 _ hs.1 7 _ rfl) (readAt_slot arg16.view _ _ 0 _ hs.1 8 _ rfl)
      (readAt_cut arg6.view X_arg6 (rfl) _ (inb_vl 6 0)) (readAt_cut arg6.view X_arg6 (rfl) _ (inb_vl 6 1)) (readAt_cut arg6.view X_arg6 (rfl) _ (inb_vl 6 2)) (readAt_cut arg6.view X_arg6 (rfl) _ (inb_vl 6 3)) (readAt_cut arg6.view X_arg6 (rfl) _ (inb_vl 6 4)) (readAt_cut arg6.view X_arg6 (rfl) _ (inb_vl 6 5)) (readAt_cut arg6.view X_arg6 (rfl) _ (inb_vl 6 6)) (readAt_cut arg6.view X_arg6 (rfl) _ (inb_vl 6 7))

/-- The first result reads the heads' outputs, gated. -/
theorem body_ya : arg14.view.read (Elt F) ((bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 X_arg6 X_arg7 X_arg8 X_arg9 X_arg10 X_arg11 X_arg12 X_arg13).1 f_arg14 f_arg15 f_arg16 f_arg17) = (blkOf arg2 arg3 arg4 arg5 arg6 arg7 arg8 arg9 arg10 arg11 arg12 arg13 X_arg2 X_arg3 X_arg4 X_arg5 X_arg6 X_arg7 X_arg8 X_arg9 X_arg10 X_arg11 X_arg12 X_arg13).ya := by
  unfold bodyRun; dsimp only
  unfold bodyRun.sl.r_24
  funext y
  refine (View.read_writes_cons_unit_of_mem arg14.view f_arg14 _ _ [] _ y rfl fun a => ?_).trans ?_
  · match a with
    | 0 => show (y (0 : Fin 3)).val = 0 + (y (0 : Fin 3)).val; omega
    | 1 => show (y (1 : Fin 3)).val = 0 + (y (1 : Fin 3)).val; omega
    | 2 => show (y (2 : Fin 3)).val = 0 + (y (2 : Fin 3)).val; omega
  · have h := tail_rows c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 X_arg6 X_arg7 X_arg8 X_arg9 X_arg10 X_arg11 X_arg12 X_arg13 f_arg15 f_arg16 f_arg17
    rw [readAt_cut arg7.view X_arg7 rfl _ inb_S1x512x512_S1x512x512_0_0_0, readAt_cut arg17.view _ rfl _ inb_S512x512_S512x512_0_0, ot_of_rows _ _ h]
    rw [cut_all]
    rfl

/-- The second result reads the gated cell output. -/
theorem body_yb : arg15.view.read (Elt F) ((bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 X_arg6 X_arg7 X_arg8 X_arg9 X_arg10 X_arg11 X_arg12 X_arg13).2.1 f_arg14 f_arg15 f_arg16 f_arg17) = (blkOf arg2 arg3 arg4 arg5 arg6 arg7 arg8 arg9 arg10 arg11 arg12 arg13 X_arg2 X_arg3 X_arg4 X_arg5 X_arg6 X_arg7 X_arg8 X_arg9 X_arg10 X_arg11 X_arg12 X_arg13).yb := by
  unfold bodyRun; dsimp only
  refine yb_of_rows _ _ ?_
  rw [View.writes_append]
  exact (state_end c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ X_arg2 X_arg3 X_arg4 X_arg5 X_arg6 X_arg7 X_arg8 X_arg9 X_arg10 X_arg11 X_arg12 X_arg13 _ _ _ _ (init_ok arg2 arg3 arg4 arg5 arg6 arg7 arg8 arg9 arg10 arg11 arg12 arg13 X_arg2 X_arg3 X_arg4 X_arg5 X_arg6 X_arg7 X_arg8 X_arg9 X_arg10 X_arg11 X_arg12 X_arg13) (slot_ok arg2 arg3 arg4 arg5 arg6 arg7 arg8 arg9 arg10 arg11 arg12 arg13 arg16 X_arg2 X_arg3 X_arg4 X_arg5 X_arg6 X_arg7 X_arg8 X_arg9 X_arg10 X_arg11 X_arg12 X_arg13 f_arg16) (rows_ok arg2 arg3 arg4 arg5 arg6 arg7 arg8 arg9 arg10 arg11 arg12 arg13 arg15 X_arg2 X_arg3 X_arg4 X_arg5 X_arg6 X_arg7 X_arg8 X_arg9 X_arg10 X_arg11 X_arg12 X_arg13 f_arg15) _ trips_eq).2.1

end Body

end Cert.Attn

end
-- ==== Proof.Launch.lean ====
/-
  The run of the whole program: each grid point's block of the two results is what the body leaves, so the pipeline's
  arrays end at those blocks; the frame is read off at the argument arrays.
-/
module

public import proofs.«01_k».proof.Proof.Body

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No loop variants are needed. -/
abbrev 𝒱₀ : Variants := Variants.none

/-- The blocks grid point `t` is given. -/
def blkAt (c : Dev nD) (t : Fin cfg0.N) : Blk F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t⟩

/-- Blocks are equal when their twelve parts are. -/
theorem blk_ext {b : Blk F} {x0 x1 x2 x3 x4 x5 x6 x7 x8 x9 x10 x11} (h0 : x0 = b.q) (h1 : x1 = b.kc) (h2 : x2 = b.kl) (h3 : x3 = b.vc) (h4 : x4 = b.vl) (h5 : x5 = b.za) (h6 : x6 = b.hs) (h7 : x7 = b.om) (h8 : x8 = b.zm) (h9 : x9 = b.xc) (h10 : x10 = b.mg) (h11 : x11 = b.sk) :
    (⟨x0, x1, x2, x3, x4, x5, x6, x7, x8, x9, x10, x11⟩ : Blk F) = b := by
  subst h0 h1 h2 h3 h4 h5 h6 h7 h8 h9 h10 h11; rfl

/-- The proof data: inputs keep their blocks, the results get theirs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (blkAt m c t).ya
    | ⟨13, _⟩ => (blkAt m c t).yb
    | ⟨_ + 14, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (blkAt m c t).ya := by dsimp only [dats]
theorem after0_13 (c : Dev nD) (t : Fin cfg0.N) : (dats m 0 c).after 13 t = (blkAt m c t).yb := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d
theorem before0_11 (c : Dev nD) (t : Fin cfg0.N) (d) : (dats m 0 c).before 11 t d = iblk m c 11 t := before0_11_of m (dats m 0 c) (A_eq m c 11) (after0_11 m c) t d

/-- The two scratches between grid points, at their memrefs. -/
theorem scratch_eq (c : Dev nD) : (Pipeline.scopedRest (Ix := Unit) (Name := ℕ) (U := UR sig nD τ) (Lvl := ℕ) (Val := Elt F) spec0 c : sProp 𝕄)
    = iprop((∃ f : BufTy.Contents (Elt F) (Memref.whole cc0_scratch0).view.ty, ((Memref.whole cc0_scratch0).view.loc (c : Thread nD τ) ↦[(Memref.whole cc0_scratch0).view.set]{fullShare} f)) ∗ (∃ f : BufTy.Contents (Elt F) (Memref.whole cc0_scratch1).view.ty, ((Memref.whole cc0_scratch1).view.loc (c : Thread nD τ) ↦[(Memref.whole cc0_scratch1).view.set]{fullShare} f))) := by
  rw [scopedRest0_eq]; simp only [Memref.view_whole, View.set_whole]

set_option maxHeartbeats 4000000 in
/-- One grid point. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7, before0_8, before0_9, before0_10, before0_11]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5, after0_6, after0_7, after0_8, after0_9, after0_10, after0_11, after0_12, after0_13]
  unfold Pipeline.ΦA owns
  rw [scratch_eq]
  iintro ⟨⟨⟨⟨%s0, Hs0⟩, ⟨%s1, Hs1⟩⟩, Hr⟩, Ho, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, %e6, H6⟩, ⟨%d7, %g7, %e7, H7⟩, ⟨%d8, %g8, %e8, H8⟩, ⟨%d9, %g9, %e9, H9⟩, ⟨%d10, %g10, %e10, H10⟩, ⟨%d11, %g11, %e11, H11⟩, ⟨%d12, %g12, %e12, H12⟩, ⟨%d13, %g13, %e13, H13⟩⟩
  have hb : blkOf (stage0_0 (cfg0.slots t 0)) (stage0_1 (cfg0.slots t 1)) (stage0_2 (cfg0.slots t 2)) (stage0_3 (cfg0.slots t 3)) (stage0_4 (cfg0.slots t 4)) (stage0_5 (cfg0.slots t 5)) (stage0_6 (cfg0.slots t 6)) (stage0_7 (cfg0.slots t 7)) (stage0_8 (cfg0.slots t 8)) (stage0_9 (cfg0.slots t 9)) (stage0_10 (cfg0.slots t 10)) (stage0_11 (cfg0.slots t 11)) g0 g1 g2 g3 g4 g5 g6 g7 g8 g9 g10 g11 = blkAt m c t := by
    unfold blkOf blkAt
    rw [e0, e1, e2, e3, e4, e5, e6, e7, e8, e9, e10, e11]
  iapply ((bodyRun (F := F) c _ _ _ _ _ _ _ _ _ _ _ _ _ _ _ _ _ _ _ _ _ _ _ _ _ _ _ _ _ _ _ _ _ g0 g1 g2 g3 g4 g5 g6 g7 g8 g9 g10 g11).2.2 Set.univ g12 g13 s0 s1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [Hs0]; · iexact Hs0
  isplitl [Hs1]; · iexact Hs1
  iintro ⟨H0, H1, H2, H3, H4, H5, H6, H7, H8, H9, H10, H11, H12, H13, ⟨%u0, Hs0⟩, ⟨%u1, Hs1⟩⟩
  isplitl [Hs0 Hs1 Hr]
  · isplitl [Hs0 Hs1]
    · isplitl [Hs0]
      · iexists u0; iexact Hs0
      · iexists u1; iexact Hs1
    · iexact Hr
  isplitl [Ho]; · iexact Ho
  isplitl [H0]
  · iexists _; isplitr
    · ipureintro; exact e0
    iexact H0
  isplitl [H1]
  · iexists _; isplitr
    · ipureintro; exact e1
    iexact H1
  isplitl [H2]
  · iexists _; isplitr
    · ipureintro; exact e2
    iexact H2
  isplitl [H3]
  · iexists _; isplitr
    · ipureintro; exact e3
    iexact H3
  isplitl [H4]
  · iexists _; isplitr
    · ipureintro; exact e4
    iexact H4
  isplitl [H5]
  · iexists _; isplitr
    · ipureintro; exact e5
    iexact H5
  isplitl [H6]
  · iexists _; isplitr
    · ipureintro; exact e6
    iexact H6
  isplitl [H7]
  · iexists _; isplitr
    · ipureintro; exact e7
    iexact H7
  isplitl [H8]
  · iexists _; isplitr
    · ipureintro; exact e8
    iexact H8
  isplitl [H9]
  · iexists _; isplitr
    · ipureintro; exact e9
    iexact H9
  isplitl [H10]
  · iexists _; isplitr
    · ipureintro; exact e10
    iexact H10
  isplitl [H11]
  · iexists _; isplitr
    · ipureintro; exact e11
    iexact H11
  isplitl [H12]
  · iexists _; isplitr
    swap; iexact H12
    ipureintro
    refine (body_ya ..).trans ?_
    exact congrArg Blk.ya hb
  · iexists _; isplitr
    swap; iexact H13
    ipureintro
    refine (body_yb ..).trans ?_
    exact congrArg Blk.yb hb

set_option backward.isDefEq.respectTransparency.types false in
/-- Every execution of the program ends, with the pipeline's arrays at what the blocks make them and no counter left. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

end Cert.Attn

end
-- ==== Proof.Frames.lean ====
/- The frames of the three programs: every run ends, the arguments are as they were, and every counter is back at zero. -/
module

public import proofs.«01_k».proof.Defs
public import proofs.«01_k».proof.Proof.Gen.Kernel
public import proofs.«01_k».proof.Proof.Gen.KernelIdeal.Frame
public import proofs.«01_k».proof.Proof.Gen.ReferenceIdeal.Run
public import proofs.«01_k».proof.Proof.Launch
public import Idealize.ShloMosaic.Lib.Quiescent

@[expose] public section

set_option maxRecDepth 16384

noncomputable section

namespace Cert.Attn

open Idealize.ShloMosaic Idealize.SL.Sem

section
open Cert.KernelIdeal Cert.KernelIdeal.Gen
variable {F : FTy → Type} [FloatOps F]

/-- The frame of the kernel's text over any float values. -/
theorem frame_any (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) ∧ r.2.sem = fun _ => 0) :=
  θ_run_with_sems (frame_of m ρ (dats m) fun _ _ => rfl) (run_main m ρ)

end

/-- The idealized kernel leaves its arguments and its counters as it found them. -/
theorem frame_ideal : Cert.quiescent_KernelIdeal (hKernelIdeal := Cert.KernelIdeal.Gen.facts) := fun m ρ _ =>
  frame_any (F := Ideal) m ρ

section
attribute [local instance] Cert.Kernel.Gen.facts Cert.KernelIdeal.Gen.facts

set_option maxHeartbeats 2000000 in
/-- The kernel as printed and the idealized one define the same body for their one label. -/
theorem bodies_eq : Cert.Kernel.defs₀ (F := Bits) = Cert.KernelIdeal.defs₀ (F := Bits) := by
  refine congrArg Defs.onTc ?_
  funext l a
  match l, a with
  | 0, (t, s) => exact rfl

set_option maxHeartbeats 2000000 in
/-- So they define the same pipeline around it. -/
theorem defs_eq : Cert.Kernel.defs (F := Bits) = Cert.KernelIdeal.defs (F := Bits) :=
  congrArg (Pipeline.defs (Cert.KernelIdeal.pcfgs (F := Bits))) bodies_eq

set_option maxHeartbeats 2000000 in
/-- The kernel as printed has the same text as the idealized one, so the same run is its frame. -/
theorem frame_kernel : Cert.quiescent_Kernel (hKernel := Cert.Kernel.Gen.facts) := fun m ρ _ => by
  have h := frame_any (F := Bits) m ρ
  rw [← defs_eq] at h
  exact h

end

/-- The reference is a list of host operations that write no argument, and it declares no counter. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2, sem_eq_zero_of_no_sems rfl r.2⟩) (Cert.ReferenceIdeal.Value.run (F := Ideal) m ρ)

end Cert.Attn

end
-- ==== Proof.Host.lean ====
/- What the host code hands to the attention call, element by element. -/
module
public import proofs.«01_k».proof.Proof.Gen.KernelIdeal.Frame
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
namespace Cert.Attn
open Cert.KernelIdeal Cert.KernelIdeal.Gen
variable (m : (ℓ : Loc nD τ sig) → Buf (Elt Ideal) ℓ) (c : Dev nD)

/-- The queries: heads first, 64 position-free lanes, 32 zeros, 32 rotary lanes, divided by √96 · log 2. -/
def qT (x : FVec Ideal S8x2048x8x64 .f32) (y : FVec Ideal S8x2048x8x32 .f32) : FVec Ideal S8x8x2048x128 .bf16 :=
  (truncf .bf16 (Host.divf (transpose S8x8x2048x128 [0, 2, 1, 3] (concatenate S8x2048x8x128 3 [⟨S8x2048x8x64, x⟩, ⟨S8x2048x8x32, (broadcastInDim S8x2048x8x32 ![] bcast_S_S8x2048x8x32 (constant S_ .f32 0x00000000#32))⟩, ⟨S8x2048x8x32, y⟩] concatenates_S8x2048x8x64_S8x2048x8x32_S8x2048x8x32_S8x2048x8x128_d3) transposes_S8x2048x8x128_S8x8x2048x128_0_2_1_3) (broadcastInDim S8x8x2048x128 ![] bcast_S_S8x8x2048x128 (mulf (Host.sqrt (constant S_ .f32 0x42C00000#32)) (Host.log (constant S_ .f32 0x40000000#32))))) bitsLt_bf16_f32)

/-- The context keys of all batches in one row of positions, in the same lanes. -/
def kcT (x : FVec Ideal S8x256x8x64 .f32) (y : FVec Ideal S8x256x32 .f32) : FVec Ideal S1x8x2048x128 .bf16 :=
  (truncf .bf16 (transpose S1x8x2048x128 [0, 2, 1, 3] (concatenate S1x2048x8x128 3 [⟨S1x2048x8x64, (shapeCast _ x shapeCasts_S8x256x8x64_S1x2048x8x64)⟩, ⟨S1x2048x8x32, (broadcastInDim S1x2048x8x32 ![] bcast_S_S1x2048x8x32 (constant S_ .f32 0x00000000#32))⟩, ⟨S1x2048x8x32, (broadcastInDim S1x2048x8x32 ![0, 1, 2, 3] bcast_S1x2048x1x32_S1x2048x8x32_0_1_2_3 (broadcastInDim S1x2048x1x32 ![0, 1, 3] bcast_S1x2048x32_S1x2048x1x32_0_1_3 (shapeCast _ y shapeCasts_S8x256x32_S1x2048x32)))⟩] concatenates_S1x2048x8x64_S1x2048x8x32_S1x2048x8x32_S1x2048x8x128_d3) transposes_S1x2048x8x128_S1x8x2048x128_0_2_1_3) bitsLt_bf16_f32)

/-- The latent keys in the same lanes. -/
def klT (x : FVec Ideal S8x2048x8x64 .f32) (y : FVec Ideal S8x2048x32 .f32) : FVec Ideal S8x8x2048x128 .bf16 :=
  (truncf .bf16 (transpose S8x8x2048x128 [0, 2, 1, 3] (concatenate S8x2048x8x128 3 [⟨S8x2048x8x64, x⟩, ⟨S8x2048x8x32, (broadcastInDim S8x2048x8x32 ![] bcast_S_S8x2048x8x32 (constant S_ .f32 0x00000000#32))⟩, ⟨S8x2048x8x32, (broadcastInDim S8x2048x8x32 ![0, 1, 2, 3] bcast_S8x2048x1x32_S8x2048x8x32_0_1_2_3 (broadcastInDim S8x2048x1x32 ![0, 1, 3] bcast_S8x2048x32_S8x2048x1x32_0_1_3 y))⟩] concatenates_S8x2048x8x64_S8x2048x8x32_S8x2048x8x32_S8x2048x8x128_d3) transposes_S8x2048x8x128_S8x8x2048x128_0_2_1_3) bitsLt_bf16_f32)

/-- The context values transposed, a row of ones and fifteen of zeros below them. -/
def vcT (x : FVec Ideal S8x256x8x64 .f32) : FVec Ideal S1x8x80x2048 .bf16 :=
  (truncf .bf16 (concatenate S1x8x80x2048 2 [⟨S1x8x64x2048, (transpose S1x8x64x2048 [0, 2, 3, 1] (shapeCast _ x shapeCasts_S8x256x8x64_S1x2048x8x64) transposes_S1x2048x8x64_S1x8x64x2048_0_2_3_1)⟩, ⟨S1x8x1x2048, (broadcastInDim S1x8x1x2048 ![] bcast_S_S1x8x1x2048 (constant S_ .f32 0x3F800000#32))⟩, ⟨S1x8x15x2048, (broadcastInDim S1x8x15x2048 ![] bcast_S_S1x8x15x2048 (constant S_ .f32 0x00000000#32))⟩] concatenates_S1x8x64x2048_S1x8x1x2048_S1x8x15x2048_S1x8x80x2048_d2) bitsLt_bf16_f32)

/-- The latent values likewise. -/
def vlT (x : FVec Ideal S8x2048x8x64 .f32) : FVec Ideal S8x8x80x2048 .bf16 :=
  (truncf .bf16 (concatenate S8x8x80x2048 2 [⟨S8x8x64x2048, (transpose S8x8x64x2048 [0, 2, 3, 1] x transposes_S8x2048x8x64_S8x8x64x2048_0_2_3_1)⟩, ⟨S8x8x1x2048, (broadcastInDim S8x8x1x2048 ![] bcast_S_S8x8x1x2048 (constant S_ .f32 0x3F800000#32))⟩, ⟨S8x8x15x2048, (broadcastInDim S8x8x15x2048 ![] bcast_S_S8x8x15x2048 (constant S_ .f32 0x00000000#32))⟩] concatenates_S8x8x64x2048_S8x8x1x2048_S8x8x15x2048_S8x8x80x2048_d2) bitsLt_bf16_f32)

/-- The silu of a gate. -/
def siluT (x : FVec Ideal S8x2048x512 .f32) : FVec Ideal S8x2048x512 .bf16 :=
  (truncf .bf16 (mulf x (Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf x))))) bitsLt_bf16_f32)

/-- The cell output: lanes of 128 positions. -/
def hsT (x : FVec Ideal S8x4x2048x128 .f32) : FVec Ideal S8x16x512x128 .f32 :=
  (transpose S8x16x512x128 [0, 2, 1, 3] (shapeCast _ (transpose S8x4x128x2048 [0, 1, 3, 2] x transposes_S8x4x2048x128_S8x4x128x2048_0_1_3_2) shapeCasts_S8x4x128x2048_S8x512x16x128) transposes_S8x512x16x128_S8x16x512x128_0_2_1_3)

/-- The sigmoid of a gate. -/
def sigT (x : FVec Ideal S8x2048x512 .f32) : FVec Ideal S8x2048x512 .bf16 :=
  (truncf .bf16 (Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf x)))) bitsLt_bf16_f32)

/-- A vector as one row. -/
def rowT (x : FVec Ideal S512 .f32) : FVec Ideal S1x512 .f32 :=
  (shapeCast _ x shapeCasts_S512_S1x512)

set_option maxHeartbeats 4000000 in
theorem V_v8 : V m c main_v8 = qT (m ((c.tc : Thread nD τ).loc main_arg0)) (m ((c.tc : Thread nD τ).loc main_arg1)) := by
  dsimp only [V, hostOps0]
  after_results_simp; rfl

set_option maxHeartbeats 4000000 in
theorem V_v22 : V m c main_v22 = kcT (m ((c.tc : Thread nD τ).loc main_arg2)) (m ((c.tc : Thread nD τ).loc main_arg3)) := by
  dsimp only [V, hostOps0]
  after_results_simp; rfl

set_option maxHeartbeats 4000000 in
theorem V_v14 : V m c main_v14 = klT (m ((c.tc : Thread nD τ).loc main_arg5)) (m ((c.tc : Thread nD τ).loc main_arg6)) := by
  dsimp only [V, hostOps0]
  after_results_simp; rfl

set_option maxHeartbeats 4000000 in
theorem V_v33 : V m c main_v33 = vcT (m ((c.tc : Thread nD τ).loc main_arg4)) := by
  dsimp only [V, hostOps0]
  after_results_simp; rfl

set_option maxHeartbeats 4000000 in
theorem V_v27 : V m c main_v27 = vlT (m ((c.tc : Thread nD τ).loc main_arg7)) := by
  dsimp only [V, hostOps0]
  after_results_simp; rfl

set_option maxHeartbeats 4000000 in
theorem V_v41 : V m c main_v41 = siluT (m ((c.tc : Thread nD τ).loc main_arg8)) := by
  dsimp only [V, hostOps0]
  after_results_simp; rfl

set_option maxHeartbeats 4000000 in
theorem V_v59 : V m c main_v59 = hsT (m ((c.tc : Thread nD τ).loc main_arg9)) := by
  dsimp only [V, hostOps0]
  after_results_simp; rfl

set_option maxHeartbeats 4000000 in
theorem V_v48 : V m c main_v48 = sigT (m ((c.tc : Thread nD τ).loc main_arg10)) := by
  dsimp only [V, hostOps0]
  after_results_simp; rfl

set_option maxHeartbeats 4000000 in
theorem V_v61 : V m c main_v61 = rowT (m ((c.tc : Thread nD τ).loc main_arg13)) := by
  dsimp only [V, hostOps0]
  after_results_simp; rfl

set_option maxHeartbeats 4000000 in
theorem V_v56 : V m c main_v56 = siluT (m ((c.tc : Thread nD τ).loc main_arg12)) := by
  dsimp only [V, hostOps0]
  after_results_simp; rfl

set_option maxHeartbeats 4000000 in
theorem V_v62 : V m c main_v62 = rowT (m ((c.tc : Thread nD τ).loc main_arg14)) := by
  dsimp only [V, hostOps0]
  after_results_simp; rfl

end Cert.Attn

end
-- ==== Proof.HostAt.lean ====
/-
  The arrays the windows read, at an index, in the arguments.
-/
module
public import proofs.«01_k».proof.Proof.Host
public import Idealize.ShloMosaic.Lib.Pointwise
@[expose] public section
set_option maxRecDepth 16384
noncomputable section
open Idealize.ShloMosaic Idealize.ShloMosaic.TcCoe
namespace Cert.Attn
open Cert.KernelIdeal Cert.KernelIdeal.Gen

/-- The divisor of the queries. -/
def qdiv : EReal := Ideal.sqrt (Ideal.ofBits .f32 0x42C00000#32) * Ideal.log (Ideal.ofBits .f32 0x40000000#32)

section Queries
variable (x : FVec Ideal S8x2048x8x64 .f32) (y : FVec Ideal S8x2048x8x32 .f32) (i : Fin 8) (h : Fin 8) (n : Fin 2048)
theorem q_lo (d : Fin 64) : qT x y (ix4 i h n (⟨d.val, by omega⟩ : Fin 128)) = Ideal.div (x (ix4 i n h d)) qdiv := by
  unfold qdiv
  pointwise [qT]
theorem q_mid (d : Fin 32) : qT x y (ix4 i h n (⟨64 + d.val, by omega⟩ : Fin 128)) = Ideal.div 0 qdiv := by
  unfold qdiv
  pointwise [qT]
theorem q_hi (d : Fin 32) : qT x y (ix4 i h n (⟨96 + d.val, by omega⟩ : Fin 128)) = Ideal.div (y (ix4 i n h d)) qdiv := by
  unfold qdiv
  pointwise [qT]
  rw [dif_neg (by omega), dif_neg (by omega)]
  congr 3
  apply Fin.ext
  show 96 + d.val - 64 - 32 = d.val
  omega
end Queries

section Latent
variable (x : FVec Ideal S8x2048x8x64 .f32) (y : FVec Ideal S8x2048x32 .f32) (i : Fin 8) (h : Fin 8) (n : Fin 2048)
theorem kl_lo (d : Fin 64) : klT x y (ix4 i h n (⟨d.val, by omega⟩ : Fin 128)) = x (ix4 i n h d) := by
  pointwise [klT]
theorem kl_mid (d : Fin 32) : klT x y (ix4 i h n (⟨64 + d.val, by omega⟩ : Fin 128)) = 0 := by
  pointwise [klT]
theorem kl_hi (d : Fin 32) : klT x y (ix4 i h n (⟨96 + d.val, by omega⟩ : Fin 128)) = y (ix3 i n d) := by
  pointwise [klT]
  rw [dif_neg (by omega), dif_neg (by omega)]
  congr 2
  apply Fin.ext
  show 96 + d.val - 64 - 32 = d.val
  omega
end Latent

section Context
variable (x : FVec Ideal S8x256x8x64 .f32) (y : FVec Ideal S8x256x32 .f32) (h : Fin 8) (n : Fin 2048)
theorem kc_lo (d : Fin 64) : kcT x y (ix4 0 h n (⟨d.val, by omega⟩ : Fin 128))
    = x (ix4 (⟨n.val / 256, by omega⟩ : Fin 8) (⟨n.val % 256, by omega⟩ : Fin 256) h d) := by
  pointwise [kcT]
theorem kc_mid (d : Fin 32) : kcT x y (ix4 0 h n (⟨64 + d.val, by omega⟩ : Fin 128)) = 0 := by
  pointwise [kcT]
theorem kc_hi (d : Fin 32) : kcT x y (ix4 0 h n (⟨96 + d.val, by omega⟩ : Fin 128))
    = y (ix3 (⟨n.val / 256, by omega⟩ : Fin 8) (⟨n.val % 256, by omega⟩ : Fin 256) d) := by
  pointwise [kcT]
  rw [dif_neg (by omega), dif_neg (by omega)]
  congr 2
  apply Fin.ext
  show 96 + d.val - 64 - 32 = d.val
  omega
theorem vc_lo (d : Fin 64) : vcT x (ix4 0 h (⟨d.val, by omega⟩ : Fin 80) n)
    = x (ix4 (⟨n.val / 256, by omega⟩ : Fin 8) (⟨n.val % 256, by omega⟩ : Fin 256) h d) := by
  pointwise [vcT]
theorem vc_one : vcT x (ix4 0 h (64 : Fin 80) n) = 1 := by
  pointwise [vcT]
end Context

section Values
variable (x : FVec Ideal S8x2048x8x64 .f32) (i : Fin 8) (h : Fin 8) (n : Fin 2048)
theorem vl_lo (d : Fin 64) : vlT x (ix4 i h (⟨d.val, by omega⟩ : Fin 80) n) = x (ix4 i n h d) := by
  pointwise [vlT]
theorem vl_one : vlT x (ix4 i h (64 : Fin 80) n) = 1 := by
  pointwise [vlT]
end Values

theorem silu_at (x : FVec Ideal S8x2048x512 .f32) (i : Fin 8) (n : Fin 2048) (w : Fin 512) :
    siluT x (ix3 i n w) = x (ix3 i n w) * Ideal.div 1 (1 + Ideal.exp (-x (ix3 i n w))) := by
  pointwise [siluT]
theorem sig_at (x : FVec Ideal S8x2048x512 .f32) (i : Fin 8) (n : Fin 2048) (w : Fin 512) :
    sigT x (ix3 i n w) = Ideal.div 1 (1 + Ideal.exp (-x (ix3 i n w))) := by
  pointwise [sigT]
theorem row_at (x : FVec Ideal S512 .f32) (w : Fin 512) : rowT x (ix2 0 w) = x (ix1 w) := by
  pointwise [rowT]
theorem hs_at (x : FVec Ideal S8x4x2048x128 .f32) (i : Fin 8) (a : Fin 16) (w : Fin 512) (l : Fin 128) :
    hsT x (ix4 i a w l) = x (ix4 i (⟨w.val / 128, by omega⟩ : Fin 4) (⟨a.val * 128 + l.val, by omega⟩ : Fin 2048) (⟨w.val % 128, by omega⟩ : Fin 128)) := by
  pointwise [hsT]

/-- 128 lanes: 64 of the plain part, 32 of padding, 32 of the rotary part. -/
theorem lanes (f : Fin 128 → EReal) : ∑ l, f l = ∑ d : Fin 64, f ⟨d.val, by omega⟩ + ∑ d : Fin 32, f ⟨64 + d.val, by omega⟩
    + ∑ d : Fin 32, f ⟨96 + d.val, by omega⟩ := by
  have e1 := Fin.sum_univ_add (a := 96) (b := 32) f
  have e2 := Fin.sum_univ_add (a := 64) (b := 32) fun k => f (Fin.castAdd 32 k)
  rw [e1, e2]
  rfl

end Cert.Attn
end
-- ==== Proof.Blocks.lean ====
/-
  The blocks of a grid point, at an index, in the arrays.
-/
module
public import proofs.«01_k».proof.Proof.Launch
public import proofs.«01_k».proof.Proof.HostAt
public import Idealize.ShloMosaic.Lib.Pipeline.ValueKit
@[expose] public section
set_option maxRecDepth 16384
noncomputable section
open Idealize.ShloMosaic Idealize.ShloMosaic.TcCoe
namespace Cert.Attn
open Cert.KernelIdeal Cert.KernelIdeal.Gen

theorem point_lt (t : Fin cfg0.N) : t.val < 32 := (by decide +kernel : ∀ t : Fin grid0.N, t.val < 32) t
theorem idx0 : ∀ t : Fin cfg0.N, win0_0.index t = ![t.val / 4, 0, t.val % 4, 0] :=
  (by decide +kernel : ∀ t : Fin grid0.N, win0_0.index t = ![t.val / 4, 0, t.val % 4, 0])
theorem idx1 : ∀ t : Fin cfg0.N, win0_1.index t = ![0, 0, t.val / 4, 0] :=
  (by decide +kernel : ∀ t : Fin grid0.N, win0_1.index t = ![0, 0, t.val / 4, 0])
theorem idx2 : ∀ t : Fin cfg0.N, win0_2.index t = ![t.val / 4, 0, 0, 0] :=
  (by decide +kernel : ∀ t : Fin grid0.N, win0_2.index t = ![t.val / 4, 0, 0, 0])
theorem idx3 : ∀ t : Fin cfg0.N, win0_3.index t = ![0, 0, 0, t.val / 4] :=
  (by decide +kernel : ∀ t : Fin grid0.N, win0_3.index t = ![0, 0, 0, t.val / 4])
theorem idx4 : ∀ t : Fin cfg0.N, win0_4.index t = ![t.val / 4, 0, 0, 0] :=
  (by decide +kernel : ∀ t : Fin grid0.N, win0_4.index t = ![t.val / 4, 0, 0, 0])
theorem idx5 : ∀ t : Fin cfg0.N, win0_5.index t = ![t.val / 4, t.val % 4, 0] :=
  (by decide +kernel : ∀ t : Fin grid0.N, win0_5.index t = ![t.val / 4, t.val % 4, 0])
theorem idx6 : ∀ t : Fin cfg0.N, win0_6.index t = ![t.val / 4, t.val % 4, 0, 0] :=
  (by decide +kernel : ∀ t : Fin grid0.N, win0_6.index t = ![t.val / 4, t.val % 4, 0, 0])
theorem idx7 : ∀ t : Fin cfg0.N, win0_7.index t = ![t.val / 4, t.val % 4, 0] :=
  (by decide +kernel : ∀ t : Fin grid0.N, win0_7.index t = ![t.val / 4, t.val % 4, 0])
theorem idx8 : ∀ t : Fin cfg0.N, win0_8.index t = ![t.val / 4, t.val % 4, 0] :=
  (by decide +kernel : ∀ t : Fin grid0.N, win0_8.index t = ![t.val / 4, t.val % 4, 0])
theorem idx9 : ∀ t : Fin cfg0.N, win0_9.index t = ![t.val / 4, t.val % 4, 0] :=
  (by decide +kernel : ∀ t : Fin grid0.N, win0_9.index t = ![t.val / 4, t.val % 4, 0])
theorem idx10 : ∀ t : Fin cfg0.N, win0_10.index t = ![0, 0] :=
  (by decide +kernel : ∀ t : Fin grid0.N, win0_10.index t = ![0, 0])
theorem idx11 : ∀ t : Fin cfg0.N, win0_11.index t = ![0, 0] :=
  (by decide +kernel : ∀ t : Fin grid0.N, win0_11.index t = ![0, 0])
theorem idx12 : ∀ t : Fin cfg0.N, win0_12.index t = ![t.val / 4, t.val % 4, 0] :=
  (by decide +kernel : ∀ t : Fin grid0.N, win0_12.index t = ![t.val / 4, t.val % 4, 0])
theorem idx13 : ∀ t : Fin cfg0.N, win0_13.index t = ![t.val / 4, t.val % 4, 0] :=
  (by decide +kernel : ∀ t : Fin grid0.N, win0_13.index t = ![t.val / 4, t.val % 4, 0])

variable (m : (ℓ : Loc nD τ sig) → Buf (Elt Ideal) ℓ) (c : Dev nD) (t : Fin cfg0.N)

theorem q_emb (h : Fin 8) (n : Fin 512) (l : Fin 128) : (win0_0.blk t).view.emb (ix4 0 h n l) = (ix4 (⟨t.val / 4, by have := point_lt t; omega⟩ : Fin 8) h (⟨512 * (t.val % 4) + n.val, by omega⟩ : Fin 2048) l) := by
  blk_ext [idx0 t]
theorem q_blk (h : Fin 8) (n : Fin 512) (l : Fin 128) : (blkAt m c t).q (ix4 0 h n l)
    = V m c main_v8 (ix4 (⟨t.val / 4, by have := point_lt t; omega⟩ : Fin 8) h (⟨512 * (t.val % 4) + n.val, by omega⟩ : Fin 2048) l) :=
  congrArg (V m c main_v8) (q_emb t h n l)
theorem kc_emb (h : Fin 8) (n : Fin 256) (l : Fin 128) : (win0_1.blk t).view.emb (ix4 0 h n l) = (ix4 0 h (⟨256 * (t.val / 4) + n.val, by have := point_lt t; omega⟩ : Fin 2048) l) := by
  blk_ext [idx1 t]
theorem kc_blk (h : Fin 8) (n : Fin 256) (l : Fin 128) : (blkAt m c t).kc (ix4 0 h n l)
    = V m c main_v22 (ix4 0 h (⟨256 * (t.val / 4) + n.val, by have := point_lt t; omega⟩ : Fin 2048) l) :=
  congrArg (V m c main_v22) (kc_emb t h n l)
theorem kl_emb (h : Fin 8) (n : Fin 2048) (l : Fin 128) : (win0_2.blk t).view.emb (ix4 0 h n l) = (ix4 (⟨t.val / 4, by have := point_lt t; omega⟩ : Fin 8) h n l) := by
  blk_ext [idx2 t]
theorem kl_blk (h : Fin 8) (n : Fin 2048) (l : Fin 128) : (blkAt m c t).kl (ix4 0 h n l)
    = V m c main_v14 (ix4 (⟨t.val / 4, by have := point_lt t; omega⟩ : Fin 8) h n l) :=
  congrArg (V m c main_v14) (kl_emb t h n l)
theorem vc_emb (h : Fin 8) (r : Fin 80) (n : Fin 256) : (win0_3.blk t).view.emb (ix4 0 h r n) = (ix4 0 h r (⟨256 * (t.val / 4) + n.val, by have := point_lt t; omega⟩ : Fin 2048)) := by
  blk_ext [idx3 t]
theorem vc_blk (h : Fin 8) (r : Fin 80) (n : Fin 256) : (blkAt m c t).vc (ix4 0 h r n)
    = V m c main_v33 (ix4 0 h r (⟨256 * (t.val / 4) + n.val, by have := point_lt t; omega⟩ : Fin 2048)) :=
  congrArg (V m c main_v33) (vc_emb t h r n)
theorem vl_emb (h : Fin 8) (r : Fin 80) (n : Fin 2048) : (win0_4.blk t).view.emb (ix4 0 h r n) = (ix4 (⟨t.val / 4, by have := point_lt t; omega⟩ : Fin 8) h r n) := by
  blk_ext [idx4 t]
theorem vl_blk (h : Fin 8) (r : Fin 80) (n : Fin 2048) : (blkAt m c t).vl (ix4 0 h r n)
    = V m c main_v27 (ix4 (⟨t.val / 4, by have := point_lt t; omega⟩ : Fin 8) h r n) :=
  congrArg (V m c main_v27) (vl_emb t h r n)
theorem za_emb (n : Fin 512) (w : Fin 512) : (win0_5.blk t).view.emb (ix3 0 n w) = (ix3 (⟨t.val / 4, by have := point_lt t; omega⟩ : Fin 8) (⟨512 * (t.val % 4) + n.val, by omega⟩ : Fin 2048) w) := by
  blk_ext [idx5 t]
theorem za_blk (n : Fin 512) (w : Fin 512) : (blkAt m c t).za (ix3 0 n w)
    = V m c main_v41 (ix3 (⟨t.val / 4, by have := point_lt t; omega⟩ : Fin 8) (⟨512 * (t.val % 4) + n.val, by omega⟩ : Fin 2048) w) :=
  congrArg (V m c main_v41) (za_emb t n w)
theorem hs_emb (a : Fin 4) (w : Fin 512) (l : Fin 128) : (win0_6.blk t).view.emb (ix4 0 a w l) = (ix4 (⟨t.val / 4, by have := point_lt t; omega⟩ : Fin 8) (⟨4 * (t.val % 4) + a.val, by omega⟩ : Fin 16) w l) := by
  blk_ext [idx6 t]
theorem hs_blk (a : Fin 4) (w : Fin 512) (l : Fin 128) : (blkAt m c t).hs (ix4 0 a w l)
    = V m c main_v59 (ix4 (⟨t.val / 4, by have := point_lt t; omega⟩ : Fin 8) (⟨4 * (t.val % 4) + a.val, by omega⟩ : Fin 16) w l) :=
  congrArg (V m c main_v59) (hs_emb t a w l)
theorem om_emb (n : Fin 512) (w : Fin 512) : (win0_7.blk t).view.emb (ix3 0 n w) = (ix3 (⟨t.val / 4, by have := point_lt t; omega⟩ : Fin 8) (⟨512 * (t.val % 4) + n.val, by omega⟩ : Fin 2048) w) := by
  blk_ext [idx7 t]
theorem om_blk (n : Fin 512) (w : Fin 512) : (blkAt m c t).om (ix3 0 n w)
    = V m c main_v48 (ix3 (⟨t.val / 4, by have := point_lt t; omega⟩ : Fin 8) (⟨512 * (t.val % 4) + n.val, by omega⟩ : Fin 2048) w) :=
  congrArg (V m c main_v48) (om_emb t n w)
theorem zm_emb (n : Fin 512) (w : Fin 512) : (win0_8.blk t).view.emb (ix3 0 n w) = (ix3 (⟨t.val / 4, by have := point_lt t; omega⟩ : Fin 8) (⟨512 * (t.val % 4) + n.val, by omega⟩ : Fin 2048) w) := by
  blk_ext [idx8 t]
theorem zm_blk (n : Fin 512) (w : Fin 512) : (blkAt m c t).zm (ix3 0 n w)
    = V m c main_v56 (ix3 (⟨t.val / 4, by have := point_lt t; omega⟩ : Fin 8) (⟨512 * (t.val % 4) + n.val, by omega⟩ : Fin 2048) w) :=
  congrArg (V m c main_v56) (zm_emb t n w)
theorem xc_emb (n : Fin 512) (w : Fin 512) : (win0_9.blk t).view.emb (ix3 0 n w) = (ix3 (⟨t.val / 4, by have := point_lt t; omega⟩ : Fin 8) (⟨512 * (t.val % 4) + n.val, by omega⟩ : Fin 2048) w) := by
  blk_ext [idx9 t]
theorem xc_blk (n : Fin 512) (w : Fin 512) : (blkAt m c t).xc (ix3 0 n w)
    = V m c main_v60 (ix3 (⟨t.val / 4, by have := point_lt t; omega⟩ : Fin 8) (⟨512 * (t.val % 4) + n.val, by omega⟩ : Fin 2048) w) :=
  congrArg (V m c main_v60) (xc_emb t n w)
theorem mg_emb (w : Fin 512) : (win0_10.blk t).view.emb (ix2 0 w) = (ix2 0 w) := by
  blk_ext [idx10 t]
theorem mg_blk (w : Fin 512) : (blkAt m c t).mg (ix2 0 w)
    = V m c main_v61 (ix2 0 w) :=
  congrArg (V m c main_v61) (mg_emb t w)
theorem sk_emb (w : Fin 512) : (win0_11.blk t).view.emb (ix2 0 w) = (ix2 0 w) := by
  blk_ext [idx11 t]
theorem sk_blk (w : Fin 512) : (blkAt m c t).sk (ix2 0 w)
    = V m c main_v62 (ix2 0 w) :=
  congrArg (V m c main_v62) (sk_emb t w)
end Cert.Attn
end
-- ==== Proof.Soft.lean ====
/-
  The softmax over the extended reals, with finite scores: weights to the base 2 of scores that carry the factor 1/log 2,
  shifted by any finite number and divided once at the end, are the weights to the base e, shifted by any other finite
  number and divided each.
-/
module
public import Idealize.ShloMosaic.PureOps.Ideal
public import Idealize.ShloMosaic.Lib.IdealHost
@[expose] public section
noncomputable section
open Idealize.ShloMosaic
namespace Cert.Attn.Soft

theorem ofBits_bot : Ideal.ofBits .f32 0xFF800000#32 = ⊥ := by
  simp [Ideal.ofBits, Ideal.ieee]

theorem ofBits_two : Ideal.ofBits .f32 0x40000000#32 = ((2 : ℝ) : EReal) := by
  simp [Ideal.ofBits, Ideal.ieee]
  rw [← EReal.coe_mul]
  norm_num

theorem ofBits_96 : Ideal.ofBits .f32 0x42C00000#32 = ((96 : ℝ) : EReal) := by
  simp [Ideal.ofBits, Ideal.ieee]
  rw [← EReal.coe_mul]
  norm_num

/-- The root of 96 is a positive real. -/
theorem sqrt_96 : Ideal.sqrt (Ideal.ofBits .f32 0x42C00000#32) = ((Real.sqrt 96 : ℝ) : EReal) := by
  rw [ofBits_96, Ideal.sqrt_coe, if_neg (by norm_num)]

/-- The queries' divisor is √96 · log 2. -/
theorem scale_eq : Ideal.sqrt (Ideal.ofBits .f32 0x42C00000#32) * Ideal.log (Ideal.ofBits .f32 0x40000000#32)
    = ((Real.sqrt 96 * Real.log 2 : ℝ) : EReal) := by
  rw [sqrt_96, ofBits_two, Ideal.log_coe, if_neg (by norm_num), ← EReal.coe_mul]

/-- A finite sum of reals. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A nonnegative real factor moves out of a sum of extended reals. -/
theorem sum_mul_coe {ι : Type} (s : Finset ι) (f : ι → EReal) (c : ℝ) (hc : 0 ≤ c) :
    ∑ k ∈ s, f k * (c : EReal) = (∑ k ∈ s, f k) * (c : EReal) := by
  classical
  induction s using Finset.induction_on with
  | empty => simp
  | insert a s ha ih =>
    rw [Finset.sum_insert ha, Finset.sum_insert ha, ih,
      EReal.right_distrib_of_nonneg_of_ne_top (by exact_mod_cast hc) (EReal.coe_ne_top c)]

/-- The maximum of finitely many reals, at least one, is a real. -/
theorem fold_real {n : ℕ} (hn : 0 < n) (f : Fin n → ℝ) :
    ∃ a : ℝ, Finset.univ.fold max (⊥ : EReal) (fun x => (f x : EReal)) = (a : EReal) := by
  classical
  have key : ∀ s : Finset (Fin n), (s = ∅ ∨ ∃ a : ℝ, s.fold max (⊥ : EReal) (fun x => (f x : EReal)) = (a : EReal)) := by
    intro s
    induction s using Finset.induction_on with
    | empty => exact Or.inl rfl
    | insert a s ha ih =>
      right
      rw [Finset.fold_insert ha]
      rcases ih with rfl | ⟨b, hb⟩
      · exact ⟨f a, by simp⟩
      · exact ⟨max (f a) b, by rw [hb]; exact (EReal.coe_strictMono.monotone.map_max).symm⟩
  rcases key Finset.univ with h | h
  · exact absurd (h ▸ Finset.mem_univ (⟨0, hn⟩ : Fin n)) (Finset.notMem_empty _)
  · exact h

theorem exp2_shift (x ρ a b : ℝ) (hρ : 0 < ρ) :
    Real.rpow 2 (x / (ρ * Real.log 2) - b) = Real.exp (x / ρ - a) * Real.exp (a - b * Real.log 2) := by
  have h2 : Real.log 2 ≠ 0 := (Real.log_pos (by norm_num)).ne'
  rw [← Real.exp_add]
  show (2 : ℝ) ^ (x / (ρ * Real.log 2) - b) = _
  rw [Real.rpow_def_of_pos (by norm_num)]
  congr 1
  field_simp
  ring

/-- The two softmaxes agree. -/
theorem soft {N : ℕ} (hN : 0 < N) (r : Fin N → ℝ) (v : Fin N → EReal) (ρ : ℝ) (hρ : 0 < ρ) (a b : ℝ) :
    Ideal.div (∑ k, v k * Ideal.exp2 (((r k / (ρ * Real.log 2) : ℝ) : EReal) - (b : EReal)))
        (∑ k, 1 * Ideal.exp2 (((r k / (ρ * Real.log 2) : ℝ) : EReal) - (b : EReal)))
      = ∑ k, v k * Ideal.div (Ideal.exp (Ideal.div (r k : EReal) (ρ : EReal) - (a : EReal)))
          (∑ j, Ideal.exp (Ideal.div (r j : EReal) (ρ : EReal) - (a : EReal))) := by
  set C : ℝ := Real.exp (a - b * Real.log 2) with hC
  have hC0 : 0 < C := Real.exp_pos _
  set w : Fin N → ℝ := fun k => Real.exp (r k / ρ - a) with hw
  have e1 : ∀ k, Ideal.exp2 (((r k / (ρ * Real.log 2) : ℝ) : EReal) - (b : EReal)) = ((w k * C : ℝ) : EReal) := by
    intro k
    rw [← EReal.coe_sub, Ideal.exp2_coe, exp2_shift _ ρ a b hρ]
  have e2 : ∀ k, Ideal.exp (Ideal.div (r k : EReal) (ρ : EReal) - (a : EReal)) = (w k : EReal) := by
    intro k
    rw [Ideal.div_coe hρ.ne', ← EReal.coe_mul, ← EReal.coe_sub, Ideal.exp_coe, mul_one_div]
  have hne : (Finset.univ : Finset (Fin N)).Nonempty := ⟨⟨0, hN⟩, Finset.mem_univ _⟩
  have hW : 0 < ∑ k, w k := Finset.sum_pos (fun k _ => Real.exp_pos _) hne
  simp only [e1, e2, one_mul]
  rw [coe_sum, coe_sum, ← Finset.sum_mul]
  rw [Ideal.div_coe (mul_pos hW hC0).ne']
  have e3 : ∀ k, v k * ((w k * C : ℝ) : EReal) = (v k * (w k : EReal)) * (C : EReal) := by
    intro k; rw [EReal.coe_mul, mul_assoc]
  have e4 : ∀ k, v k * Ideal.div (w k : EReal) ((∑ j, w j : ℝ) : EReal)
      = (v k * (w k : EReal)) * ((1 / ∑ j, w j : ℝ) : EReal) := by
    intro k; rw [Ideal.div_coe hW.ne', mul_assoc]
  simp only [e3, e4]
  rw [sum_mul_coe _ _ _ hC0.le, sum_mul_coe _ _ _ (by positivity), mul_assoc, ← EReal.coe_mul]
  congr 2
  field_simp

end Cert.Attn.Soft

end
-- ==== Proof.Heads.lean ====
/-
  One head of one block over the extended reals: the nine groups of keys put together as one sum over 2304 keys.
-/
module
public import proofs.«01_k».proof.Proof.Body
public import proofs.«01_k».proof.Proof.Soft
public import Idealize.ShloMosaic.Lib.Pointwise
public import Idealize.ShloMosaic.Lib.Pipeline.ValueKit
@[expose] public section
set_option maxRecDepth 16384
noncomputable section
open Idealize.ShloMosaic Idealize.ShloMosaic.TcCoe
namespace Cert.Attn
open Cert.KernelIdeal Cert.KernelIdeal.Gen

/-- A sum of nine, written out. -/
theorem nine_sum (f : Fin 9 → EReal) : ∑ j, f j = f 0 + f 1 + f 2 + f 3 + f 4 + f 5 + f 6 + f 7 + f 8 := by
  rw [Fin.sum_univ_castSucc, Fin.sum_univ_eight]
  rfl

/-- A head's output from its maximum, its nine groups of scores and its nine groups of values. -/
theorem quotient_at (m : FVec Ideal S1x512 .f32) (c0 c1 c2 c3 c4 c5 c6 c7 c8 : Vec Ideal S1x256x512 .f32)
    (v0 v1 v2 v3 v4 v5 v6 v7 v8 : Vec Ideal S1x1x80x256 .bf16) (d : Fin 64) (n : Fin 512)
    (s : Fin 9 → Fin 256 → EReal) (v : Fin 9 → Fin 256 → EReal) (u : Fin 9 → Fin 256 → EReal) (M : EReal) (hm : m (ix2 0 n) = M)
    (h0 : ∀ x, c0 (ix3 0 x n) = s 0 x) (h1 : ∀ x, c1 (ix3 0 x n) = s 1 x) (h2 : ∀ x, c2 (ix3 0 x n) = s 2 x)
    (h3 : ∀ x, c3 (ix3 0 x n) = s 3 x) (h4 : ∀ x, c4 (ix3 0 x n) = s 4 x) (h5 : ∀ x, c5 (ix3 0 x n) = s 5 x)
    (h6 : ∀ x, c6 (ix3 0 x n) = s 6 x) (h7 : ∀ x, c7 (ix3 0 x n) = s 7 x) (h8 : ∀ x, c8 (ix3 0 x n) = s 8 x)
    (a0 : ∀ x, v0 (ix4 0 0 (⟨d.val, by omega⟩ : Fin 80) x) = v 0 x) (a1 : ∀ x, v1 (ix4 0 0 (⟨d.val, by omega⟩ : Fin 80) x) = v 1 x)
    (a2 : ∀ x, v2 (ix4 0 0 (⟨d.val, by omega⟩ : Fin 80) x) = v 2 x) (a3 : ∀ x, v3 (ix4 0 0 (⟨d.val, by omega⟩ : Fin 80) x) = v 3 x)
    (a4 : ∀ x, v4 (ix4 0 0 (⟨d.val, by omega⟩ : Fin 80) x) = v 4 x) (a5 : ∀ x, v5 (ix4 0 0 (⟨d.val, by omega⟩ : Fin 80) x) = v 5 x)
    (a6 : ∀ x, v6 (ix4 0 0 (⟨d.val, by omega⟩ : Fin 80) x) = v 6 x) (a7 : ∀ x, v7 (ix4 0 0 (⟨d.val, by omega⟩ : Fin 80) x) = v 7 x)
    (a8 : ∀ x, v8 (ix4 0 0 (⟨d.val, by omega⟩ : Fin 80) x) = v 8 x)
    (b0 : ∀ x, v0 (ix4 0 0 (64 : Fin 80) x) = u 0 x) (b1 : ∀ x, v1 (ix4 0 0 (64 : Fin 80) x) = u 1 x)
    (b2 : ∀ x, v2 (ix4 0 0 (64 : Fin 80) x) = u 2 x) (b3 : ∀ x, v3 (ix4 0 0 (64 : Fin 80) x) = u 3 x)
    (b4 : ∀ x, v4 (ix4 0 0 (64 : Fin 80) x) = u 4 x) (b5 : ∀ x, v5 (ix4 0 0 (64 : Fin 80) x) = u 5 x)
    (b6 : ∀ x, v6 (ix4 0 0 (64 : Fin 80) x) = u 6 x) (b7 : ∀ x, v7 (ix4 0 0 (64 : Fin 80) x) = u 7 x)
    (b8 : ∀ x, v8 (ix4 0 0 (64 : Fin 80) x) = u 8 x) :
    k0_pay24 (k0_pay23 m (k0_pay22 m (k0_pay19 m c0 v0 c1 v1) (k0_pay20 m c2) (k0_pay21 v2) c3 v3 c4 v4 c5 v5) c6 v6 c7 v7 c8 v8) (ix2 d n)
      = Ideal.div (∑ j, ∑ x, v j x * Ideal.exp2 (s j x - M)) (∑ j, ∑ x, u j x * Ideal.exp2 (s j x - M)) := by
  pointwise [k0_pay24, k0_pay23, k0_pay22, k0_pay19, k0_pay20, k0_pay21]
  simp only [h0, h1, h2, h3, h4, h5, h6, h7, h8, a0, a1, a2, a3, a4, a5, a6, a7, a8, b0, b1, b2, b3, b4, b5, b6, b7, b8, hm]
  rw [nine_sum fun j => ∑ x, v j x * Ideal.exp2 (s j x - M), nine_sum fun j => ∑ x, u j x * Ideal.exp2 (s j x - M)]
  rfl

namespace Blk
variable (b : Blk Ideal)

/-- Head `h`'s key `k`, lane `l`: first the context's 256, then the latent 2048. -/
def key (h : Fin 8) (k : Fin 2304) (l : Fin 128) : EReal :=
  if hk : k.val < 256 then b.kc (ix4 0 h (⟨k.val, hk⟩ : Fin 256) l) else b.kl (ix4 0 h (⟨k.val - 256, by omega⟩ : Fin 2048) l)
/-- Head `h`'s value row `r` at key `k`. -/
def val (h : Fin 8) (r : Fin 80) (k : Fin 2304) : EReal :=
  if hk : k.val < 256 then b.vc (ix4 0 h r (⟨k.val, hk⟩ : Fin 256)) else b.vl (ix4 0 h r (⟨k.val - 256, by omega⟩ : Fin 2048))
/-- Head `h`'s score of query `n` and key `k`. -/
def score (h : Fin 8) (n : Fin 512) (k : Fin 2304) : EReal := ∑ l : Fin 128, b.key h k l * b.q (ix4 0 h n l)

theorem qh_at (h : Fin 8) (n : Fin 512) (l : Fin 128) : b.qh h (ix4 0 0 n l) = b.q (ix4 0 h n l) := by
  refine congrArg b.q (funext fun a => ?_)
  fin_cases a <;> apply Fin.ext <;> simp [Rect.unit]
theorem kch_at (h : Fin 8) (n : Fin 256) (l : Fin 128) : b.kch h (ix4 0 0 n l) = b.kc (ix4 0 h n l) := by
  refine congrArg b.kc (funext fun a => ?_)
  fin_cases a <;> apply Fin.ext <;> simp [Rect.unit]
theorem klh_at (h : Fin 8) (n : Fin 2048) (l : Fin 128) : b.klh h (ix4 0 0 n l) = b.kl (ix4 0 h n l) := by
  refine congrArg b.kl (funext fun a => ?_)
  fin_cases a <;> apply Fin.ext <;> simp [Rect.unit]
theorem vch_at (h : Fin 8) (r : Fin 80) (x : Fin 256) : b.vch h (ix4 0 0 r x) = b.vc (ix4 0 h r x) := by
  refine congrArg b.vc (funext fun a => ?_)
  fin_cases a <;> apply Fin.ext <;> simp [Rect.unit]
theorem vlh_at (h i : Fin 8) (r : Fin 80) (x : Fin 256) :
    b.vlh h i (ix4 0 0 r x) = b.vl (ix4 0 h r (⟨256 * i.val + x.val, by omega⟩ : Fin 2048)) := by
  refine congrArg b.vl (funext fun a => ?_)
  fin_cases a <;> apply Fin.ext <;> simp [Rect.unit]
theorem cut_skl (f : S1x2048x512.Idx → EReal) (i : Fin 8) (x : Fin 256) (n : Fin 512) :
    cut (F := Ideal) (s := S1x2048x512) (e := .f32) f ![0, 256 * i.val, 0] S1x256x512.size (inb_sk i) (ix3 0 x n)
      = f (ix3 0 (⟨256 * i.val + x.val, by omega⟩ : Fin 2048) n) := by
  refine congrArg f (funext fun a => ?_)
  fin_cases a <;> apply Fin.ext <;> simp [Rect.unit]

theorem sc_at (h : Fin 8) (x : Fin 256) (n : Fin 512) :
    b.sc h (ix3 0 x n) = ∑ l : Fin 128, b.kc (ix4 0 h x l) * b.q (ix4 0 h n l) := by
  unfold sc
  generalize e1 : b.qh h = q
  generalize e2 : b.kch h = k
  pointwise [k0_pay5, k0_pay3, k0_pay2]
  simp only [← e1, ← e2, qh_at, kch_at]
theorem skl_at (h : Fin 8) (x : Fin 2048) (n : Fin 512) :
    b.skl h (ix3 0 x n) = ∑ l : Fin 128, b.kl (ix4 0 h x l) * b.q (ix4 0 h n l) := by
  unfold skl
  generalize e1 : b.qh h = q
  generalize e2 : b.klh h = k
  pointwise [k0_pay6, k0_pay4, k0_pay2]
  simp only [← e1, ← e2, qh_at, klh_at]

/-- Group `j`'s scores. -/
theorem chunk_at (h : Fin 8) (j : Fin 9) (x : Fin 256) (n : Fin 512) :
    b.chunk h j (ix3 0 x n) = b.score h n ⟨j.val * 256 + x.val, by omega⟩ := by
  refine Fin.cases ?_ (fun i => ?_) j
  · show b.sc h (ix3 0 x n) = _
    rw [sc_at]
    refine Finset.sum_congr rfl fun l _ => ?_
    rw [key, dif_pos (by show 0 * 256 + x.val < 256; omega)]
    congr 3
    apply Fin.ext
    show x.val = 0 * 256 + x.val
    omega
  · show cut (F := Ideal) (s := S1x2048x512) (e := .f32) (b.skl h) ![0, 256 * i.val, 0] S1x256x512.size (inb_sk i) (ix3 0 x n) = _
    rw [cut_skl, skl_at]
    refine Finset.sum_congr rfl fun l _ => ?_
    rw [key, dif_neg (by show ¬ ((i.val + 1) * 256 + x.val < 256); omega)]
    congr 3
    apply Fin.ext
    show 256 * i.val + x.val = (i.val + 1) * 256 + x.val - 256
    omega

theorem vch_val (h : Fin 8) (r : Fin 80) (x : Fin 256) : b.vch h (ix4 0 0 r x) = b.val h r ⟨(0 : Fin 9).val * 256 + x.val, by show 0 * 256 + _ < _; omega⟩ := by
  rw [vch_at, val, dif_pos (by show 0 * 256 + x.val < 256; omega)]
  congr 2
  apply Fin.ext
  show x.val = 0 * 256 + x.val
  omega
theorem vlh_val (h i : Fin 8) (r : Fin 80) (x : Fin 256) :
    b.vlh h i (ix4 0 0 r x) = b.val h r ⟨i.succ.val * 256 + x.val, by show (i.val + 1) * 256 + _ < _; omega⟩ := by
  rw [vlh_at, val, dif_neg (by show ¬ ((i.val + 1) * 256 + x.val < 256); omega)]
  congr 2
  apply Fin.ext
  show 256 * i.val + x.val = (i.val + 1) * 256 + x.val - 256
  omega

/-- A head's output: the quotient of two sums over all keys. -/
theorem oh_at (h : Fin 8) (d : Fin 64) (n : Fin 512) :
    b.oh h (ix2 d n) = Ideal.div
      (∑ k, b.val h (⟨d.val, by omega⟩ : Fin 80) k * Ideal.exp2 (b.score h n k - b.mx h (ix2 0 n)))
      (∑ k, b.val h (64 : Fin 80) k * Ideal.exp2 (b.score h n k - b.mx h (ix2 0 n))) := by
  rw [Fin.sum_univ_tiles 9 256 rfl, Fin.sum_univ_tiles 9 256 rfl]
  exact quotient_at _ _ _ _ _ _ _ _ _ _ _ _ _ _ _ _ _ _ _ d n
    (fun j x => b.score h n ⟨j.val * 256 + x.val, by omega⟩) (fun j x => b.val h ⟨d.val, by omega⟩ ⟨j.val * 256 + x.val, by omega⟩)
    (fun j x => b.val h 64 ⟨j.val * 256 + x.val, by omega⟩) _ rfl
    (fun x => b.chunk_at h 0 x n) (fun x => b.chunk_at h 1 x n) (fun x => b.chunk_at h 2 x n) (fun x => b.chunk_at h 3 x n)
    (fun x => b.chunk_at h 4 x n) (fun x => b.chunk_at h 5 x n) (fun x => b.chunk_at h 6 x n) (fun x => b.chunk_at h 7 x n)
    (fun x => b.chunk_at h 8 x n)
    (fun x => b.vch_val h _ x) (fun x => b.vlh_val h 0 _ x) (fun x => b.vlh_val h 1 _ x) (fun x => b.vlh_val h 2 _ x)
    (fun x => b.vlh_val h 3 _ x) (fun x => b.vlh_val h 4 _ x) (fun x => b.vlh_val h 5 _ x) (fun x => b.vlh_val h 6 _ x)
    (fun x => b.vlh_val h 7 _ x)
    (fun x => b.vch_val h _ x) (fun x => b.vlh_val h 0 _ x) (fun x => b.vlh_val h 1 _ x) (fun x => b.vlh_val h 2 _ x)
    (fun x => b.vlh_val h 3 _ x) (fun x => b.vlh_val h 4 _ x) (fun x => b.vlh_val h 5 _ x) (fun x => b.vlh_val h 6 _ x)
    (fun x => b.vlh_val h 7 _ x)

/-- The maximum is a real when every score is. -/
theorem mx_real (h : Fin 8) (n : Fin 512) (r : Fin 2304 → ℝ) (hr : ∀ k, b.score h n k = (r k : EReal)) :
    ∃ a : ℝ, b.mx h (ix2 0 n) = (a : EReal) := by
  have e : b.mx h (ix2 0 n) = max (Finset.univ.fold max (⊥ : EReal) fun x : Fin 256 => b.score h n ⟨x.val, by omega⟩)
      (Finset.univ.fold max (⊥ : EReal) fun x : Fin 2048 => b.score h n ⟨256 + x.val, by omega⟩) := by
    have s1 : (fun x : Fin 256 => b.score h n ⟨x.val, by omega⟩) = fun x => ∑ l : Fin 128, b.kc (ix4 0 h x l) * b.q (ix4 0 h n l) := by
      funext x
      refine Finset.sum_congr rfl fun l _ => ?_
      rw [key, dif_pos x.isLt]
    have s2 : (fun x : Fin 2048 => b.score h n ⟨256 + x.val, by omega⟩) = fun x => ∑ l : Fin 128, b.kl (ix4 0 h x l) * b.q (ix4 0 h n l) := by
      funext x
      refine Finset.sum_congr rfl fun l _ => ?_
      rw [key, dif_neg (by show ¬ (256 + x.val < 256); omega)]
      congr 3
      apply Fin.ext
      show 256 + x.val - 256 = x.val
      omega
    rw [s1, s2]
    unfold mx
    generalize e1 : b.qh h = q
    generalize e2 : b.klh h = k
    generalize e3 : b.kch h = k'
    pointwise [k0_pay7, k0_pay5, k0_pay6, k0_pay4, k0_pay3, k0_pay2]
    simp only [← e1, ← e2, ← e3, qh_at, klh_at, kch_at]
    rw [← Soft.ofBits_bot]
  obtain ⟨x, hx⟩ := Soft.fold_real (n := 256) (by decide) fun x => r ⟨x.val, by omega⟩
  obtain ⟨y, hy⟩ := Soft.fold_real (n := 2048) (by decide) fun x => r ⟨256 + x.val, by omega⟩
  refine ⟨max x y, ?_⟩
  rw [e]
  simp only [hr]
  rw [hx, hy]
  exact (EReal.coe_strictMono.monotone.map_max).symm

/-- A head's output is the softmax of the scores applied to the values. -/
theorem oh_soft (h : Fin 8) (d : Fin 64) (n : Fin 512) (ρ : ℝ) (hρ : 0 < ρ) (r : Fin 2304 → ℝ)
    (hr : ∀ k, b.score h n k = ((r k / (ρ * Real.log 2) : ℝ) : EReal)) (h1 : ∀ k, b.val h 64 k = 1) (a : ℝ) :
    b.oh h (ix2 d n) = ∑ k, b.val h (⟨d.val, by omega⟩ : Fin 80) k
      * Ideal.div (Ideal.exp (Ideal.div (r k : EReal) (ρ : EReal) - (a : EReal)))
          (∑ j, Ideal.exp (Ideal.div (r j : EReal) (ρ : EReal) - (a : EReal))) := by
  obtain ⟨m, hm⟩ := b.mx_real h n _ hr
  rw [oh_at, hm]
  simp only [hr, h1]
  exact Soft.soft (by decide) r _ ρ hρ a m

end Blk
end Cert.Attn
end
-- ==== Proof.RefAt.lean ====
/-
  The reference's two results, in layers: the keys of both streams, the scores, the softmax, the gated and normalised cell.
-/
module
public import proofs.«01_k».proof.Proof.Gen.ReferenceIdeal.Run
public import proofs.«01_k».proof.Proof.Soft
public import Idealize.ShloMosaic.Lib.Pointwise
@[expose] public section
set_option maxRecDepth 16384
noncomputable section
namespace Cert.Attn.Ref
open Cert.ReferenceIdeal Cert.ReferenceIdeal.Gen Idealize.ShloMosaic Idealize.ShloMosaic.TcCoe

/-- Keys or values of both streams: the context's first. -/
def both (x : FVec Ideal S8x256x8x64 .f32) (y : FVec Ideal S8x2048x8x64 .f32) : FVec Ideal S8x2304x8x64 .f32 :=
  concatenate S8x2304x8x64 1 [⟨S8x256x8x64, x⟩, ⟨S8x2048x8x64, y⟩] concatenates_S8x256x8x64_S8x2048x8x64_S8x2304x8x64_d1
/-- Rotary keys of both streams. -/
def bothR (x : FVec Ideal S8x256x32 .f32) (y : FVec Ideal S8x2048x32 .f32) : FVec Ideal S8x2304x32 .f32 :=
  concatenate S8x2304x32 1 [⟨S8x256x32, x⟩, ⟨S8x2048x32, y⟩] concatenates_S8x256x32_S8x2048x32_S8x2304x32_d1
/-- The scaled scores. -/
def scores (q : FVec Ideal S8x2048x8x64 .f32) (qr : FVec Ideal S8x2048x8x32 .f32) (k : FVec Ideal S8x2304x8x64 .f32)
    (kr : FVec Ideal S8x2304x32 .f32) : FVec Ideal S8x8x2048x2304 .f32 :=
  Host.divf (addf (Host.dotGeneral dot_S8x2048x8x64_S8x2304x8x64_S8x8x2048x2304_3_3_1_1_02_02 none q k) (transpose S8x8x2048x2304 [0, 3, 2, 1] (Host.dotGeneral dot_S8x2304x32_S8x2048x8x32_S8x2304x2048x8_2_3_1_12_0_0 none kr qr) transposes_S8x2304x2048x8_S8x8x2048x2304_0_3_2_1)) (broadcastInDim S8x8x2048x2304 ![] bcast_S_S8x8x2048x2304 (Host.sqrt (constant S_ .f32 0x42C00000#32)))
/-- The largest score of each query. -/
def best (s : FVec Ideal S8x8x2048x2304 .f32) : FVec Ideal S8x8x2048 .f32 :=
  Host.reduce FloatOps.maximumf s (constant S_ .f32 0xFF800000#32) reducesTo_S8x8x2048x2304_S8x8x2048_d3 h_S_
/-- The larger of −∞ and a largest score. -/
def top (b : FVec Ideal S8x8x2048 .f32) : FVec Ideal S8x8x2048 .f32 :=
  maximumf (broadcastInDim S8x8x2048 ![] bcast_S_S8x8x2048 (constant S_ .f32 0xFF800000#32)) b
/-- The exponentials of the scores less the largest. -/
def expo (s : FVec Ideal S8x8x2048x2304 .f32) (t : FVec Ideal S8x8x2048 .f32) : FVec Ideal S8x8x2048x2304 .f32 :=
  Host.exp (subf s (broadcastInDim S8x8x2048x2304 ![0, 1, 2, 3] bcast_S8x8x2048x1_S8x8x2048x2304_0_1_2_3 (broadcastInDim S8x8x2048x1 ![0, 1, 2] bcast_S8x8x2048_S8x8x2048x1_0_1_2 t)))
/-- The softmax's weights. -/
def wts (e : FVec Ideal S8x8x2048x2304 .f32) : FVec Ideal S8x8x2048x2304 .f32 :=
  Host.divf e (broadcastInDim S8x8x2048x2304 ![0, 1, 2, 3] bcast_S8x8x2048x1_S8x8x2048x2304_0_1_2_3 (broadcastInDim S8x8x2048x1 ![0, 1, 2] bcast_S8x8x2048_S8x8x2048x1_0_1_2 (Host.reduceAdd e (constant S_ .f32 0x00000000#32) reducesTo_S8x8x2048x2304_S8x8x2048_d3 h_S_)))
/-- The gated attention from weights, values and gate. -/
def out (p : FVec Ideal S8x8x2048x2304 .f32) (v : FVec Ideal S8x2304x8x64 .f32) (z : FVec Ideal S8x2048x512 .f32) : FVec Ideal S8x2048x512 .bf16 :=
  truncf .bf16 (mulf (shapeCast _ (transpose S8x2048x8x64 [0, 3, 1, 2] (Host.dotGeneral dot_S8x2304x8x64_S8x8x2048x2304_S8x8x64x2048_1_3_3_2_02_01 none v p) transposes_S8x8x64x2048_S8x2048x8x64_0_3_1_2) shapeCasts_S8x2048x8x64_S8x2048x512) (mulf z (Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf z)))))) bitsLt_bf16_f32
/-- The gated cell output, four groups of 128 lanes. -/
def cell (o : FVec Ideal S8x2048x512 .f32) (hc : FVec Ideal S8x4x2048x128 .f32) : FVec Ideal S8x2048x4x128 .f32 :=
  shapeCast _ (mulf (Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf o)))) (shapeCast _ (transpose S8x2048x4x128 [0, 2, 1, 3] hc transposes_S8x4x2048x128_S8x2048x4x128_0_2_1_3) shapeCasts_S8x2048x4x128_S8x2048x512)) shapeCasts_S8x2048x512_S8x2048x4x128
/-- The normalised cell output, with skip and gate. -/
def norm (g : FVec Ideal S8x2048x4x128 .f32) (xc z : FVec Ideal S8x2048x512 .f32) (mg sk : FVec Ideal S512 .f32) : FVec Ideal S8x2048x512 .bf16 :=
  truncf .bf16 (mulf (addf (mulf (shapeCast _ (mulf (subf g (broadcastInDim S8x2048x4x128 ![0, 1, 2, 3] bcast_S8x2048x4x1_S8x2048x4x128_0_1_2_3 (Host.divf (broadcastInDim S8x2048x4x1 ![0, 1, 2] bcast_S8x2048x4_S8x2048x4x1_0_1_2 (Host.reduceAdd g (constant S_ .f32 0x00000000#32) reducesTo_S8x2048x4x128_S8x2048x4_d3 h_S_)) (broadcastInDim S8x2048x4x1 ![] bcast_S_S8x2048x4x1 (constant S_ .f32 0x43000000#32))))) (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf (subf g (broadcastInDim S8x2048x4x128 ![0, 1, 2, 3] bcast_S8x2048x4x1_S8x2048x4x128_0_1_2_3 (Host.divf (broadcastInDim S8x2048x4x1 ![0, 1, 2] bcast_S8x2048x4_S8x2048x4x1_0_1_2 (Host.reduceAdd g (constant S_ .f32 0x00000000#32) reducesTo_S8x2048x4x128_S8x2048x4_d3 h_S_)) (broadcastInDim S8x2048x4x1 ![] bcast_S_S8x2048x4x1 (constant S_ .f32 0x43000000#32))))) (subf g (broadcastInDim S8x2048x4x128 ![0, 1, 2, 3] bcast_S8x2048x4x1_S8x2048x4x128_0_1_2_3 (Host.divf (broadcastInDim S8x2048x4x1 ![0, 1, 2] bcast_S8x2048x4_S8x2048x4x1_0_1_2 (Host.reduceAdd g (constant S_ .f32 0x00000000#32) reducesTo_S8x2048x4x128_S8x2048x4_d3 h_S_)) (broadcastInDim S8x2048x4x1 ![] bcast_S_S8x2048x4x1 (constant S_ .f32 0x43000000#32)))))) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x3727C5AC#32)))))) shapeCasts_S8x2048x4x128_S8x2048x512) (broadcastInDim S8x2048x512 ![0, 1, 2] bcast_S1x1x512_S8x2048x512_0_1_2 (broadcastInDim S1x1x512 ![2] bcast_S512_S1x1x512_2 mg))) (mulf (broadcastInDim S8x2048x512 ![0, 1, 2] bcast_S1x1x512_S8x2048x512_0_1_2 (broadcastInDim S1x1x512 ![2] bcast_S512_S1x1x512_2 sk)) xc)) (mulf z (Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf z)))))) bitsLt_bf16_f32

variable (m : (ℓ : Loc nD τ sig) → Buf (Elt Ideal) ℓ) (c : Dev nD)

/-- The scores as the arguments give them. -/
def scoresOf : FVec Ideal S8x8x2048x2304 .f32 := scores (m ((c.tc : Thread nD τ).loc main_arg0)) (m ((c.tc : Thread nD τ).loc main_arg1)) (both (m ((c.tc : Thread nD τ).loc main_arg2)) (m ((c.tc : Thread nD τ).loc main_arg5))) (bothR (m ((c.tc : Thread nD τ).loc main_arg3)) (m ((c.tc : Thread nD τ).loc main_arg6)))
theorem v62_eq : Value.res_main_v62 m c = out (wts (expo (scoresOf m c) (top (best (scoresOf m c))))) (both (m ((c.tc : Thread nD τ).loc main_arg4)) (m ((c.tc : Thread nD τ).loc main_arg7))) (m ((c.tc : Thread nD τ).loc main_arg8)) := rfl
theorem v63_eq : Value.res_main_v63 m c = norm (cell (m ((c.tc : Thread nD τ).loc main_arg10)) (m ((c.tc : Thread nD τ).loc main_arg9))) (m ((c.tc : Thread nD τ).loc main_arg11)) (m ((c.tc : Thread nD τ).loc main_arg12)) (m ((c.tc : Thread nD τ).loc main_arg13)) (m ((c.tc : Thread nD τ).loc main_arg14)) := rfl

theorem both_at (x : FVec Ideal S8x256x8x64 .f32) (y : FVec Ideal S8x2048x8x64 .f32) (i : Fin 8) (k : Fin 2304) (h : Fin 8) (d : Fin 64) :
    both x y (ix4 i k h d) = if hk : k.val < 256 then x (ix4 i (⟨k.val, hk⟩ : Fin 256) h d) else y (ix4 i (⟨k.val - 256, by omega⟩ : Fin 2048) h d) := by
  pointwise [both]
theorem bothR_at (x : FVec Ideal S8x256x32 .f32) (y : FVec Ideal S8x2048x32 .f32) (i : Fin 8) (k : Fin 2304) (d : Fin 32) :
    bothR x y (ix3 i k d) = if hk : k.val < 256 then x (ix3 i (⟨k.val, hk⟩ : Fin 256) d) else y (ix3 i (⟨k.val - 256, by omega⟩ : Fin 2048) d) := by
  pointwise [bothR]
theorem scores_at (q : FVec Ideal S8x2048x8x64 .f32) (qr : FVec Ideal S8x2048x8x32 .f32) (k : FVec Ideal S8x2304x8x64 .f32)
    (kr : FVec Ideal S8x2304x32 .f32) (i h : Fin 8) (n : Fin 2048) (j : Fin 2304) : scores q qr k kr (ix4 i h n j)
      = Ideal.div (∑ x : Fin 64, q (ix4 i n h x) * k (ix4 i j h x) + ∑ x : Fin 32, kr (ix3 i j x) * qr (ix4 i n h x))
          (Ideal.sqrt (Ideal.ofBits .f32 0x42C00000#32)) := by
  pointwise [scores]
theorem cell_at (o : FVec Ideal S8x2048x512 .f32) (hc : FVec Ideal S8x4x2048x128 .f32) (i : Fin 8) (n : Fin 2048) (a : Fin 4) (l : Fin 128) :
    cell o hc (ix4 i n a l) = Ideal.div 1 (1 + Ideal.exp (-o (ix3 i n (⟨a.val * 128 + l.val, by omega⟩ : Fin 512)))) * hc (ix4 i a n l) := by
  pointwise [cell]
/-- A normalised value, with skip and gate, from its group of lanes. -/
def normed (g : Fin 128 → EReal) (l : Fin 128) (mg sk xc sz : EReal) : EReal :=
  ((g l - Ideal.div (∑ x, g x) (Ideal.ofBits .f32 0x43000000#32))
      * Ideal.rsqrt (Ideal.div (∑ x, (g x - Ideal.div (∑ y, g y) (Ideal.ofBits .f32 0x43000000#32))
          * (g x - Ideal.div (∑ y, g y) (Ideal.ofBits .f32 0x43000000#32))) (Ideal.ofBits .f32 0x43000000#32) + Ideal.ofBits .f32 0x3727C5AC#32)
      * mg + sk * xc) * sz
theorem norm_at (g : FVec Ideal S8x2048x4x128 .f32) (xc z : FVec Ideal S8x2048x512 .f32) (mg sk : FVec Ideal S512 .f32)
    (i : Fin 8) (n : Fin 2048) (w : Fin 512) : norm g xc z mg sk (ix3 i n w)
      = normed (fun l => g (ix4 i n (⟨w.val / 128, by omega⟩ : Fin 4) l)) ⟨w.val % 128, by omega⟩ (mg (ix1 w)) (sk (ix1 w)) (xc (ix3 i n w))
          (z (ix3 i n w) * Ideal.div 1 (1 + Ideal.exp (-z (ix3 i n w)))) := by
  unfold normed
  pointwise [norm]

/-- The largest of at least one and only real elements is a real. -/
theorem reduce_max_real {s t u : Shape} {axes : List (Fin s.rank)} (x : FVec Ideal s .f32) (init : FVec Ideal u .f32) (h : s.ReducesTo axes t)
    (hu : 0 < u.numel) (j : t.Idx) (hi : init (Shape.Idx.first hu) = (⊥ : EReal))
    (hr : ∀ i, h.drop i = j → ∃ y : ℝ, x i = (y : EReal)) (i₀ : s.Idx) (h₀ : h.drop i₀ = j) :
    ∃ a : ℝ, Host.reduce (FloatOps.maximumf (F := Ideal) (φ := .f32)) x init h hu j = (a : EReal) := by
  rw [Ideal.maximumf_eq_max, Host.reduce_eq_fold, hi]
  have lt : (Finset.univ.filter fun i => h.drop i = j).fold max (⊥ : EReal) x < ⊤ := by
    rw [Finset.fold_max_lt]
    refine ⟨bot_lt_top, fun i hi => ?_⟩
    obtain ⟨y, hy⟩ := hr i (Finset.mem_filter.1 hi).2
    rw [hy]
    exact EReal.coe_lt_top y
  obtain ⟨y, hy⟩ := hr i₀ h₀
  have gt : (y : EReal) ≤ (Finset.univ.filter fun i => h.drop i = j).fold max (⊥ : EReal) x := by
    rw [Finset.le_fold_max]
    exact Or.inr ⟨i₀, Finset.mem_filter.2 ⟨Finset.mem_univ _, h₀⟩, hy.ge⟩
  refine ⟨_, (EReal.coe_toReal lt.ne (fun hb => ?_)).symm⟩
  rw [hb] at gt
  exact absurd gt (not_le.2 (EReal.bot_lt_coe y))

theorem drop_at (x : S8x8x2048x2304.Idx) :
    reducesTo_S8x8x2048x2304_S8x8x2048_d3.drop x = ix3 (x 0 : Fin 8) (x 1 : Fin 8) (x 2 : Fin 2048) := by
  have h0 := Shape.ReducesTo.drop_apply_val reducesTo_S8x8x2048x2304_S8x8x2048_d3 x 0
  have h1 := Shape.ReducesTo.drop_apply_val reducesTo_S8x8x2048x2304_S8x8x2048_d3 x 1
  have h2 := Shape.ReducesTo.drop_apply_val reducesTo_S8x8x2048x2304_S8x8x2048_d3 x 2
  funext a
  apply Fin.ext
  match a with
  | 0 => exact h0
  | 1 => exact h1
  | 2 => exact h2

/-- Among real scores the largest is a real. -/
theorem best_real (s : FVec Ideal S8x8x2048x2304 .f32) (i h : Fin 8) (n : Fin 2048) (hs : ∀ j, ∃ x : ℝ, s (ix4 i h n j) = (x : EReal)) :
    ∃ a : ℝ, best s (ix3 i h n) = (a : EReal) := by
  have hr : ∀ x : S8x8x2048x2304.Idx, reducesTo_S8x8x2048x2304_S8x8x2048_d3.drop x = ix3 i h n → ∃ y : ℝ, s x = (y : EReal) := by
    intro x hx
    rw [drop_at] at hx
    obtain ⟨y, hy⟩ := hs (x 3 : Fin 2304)
    refine ⟨y, hy ▸ congrArg s (funext fun a => ?_)⟩
    match a with
    | 0 => exact congrFun hx 0
    | 1 => exact congrFun hx 1
    | 2 => exact congrFun hx 2
    | 3 => rfl
  obtain ⟨a, ha⟩ := reduce_max_real s (constant S_ .f32 0xFF800000#32) reducesTo_S8x8x2048x2304_S8x8x2048_d3 h_S_ (ix3 i h n)
    Soft.ofBits_bot hr (ix4 i h n 0) (drop_at _)
  exact ⟨a, ha⟩
theorem top_at (b : FVec Ideal S8x8x2048 .f32) (i h : Fin 8) (n : Fin 2048) : top b (ix3 i h n) = b (ix3 i h n) := by
  have e : top b (ix3 i h n) = max (Ideal.ofBits .f32 0xFF800000#32) (b (ix3 i h n)) := by
    pointwise [top]
  rw [e, Soft.ofBits_bot]
  exact max_eq_right bot_le

theorem expo_at (s : FVec Ideal S8x8x2048x2304 .f32) (t : FVec Ideal S8x8x2048 .f32) (i h : Fin 8) (n : Fin 2048) (j : Fin 2304) :
    expo s t (ix4 i h n j) = Ideal.exp (s (ix4 i h n j) - t (ix3 i h n)) := by
  pointwise [expo]
theorem wts_at (e : FVec Ideal S8x8x2048x2304 .f32) (i h : Fin 8) (n : Fin 2048) (j : Fin 2304) :
    wts e (ix4 i h n j) = Ideal.div (e (ix4 i h n j)) (∑ x, e (ix4 i h n x)) := by
  pointwise [wts]
theorem out_at (p : FVec Ideal S8x8x2048x2304 .f32) (v : FVec Ideal S8x2304x8x64 .f32) (z : FVec Ideal S8x2048x512 .f32)
    (i : Fin 8) (n : Fin 2048) (w : Fin 512) : out p v z (ix3 i n w)
      = (∑ k, v (ix4 i k (⟨w.val / 64, by omega⟩ : Fin 8) (⟨w.val % 64, by omega⟩ : Fin 64)) * p (ix4 i (⟨w.val / 64, by omega⟩ : Fin 8) n k))
        * (z (ix3 i n w) * Ideal.div 1 (1 + Ideal.exp (-z (ix3 i n w)))) := by
  pointwise [out]

end Cert.Attn.Ref
end
-- ==== Proof.Cell.lean ====
/-
  The second result's block at an index: the gated cell output, normalised over its group of 128 lanes.
-/
module
public import proofs.«01_k».proof.Proof.Body
public import proofs.«01_k».proof.Proof.RefAt
public import Idealize.ShloMosaic.Lib.Pointwise
@[expose] public section
set_option maxRecDepth 16384
noncomputable section
open Idealize.ShloMosaic Idealize.ShloMosaic.TcCoe
namespace Cert.Attn
open Cert.KernelIdeal Cert.KernelIdeal.Gen

/-- Four groups of 128 lanes, each normalised by itself. -/
theorem yg_at (hs : Vec Ideal S1x1x512x128 .f32) (om zm xc : Vec Ideal S1x128x512 .bf16) (mg sk : Vec Ideal S1x512 .f32) (r : Fin 128) (w : Fin 512) :
  k0_pay18 (k0_pay9 zm) (k0_pay17 (k0_pay10 xc) (k0_pay11 mg) (k0_pay12 sk)
    (k0_pay13 (k0_pay8 hs) om) (k0_pay14 (k0_pay8 hs) om)
    (k0_pay15 (k0_pay8 hs) om) (k0_pay16 (k0_pay8 hs) om)) (ix3 0 r w)
  = Ref.normed (fun l : Fin 128 => hs (ix4 0 0 (⟨128 * (w.val / 128) + l.val, by omega⟩ : Fin 512) r) * om (ix3 0 r (⟨128 * (w.val / 128) + l.val, by omega⟩ : Fin 512)))
      ⟨w.val % 128, by omega⟩ (mg (ix2 0 w)) (sk (ix2 0 w)) (xc (ix3 0 r w)) (zm (ix3 0 r w)) := by
  have hw := w.isLt
  pointwise [k0_pay8, k0_pay9, k0_pay10, k0_pay11, k0_pay12, k0_pay13, k0_pay14, k0_pay15, k0_pay16, k0_pay17, k0_pay18]
  have z : ∀ a b : Fin 512, a.val = b.val → hs (ix4 0 0 a r) * om (ix3 0 r a) = hs (ix4 0 0 b r) * om (ix3 0 r b) := by
    intro a b h
    rw [Fin.ext h]
  rcases (by omega : w.val < 128 ∨ (128 ≤ w.val ∧ w.val < 256) ∨ (256 ≤ w.val ∧ w.val < 384) ∨ 384 ≤ w.val) with h | h | h | h
  · rw [dif_pos h]
    have e : (fun l : Fin 128 => hs (ix4 0 0 (⟨128 * (w.val / 128) + l.val, by omega⟩ : Fin 512) r) * om (ix3 0 r (⟨128 * (w.val / 128) + l.val, by omega⟩ : Fin 512)))
        = fun l : Fin 128 => hs (ix4 0 0 (⟨ l.val, by omega⟩ : Fin 512) r) * om (ix3 0 r (⟨ l.val, by omega⟩ : Fin 512)) :=
      funext fun l => z _ _ (by show 128 * (w.val / 128) + l.val =  l.val; omega)
    refine Eq.trans ?_ (congrArg (fun g => Ref.normed g _ _ _ _ _) e.symm)
    unfold Ref.normed
    congr 5
    exact z _ _ (by show w.val =  (w.val % 128); omega)
  · rw [dif_neg (show ¬ w.val < 128 by omega), dif_pos (show w.val - 128 < 128 by omega)]
    have e : (fun l : Fin 128 => hs (ix4 0 0 (⟨128 * (w.val / 128) + l.val, by omega⟩ : Fin 512) r) * om (ix3 0 r (⟨128 * (w.val / 128) + l.val, by omega⟩ : Fin 512)))
        = fun l : Fin 128 => hs (ix4 0 0 (⟨128 + l.val, by omega⟩ : Fin 512) r) * om (ix3 0 r (⟨128 + l.val, by omega⟩ : Fin 512)) :=
      funext fun l => z _ _ (by show 128 * (w.val / 128) + l.val = 128 + l.val; omega)
    refine Eq.trans ?_ (congrArg (fun g => Ref.normed g _ _ _ _ _) e.symm)
    unfold Ref.normed
    congr 5
    exact z _ _ (by show 128 + (w.val - 128) = 128 + (w.val % 128); omega)
  · rw [dif_neg (show ¬ w.val < 128 by omega), dif_neg (show ¬ w.val - 128 < 128 by omega), dif_pos (show w.val - 128 - 128 < 128 by omega)]
    have e : (fun l : Fin 128 => hs (ix4 0 0 (⟨128 * (w.val / 128) + l.val, by omega⟩ : Fin 512) r) * om (ix3 0 r (⟨128 * (w.val / 128) + l.val, by omega⟩ : Fin 512)))
        = fun l : Fin 128 => hs (ix4 0 0 (⟨256 + l.val, by omega⟩ : Fin 512) r) * om (ix3 0 r (⟨256 + l.val, by omega⟩ : Fin 512)) :=
      funext fun l => z _ _ (by show 128 * (w.val / 128) + l.val = 256 + l.val; omega)
    refine Eq.trans ?_ (congrArg (fun g => Ref.normed g _ _ _ _ _) e.symm)
    unfold Ref.normed
    congr 5
    exact z _ _ (by show 256 + (w.val - 128 - 128) = 256 + (w.val % 128); omega)
  · rw [dif_neg (show ¬ w.val < 128 by omega), dif_neg (show ¬ w.val - 128 < 128 by omega), dif_neg (show ¬ w.val - 128 - 128 < 128 by omega)]
    have e : (fun l : Fin 128 => hs (ix4 0 0 (⟨128 * (w.val / 128) + l.val, by omega⟩ : Fin 512) r) * om (ix3 0 r (⟨128 * (w.val / 128) + l.val, by omega⟩ : Fin 512)))
        = fun l : Fin 128 => hs (ix4 0 0 (⟨384 + l.val, by omega⟩ : Fin 512) r) * om (ix3 0 r (⟨384 + l.val, by omega⟩ : Fin 512)) :=
      funext fun l => z _ _ (by show 128 * (w.val / 128) + l.val = 384 + l.val; omega)
    refine Eq.trans ?_ (congrArg (fun g => Ref.normed g _ _ _ _ _) e.symm)
    unfold Ref.normed
    congr 5
    exact z _ _ (by show 384 + (w.val - 128 - 128 - 128) = 384 + (w.val % 128); omega)

end Cert.Attn
end
-- ==== Proof.Point.lean ====
/-
  One grid point: its two blocks are the reference's results at the places the blocks sit.
-/
module
public import proofs.«01_k».proof.Proof.Blocks
public import proofs.«01_k».proof.Proof.Heads
public import proofs.«01_k».proof.Proof.Cell
public import proofs.«01_k».proof.Proof.RefAt
@[expose] public section
set_option maxRecDepth 16384
noncomputable section
open Idealize.ShloMosaic Idealize.ShloMosaic.TcCoe
namespace Cert.Attn
open Cert.KernelIdeal Cert.KernelIdeal.Gen

/-! ## Real scores -/

theorem qdiv_eq : qdiv = ((Real.sqrt 96 * Real.log 2 : ℝ) : EReal) := Soft.scale_eq

theorem rho_pos : 0 < Real.sqrt 96 := Real.sqrt_pos.2 (by norm_num)
theorem rho_ne : Real.sqrt 96 * Real.log 2 ≠ 0 := (mul_pos rho_pos (Real.log_pos (by norm_num))).ne'

/-- A score over the 128 lanes, the padding dropped and the divisor taken out. -/
theorem score_real (K Q : Fin 128 → EReal) (k q : Fin 64 → ℝ) (kr qr : Fin 32 → ℝ)
    (k0 : ∀ d : Fin 64, K ⟨d.val, by omega⟩ = (k d : EReal)) (k1 : ∀ d : Fin 32, K ⟨64 + d.val, by omega⟩ = 0)
    (k2 : ∀ d : Fin 32, K ⟨96 + d.val, by omega⟩ = (kr d : EReal))
    (q0 : ∀ d : Fin 64, Q ⟨d.val, by omega⟩ = Ideal.div (q d : EReal) qdiv)
    (q2 : ∀ d : Fin 32, Q ⟨96 + d.val, by omega⟩ = Ideal.div (qr d : EReal) qdiv) :
    ∑ l, K l * Q l = (((∑ d, q d * k d + ∑ d, kr d * qr d) / (Real.sqrt 96 * Real.log 2) : ℝ) : EReal) := by
  rw [lanes]
  simp only [k0, k1, k2, q0, q2, qdiv_eq, Ideal.div_coe rho_ne, zero_mul, Finset.sum_const_zero, add_zero, ← EReal.coe_mul]
  rw [Soft.coe_sum, Soft.coe_sum, ← EReal.coe_add]
  congr 1
  rw [add_div, Finset.sum_div, Finset.sum_div]
  congr 1 <;> refine Finset.sum_congr rfl fun d _ => ?_ <;> ring

namespace Blk
variable (b : Blk Ideal)

theorem cut_za (f : S1x512x512.Idx → EReal) (h : ∀ a, (![0, 0, 0] : Fin 3 → ℕ) a + S1x512x512.size a ≤ S1x512x512.size a) (n w : Fin 512) :
    cut (F := Ideal) (s := S1x512x512) (e := .bf16) f ![0, 0, 0] S1x512x512.size h (ix3 0 n w) = f (ix3 0 n w) := by
  refine congrArg f (funext fun a => ?_)
  fin_cases a <;> apply Fin.ext <;> simp [Rect.unit]
theorem ot_at (w n : Fin 512) : b.ot (ix2 w n) = b.oh (⟨w.val / 64, by omega⟩ : Fin 8) (ix2 (⟨w.val % 64, by omega⟩ : Fin 64) n) := by
  unfold ot
  refine congrArg (b.oh _) (funext fun a => ?_)
  match a with
  | 0 => rfl
  | 1 => rfl
theorem gate_at (o : Vec Ideal S512x512 .f32) (z : Vec Ideal S1x512x512 .bf16) (n w : Fin 512) :
    k0_pay1 (k0_pay71 o z) (ix3 0 n w) = o (ix2 w n) * z (ix3 0 n w) := by
  pointwise [k0_pay1, k0_pay71]
theorem ya_at (n w : Fin 512) : b.ya (ix3 0 n w)
    = b.oh (⟨w.val / 64, by omega⟩ : Fin 8) (ix2 (⟨w.val % 64, by omega⟩ : Fin 64) n) * b.za (ix3 0 n w) := by
  unfold ya
  rw [gate_at, ot_at, cut_za]

theorem hsg_at (g : Fin 4) (w : Fin 512) (l : Fin 128) : b.hsg g (ix4 0 0 w l) = b.hs (ix4 0 g w l) := by
  refine congrArg b.hs (funext fun a => ?_)
  fin_cases a <;> apply Fin.ext <;> simp [Rect.unit]
theorem omg_at (g : Fin 4) (r : Fin 128) (w : Fin 512) : b.omg g (ix3 0 r w) = b.om (ix3 0 (⟨128 * g.val + r.val, by omega⟩ : Fin 512) w) := by
  refine congrArg b.om (funext fun a => ?_)
  fin_cases a <;> apply Fin.ext <;> simp [Rect.unit]
theorem zmg_at (g : Fin 4) (r : Fin 128) (w : Fin 512) : b.zmg g (ix3 0 r w) = b.zm (ix3 0 (⟨128 * g.val + r.val, by omega⟩ : Fin 512) w) := by
  refine congrArg b.zm (funext fun a => ?_)
  fin_cases a <;> apply Fin.ext <;> simp [Rect.unit]
theorem xcg_at (g : Fin 4) (r : Fin 128) (w : Fin 512) : b.xcg g (ix3 0 r w) = b.xc (ix3 0 (⟨128 * g.val + r.val, by omega⟩ : Fin 512) w) := by
  refine congrArg b.xc (funext fun a => ?_)
  fin_cases a <;> apply Fin.ext <;> simp [Rect.unit]
theorem mgr_at (w : Fin 512) : b.mgr (ix2 0 w) = b.mg (ix2 0 w) := by
  refine congrArg b.mg (funext fun a => ?_)
  fin_cases a <;> apply Fin.ext <;> simp [Rect.unit]
theorem skr_at (w : Fin 512) : b.skr (ix2 0 w) = b.sk (ix2 0 w) := by
  refine congrArg b.sk (funext fun a => ?_)
  fin_cases a <;> apply Fin.ext <;> simp [Rect.unit]

theorem yb_at (n w : Fin 512) : b.yb (ix3 0 n w)
    = Ref.normed (fun l : Fin 128 => b.hs (ix4 0 (⟨n.val / 128, by omega⟩ : Fin 4) (⟨128 * (w.val / 128) + l.val, by omega⟩ : Fin 512) (⟨n.val % 128, by omega⟩ : Fin 128))
        * b.om (ix3 0 n (⟨128 * (w.val / 128) + l.val, by omega⟩ : Fin 512)))
      ⟨w.val % 128, by omega⟩ (b.mg (ix2 0 w)) (b.sk (ix2 0 w)) (b.xc (ix3 0 n w)) (b.zm (ix3 0 n w)) := by
  have e : b.yb (ix3 0 n w) = b.yg (⟨n.val / 128, by omega⟩ : Fin 4) (ix3 0 (⟨n.val % 128, by omega⟩ : Fin 128) w) := by
    refine congrArg (b.yg _) (funext fun a => ?_)
    match a with
    | 0 => rfl
    | 1 => rfl
    | 2 => rfl
  have hn : (⟨128 * (⟨n.val / 128, by omega⟩ : Fin 4).val + (⟨n.val % 128, by omega⟩ : Fin 128).val, by show 128 * (n.val / 128) + n.val % 128 < 512; omega⟩ : Fin 512) = n :=
    Fin.ext (by show 128 * (n.val / 128) + n.val % 128 = n.val; omega)
  rw [e]
  unfold yg
  rw [yg_at]
  simp only [hsg_at, omg_at, zmg_at, xcg_at, mgr_at, skr_at, hn]

end Blk
end Cert.Attn
end
-- ==== Proof.Value.lean ====
/-
  One grid point's two blocks are the reference's results where the blocks sit; so the arrays end at the reference's results.
-/
module
public import proofs.«01_k».proof.Proof.Point
@[expose] public section
set_option maxRecDepth 16384
noncomputable section
open Idealize.ShloMosaic Idealize.ShloMosaic.TcCoe Idealize.SL.Sem
namespace Cert.Attn
open Cert.KernelIdeal Cert.KernelIdeal.Gen

variable (m : (ℓ : Loc nD τ sig) → Buf (Elt Ideal) ℓ) (c : Dev nD) (t : Fin cfg0.N)

/-- The convolution's output, cast. -/
def xcT (x : FVec Ideal S8x2048x512 .f32) : FVec Ideal S8x2048x512 .bf16 := truncf .bf16 x bitsLt_bf16_f32

set_option maxHeartbeats 4000000 in
theorem V_v60 : V m c main_v60 = xcT (m ((c.tc : Thread nD τ).loc main_arg11)) := by
  dsimp only [V, hostOps0]
  after_results_simp; rfl

/-- The arguments, named. -/
abbrev a0 : FVec Ideal S8x2048x8x64 .f32 := m ((c.tc : Thread nD τ).loc main_arg0)
abbrev a1 : FVec Ideal S8x2048x8x32 .f32 := m ((c.tc : Thread nD τ).loc main_arg1)
abbrev a2 : FVec Ideal S8x256x8x64 .f32 := m ((c.tc : Thread nD τ).loc main_arg2)
abbrev a3 : FVec Ideal S8x256x32 .f32 := m ((c.tc : Thread nD τ).loc main_arg3)
abbrev a4 : FVec Ideal S8x256x8x64 .f32 := m ((c.tc : Thread nD τ).loc main_arg4)
abbrev a5 : FVec Ideal S8x2048x8x64 .f32 := m ((c.tc : Thread nD τ).loc main_arg5)
abbrev a6 : FVec Ideal S8x2048x32 .f32 := m ((c.tc : Thread nD τ).loc main_arg6)
abbrev a7 : FVec Ideal S8x2048x8x64 .f32 := m ((c.tc : Thread nD τ).loc main_arg7)
abbrev a8 : FVec Ideal S8x2048x512 .f32 := m ((c.tc : Thread nD τ).loc main_arg8)
abbrev a9 : FVec Ideal S8x4x2048x128 .f32 := m ((c.tc : Thread nD τ).loc main_arg9)
abbrev a10 : FVec Ideal S8x2048x512 .f32 := m ((c.tc : Thread nD τ).loc main_arg10)
abbrev a11 : FVec Ideal S8x2048x512 .f32 := m ((c.tc : Thread nD τ).loc main_arg11)
abbrev a12 : FVec Ideal S8x2048x512 .f32 := m ((c.tc : Thread nD τ).loc main_arg12)
abbrev a13 : FVec Ideal S512 .f32 := m ((c.tc : Thread nD τ).loc main_arg13)
abbrev a14 : FVec Ideal S512 .f32 := m ((c.tc : Thread nD τ).loc main_arg14)

/-- The batch entry of a grid point, and its row `n` in the array. -/
def bat : Fin 8 := ⟨t.val / 4, by have := point_lt t; omega⟩
def row (n : Fin 512) : Fin 2048 := ⟨512 * (t.val % 4) + n.val, by omega⟩

/-- The queries and the keys are finite. -/
structure Fin6 : Prop where
  h0 : ∀ i, ∃ r : ℝ, a0 m c i = (r : EReal)
  h1 : ∀ i, ∃ r : ℝ, a1 m c i = (r : EReal)
  h2 : ∀ i, ∃ r : ℝ, a2 m c i = (r : EReal)
  h3 : ∀ i, ∃ r : ℝ, a3 m c i = (r : EReal)
  h5 : ∀ i, ∃ r : ℝ, a5 m c i = (r : EReal)
  h6 : ∀ i, ∃ r : ℝ, a6 m c i = (r : EReal)

/-! ## The blocks' keys and values are the reference's -/

theorem ctx_div (x : ℕ) (h : x < 256) : (256 * (t.val / 4) + x) / 256 = t.val / 4 := by omega
theorem ctx_mod (x : ℕ) (h : x < 256) : (256 * (t.val / 4) + x) % 256 = x := by omega

theorem key_lo (h : Fin 8) (k : Fin 2304) (d : Fin 64) :
    (blkAt m c t).key h k ⟨d.val, by omega⟩ = Ref.both (a2 m c) (a5 m c) (ix4 (bat t) k h d) := by
  rw [Blk.key, Ref.both_at]
  by_cases hk : k.val < 256
  · rw [dif_pos hk, dif_pos hk, kc_blk, V_v22, kc_lo]
    simp only [ctx_div t k.val hk, ctx_mod t k.val hk]
    rfl
  · rw [dif_neg hk, dif_neg hk, kl_blk, V_v14, kl_lo]
    rfl
theorem key_mid (h : Fin 8) (k : Fin 2304) (d : Fin 32) : (blkAt m c t).key h k ⟨64 + d.val, by omega⟩ = 0 := by
  rw [Blk.key]
  by_cases hk : k.val < 256
  · rw [dif_pos hk, kc_blk, V_v22, kc_mid]
  · rw [dif_neg hk, kl_blk, V_v14, kl_mid]
theorem key_hi (h : Fin 8) (k : Fin 2304) (d : Fin 32) :
    (blkAt m c t).key h k ⟨96 + d.val, by omega⟩ = Ref.bothR (a3 m c) (a6 m c) (ix3 (bat t) k d) := by
  rw [Blk.key, Ref.bothR_at]
  by_cases hk : k.val < 256
  · rw [dif_pos hk, dif_pos hk, kc_blk, V_v22, kc_hi]
    simp only [ctx_div t k.val hk, ctx_mod t k.val hk]
    rfl
  · rw [dif_neg hk, dif_neg hk, kl_blk, V_v14, kl_hi]
    rfl
theorem val_lo (h : Fin 8) (k : Fin 2304) (d : Fin 64) :
    (blkAt m c t).val h ⟨d.val, by omega⟩ k = Ref.both (a4 m c) (a7 m c) (ix4 (bat t) k h d) := by
  rw [Blk.val, Ref.both_at]
  by_cases hk : k.val < 256
  · rw [dif_pos hk, dif_pos hk, vc_blk, V_v33, vc_lo]
    simp only [ctx_div t k.val hk, ctx_mod t k.val hk]
    rfl
  · rw [dif_neg hk, dif_neg hk, vl_blk, V_v27, vl_lo]
    rfl
theorem val_one (h : Fin 8) (k : Fin 2304) : (blkAt m c t).val h 64 k = 1 := by
  rw [Blk.val]
  by_cases hk : k.val < 256
  · rw [dif_pos hk, vc_blk, V_v33, vc_one]
  · rw [dif_neg hk, vl_blk, V_v27, vl_one]

theorem both_real (x : FVec Ideal S8x256x8x64 .f32) (y : FVec Ideal S8x2048x8x64 .f32) (hx : ∀ i, ∃ r : ℝ, x i = (r : EReal))
    (hy : ∀ i, ∃ r : ℝ, y i = (r : EReal)) (i : Fin 8) (k : Fin 2304) (h : Fin 8) (d : Fin 64) : ∃ r : ℝ, Ref.both x y (ix4 i k h d) = (r : EReal) := by
  rw [Ref.both_at]
  split
  · exact hx _
  · exact hy _
theorem bothR_real (x : FVec Ideal S8x256x32 .f32) (y : FVec Ideal S8x2048x32 .f32) (hx : ∀ i, ∃ r : ℝ, x i = (r : EReal))
    (hy : ∀ i, ∃ r : ℝ, y i = (r : EReal)) (i : Fin 8) (k : Fin 2304) (d : Fin 32) : ∃ r : ℝ, Ref.bothR x y (ix3 i k d) = (r : EReal) := by
  rw [Ref.bothR_at]
  split
  · exact hx _
  · exact hy _

/-- The reference's scores from the kernel's arguments. -/
def S : FVec Ideal Cert.ReferenceIdeal.S8x8x2048x2304 .f32 :=
  Ref.scores (a0 m c) (a1 m c) (Ref.both (a2 m c) (a5 m c)) (Ref.bothR (a3 m c) (a6 m c))
/-- The reference's first result from the kernel's arguments. -/
def R0 : FVec Ideal S8x2048x512 .bf16 :=
  Ref.out (Ref.wts (Ref.expo (S m c) (Ref.top (Ref.best (S m c))))) (Ref.both (a4 m c) (a7 m c)) (a8 m c)
/-- The reference's second result from the kernel's arguments. -/
def R1 : FVec Ideal S8x2048x512 .bf16 :=
  Ref.norm (Ref.cell (a10 m c) (a9 m c)) (a11 m c) (a12 m c) (a13 m c) (a14 m c)

/-- A row of scores, real, on both sides. -/
theorem scores_both (H : Fin6 m c) (h : Fin 8) (n : Fin 512) : ∃ r : Fin 2304 → ℝ,
    (∀ k, (blkAt m c t).score h n k = ((r k / (Real.sqrt 96 * Real.log 2) : ℝ) : EReal))
    ∧ ∀ k, S m c (ix4 (bat t) h (row t n) k) = Ideal.div (r k : EReal) ((Real.sqrt 96 : ℝ) : EReal) := by
  choose f0 e0 using H.h0
  choose f1 e1 using H.h1
  have hk := fun k d => both_real (a2 m c) (a5 m c) H.h2 H.h5 (bat t) k h d
  have hr := fun k d => bothR_real (a3 m c) (a6 m c) H.h3 H.h6 (bat t) k d
  choose f2 e2 using hk
  choose f3 e3 using hr
  refine ⟨fun k => ∑ d : Fin 64, f0 (ix4 (bat t) (row t n) h d) * f2 k d + ∑ d : Fin 32, f3 k d * f1 (ix4 (bat t) (row t n) h d), fun k => ?_, fun k => ?_⟩
  · refine score_real _ _ (f2 k) (fun d => f0 (ix4 (bat t) (row t n) h d)) (f3 k) (fun d => f1 (ix4 (bat t) (row t n) h d))
      (fun d => (key_lo m c t h k d).trans (e2 k d)) (fun d => key_mid m c t h k d) (fun d => (key_hi m c t h k d).trans (e3 k d)) (fun d => ?_) (fun d => ?_)
    · rw [q_blk, V_v8, q_lo]
      exact congrArg (Ideal.div · qdiv) (e0 _)
    · rw [q_blk, V_v8, q_hi]
      exact congrArg (Ideal.div · qdiv) (e1 _)
  · refine (Ref.scores_at _ _ _ _ _ _ _ _).trans ?_
    rw [Soft.sqrt_96]
    refine congrArg (Ideal.div · _) ?_
    rw [EReal.coe_add, ← Soft.coe_sum, ← Soft.coe_sum]
    refine congrArg₂ (· + ·) (Finset.sum_congr rfl fun d _ => ?_) (Finset.sum_congr rfl fun d _ => ?_)
    · rw [EReal.coe_mul]
      exact congrArg₂ (· * ·) (e0 _) (e2 k d)
    · rw [EReal.coe_mul]
      exact congrArg₂ (· * ·) (e3 k d) (e1 _)

/-- The first result's block. -/
theorem ya_point (H : Fin6 m c) (n w : Fin 512) : (blkAt m c t).ya (ix3 0 n w) = R0 m c (ix3 (bat t) (row t n) w) := by
  obtain ⟨r, h1, h2⟩ := scores_both m c t H ⟨w.val / 64, by omega⟩ n
  obtain ⟨a, ha⟩ := Ref.best_real (S m c) (bat t) ⟨w.val / 64, by omega⟩ (row t n) fun j =>
    ⟨r j * (1 / Real.sqrt 96), by rw [h2, Ideal.div_coe rho_pos.ne', EReal.coe_mul]⟩
  rw [Blk.ya_at, Blk.oh_soft _ _ _ _ (Real.sqrt 96) rho_pos r h1 (fun k => val_one m c t _ k) a, za_blk, V_v41, silu_at]
  refine Eq.trans ?_ (Ref.out_at _ _ _ (bat t) (row t n) w).symm
  refine congrArg₂ (· * ·) (Finset.sum_congr rfl fun k _ => congrArg₂ (· * ·) (val_lo m c t _ k _) ?_) rfl
  simp only [Ref.wts_at, Ref.expo_at, Ref.top_at, ha, h2]

/-- The second result's block. -/
theorem yb_point (n w : Fin 512) : (blkAt m c t).yb (ix3 0 n w) = R1 m c (ix3 (bat t) (row t n) w) := by
  rw [Blk.yb_at]
  refine Eq.trans ?_ (Ref.norm_at _ _ _ _ _ (bat t) (row t n) w).symm
  have eg : (fun l : Fin 128 => (blkAt m c t).hs (ix4 0 (⟨n.val / 128, by omega⟩ : Fin 4) (⟨128 * (w.val / 128) + l.val, by omega⟩ : Fin 512) (⟨n.val % 128, by omega⟩ : Fin 128))
        * (blkAt m c t).om (ix3 0 n (⟨128 * (w.val / 128) + l.val, by omega⟩ : Fin 512)))
      = fun l => Ref.cell (a10 m c) (a9 m c) (ix4 (bat t) (row t n) (⟨w.val / 128, by omega⟩ : Fin 4) l) := by
    funext l
    rw [Ref.cell_at, hs_blk, V_v59, hs_at, om_blk, V_v48, sig_at, mul_comm]
    refine congrArg₂ (· * ·) (congrArg (fun x => Ideal.div 1 (1 + Ideal.exp (-x))) (congrArg (a10 m c) ?_)) (congrArg (a9 m c) ?_)
    · refine congrArg (ix3 (bat t) (row t n)) (Fin.ext ?_)
      show 128 * (w.val / 128) + l.val = w.val / 128 * 128 + l.val
      omega
    · have p1 : (128 * (w.val / 128) + l.val) / 128 = w.val / 128 := by omega
      have p2 : (128 * (w.val / 128) + l.val) % 128 = l.val := by omega
      have p3 : (4 * (t.val % 4) + n.val / 128) * 128 + n.val % 128 = 512 * (t.val % 4) + n.val := by omega
      simp only [p1, p2, p3]
      rfl
  rw [eg, mg_blk, sk_blk, xc_blk, zm_blk, V_v61, V_v62, V_v60, V_v56, row_at, row_at, silu_at]
  rfl

/-! ## The arrays at the end -/

theorem ya_emb (n w : Fin 512) : (win0_12.blk t).view.emb (ix3 0 n w) = (ix3 (bat t) (row t n) w) := by
  unfold bat row
  blk_ext [idx12 t]
theorem yb_emb (n w : Fin 512) : (win0_13.blk t).view.emb (ix3 0 n w) = (ix3 (bat t) (row t n) w) := by
  unfold bat row
  blk_ext [idx13 t]

/-- An index of a block of results, by its coordinates. -/
theorem ix_blk (y : S1x512x512.Idx) : ∃ n w : Fin 512, y = ix3 0 n w :=
  ⟨y 1, y 2, by funext a; fin_cases a <;> first | rfl | exact Subsingleton.elim (α := Fin 1) _ _⟩

theorem final_a (H : Fin6 m c) : (dats m 0 c).arrAt 12 (cfgs 0).N = R0 m c := by
  refine (dats m 0 c).arrAt_eq_of_covers 12 _ (by decide +kernel) fun t _ y => ?_
  blk_simp
  rw [after0_12]
  obtain ⟨n, w, rfl⟩ := ix_blk y
  exact (ya_point m c t H n w).trans (congrArg (R0 m c) (ya_emb t n w)).symm

theorem final_b : (dats m 0 c).arrAt 13 (cfgs 0).N = R1 m c := by
  refine (dats m 0 c).arrAt_eq_of_covers 13 _ (by decide +kernel) fun t _ y => ?_
  blk_simp
  rw [after0_13]
  obtain ⟨n, w, rfl⟩ := ix_blk y
  exact (yb_point m c t n w).trans (congrArg (R1 m c) (yb_emb t n w)).symm

end Cert.Attn
end
-- ==== Proof.Finite.lean ====
/-
  What the precondition says: every element of the queries and of the keys is a real.
-/
module
public import proofs.«01_k».proof.Defs
public import proofs.«01_k».proof.Proof.Gen.KernelIdeal
public import Idealize.ShloMosaic.Lib.ReduceAll
public import Idealize.ShloMosaic.Lib.Pointwise
@[expose] public section
set_option maxRecDepth 16384
noncomputable section
open Idealize.ShloMosaic Idealize.ShloMosaic.TcCoe
namespace Cert.Attn.Finite
open Cert.Pre_finite_scores

/-- The side conditions of the precondition's operations. -/
theorem facts : Cert.Pre_finite_scores.Facts where
  bcast_S_S8x2048x8x64 := by decide
  reducesTo_S8x2048x8x64_S_d0_1_2_3 := by decide
  h_S_ := by decide
  bcast_S_S8x2048x8x32 := by decide
  reducesTo_S8x2048x8x32_S_d0_1_2_3 := by decide
  bcast_S_S8x256x8x64 := by decide
  reducesTo_S8x256x8x64_S_d0_1_2_3 := by decide
  bcast_S_S8x256x32 := by decide
  reducesTo_S8x256x32_S_d0_1_2 := by decide
  bcast_S_S8x2048x32 := by decide
  reducesTo_S8x2048x32_S_d0_1_2 := by decide

theorem ofBits_top : Ideal.ofBits .f32 0x7F800000#32 = ⊤ := by
  simp [Ideal.ofBits, Ideal.ieee]

/-- A number whose magnitude is below infinity is a real. -/
theorem real_of_lt (x : EReal) (h : max x (-x) < ⊤) : ∃ r : ℝ, x = (r : EReal) := by
  induction x with
  | bot => simp at h
  | coe r => exact ⟨r, rfl⟩
  | top => simp at h

instance : Subsingleton S_.Idx := ⟨fun _ _ => funext fun i => i.elim0⟩

/-- An array all of whose magnitudes are below infinity has only reals. -/
theorem all_real {s : Shape} {axes : List (Fin s.rank)} (a : FVec Ideal s .f32) (hb : S_.BroadcastsInDim s (![] : Fin 0 → Fin s.rank))
    (h : s.ReducesTo axes S_) (hu : 0 < S_.numel) (j : S_.Idx)
    (e : Host.reduce IntOp.andi (cmpf .olt (Host.absf a) (broadcastInDim s ![] hb (constant S_ .f32 0x7F800000#32))) (constantI S_ 1 1#1) h hu j = 1#1)
    (i : s.Idx) : ∃ r : ℝ, a i = (r : EReal) := by
  have e' := Host.reduce_andi_all _ _ h hu j e i
  have e'' : Ideal.cmp .olt (max (a i) (-(a i))) (Ideal.ofBits .f32 0x7F800000#32) = 1#1 := e'
  rw [ofBits_top] at e''
  refine real_of_lt _ ?_
  by_contra hc
  simp [Ideal.cmp, hc] at e''

variable [Cert.Pre_finite_scores.Facts]

theorem of_fn (x0 : FVec Ideal S8x2048x8x64 .f32) (x1 : FVec Ideal S8x2048x8x32 .f32) (x2 : FVec Ideal S8x256x8x64 .f32)
    (x3 : FVec Ideal S8x256x32 .f32) (x4 : FVec Ideal S8x256x8x64 .f32) (x5 : FVec Ideal S8x2048x8x64 .f32) (x6 : FVec Ideal S8x2048x32 .f32)
    (x7 : FVec Ideal S8x2048x8x64 .f32) (x8 : FVec Ideal S8x2048x512 .f32) (x9 : FVec Ideal S8x4x2048x128 .f32)
    (x10 x11 x12 : FVec Ideal S8x2048x512 .f32) (x13 x14 : FVec Ideal S512 .f32)
    (e : fn (F := Ideal) x0 x1 x2 x3 x4 x5 x6 x7 x8 x9 x10 x11 x12 x13 x14 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x5 i = (r : EReal)) ∧ (∀ i, ∃ r : ℝ, x6 i = (r : EReal)) := by
  have e := congrFun e (fun i => i.elim0)
  obtain ⟨e, h6⟩ := IntOp.andi_eq_one.1 e
  obtain ⟨e, h5⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨all_real x0 _ _ _ _ h0, all_real x1 _ _ _ _ h1, all_real x2 _ _ _ _ h2, all_real x3 _ _ _ _ h3, all_real x5 _ _ _ _ h5,
    all_real x6 _ _ _ _ h6⟩

end Cert.Attn.Finite
end
-- ==== Proof.Algebraic.lean ====
/- The two idealized programs agree on both results. -/
module
public import proofs.«01_k».proof.Proof.Value
public import proofs.«01_k».proof.Proof.Finite
public import proofs.«01_k».proof.Proof.Frames
@[expose] public section
set_option maxRecDepth 16384
noncomputable section
open Idealize.ShloMosaic Idealize.SL.Sem
namespace Cert.Attn

section
variable {nD : Nat} {τ : Topo} {sig : RefSig} {Val : EltTy → Type}

/-- Two facts about the runs of one program hold together. -/
theorem run_and {Λ : Labels} {defs : Defs nD τ sig Val Λ}
    {p : (c : Thread nD τ) → Prog (TpuEff nD τ sig Val Λ c.2) PUnit} {s : MemSt nD τ sig Val} {Q Q' : PUnit × MemSt nD τ sig Val → Prop}
    (h : θ_run defs p s Q) (h' : θ_run defs p s Q') : θ_run defs p s fun r => Q r ∧ Q' r :=
  ⟨fun t ht hf => ⟨h.post t ht hf, h'.post t ht hf⟩, h.progress, h.fair⟩

end

section
open Cert.KernelIdeal Cert.KernelIdeal.Gen
variable {F : FTy → Type} [FloatOps F]

/-- The kernel's run: its two results are the staged arrays' last contents, and its arguments are as they were. -/
theorem run_any (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v63_0) = (dats m 0 c).arrAt 12 (cfgs 0).N
      ∧ r.2.mem ((c.tc : Thread nD τ).loc main_v63_1) = (dats m 0 c).arrAt 13 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h.1.1 c).1 12, (h.1.1 c).1 13, h.2.1 c⟩) (run_and (run_main m ρ) (frame_any m ρ))

end

/-- The reference's results are those functions of the arguments it shares with the kernel. -/
theorem ref_res (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Value.res_main_v62 m' c = R0 m c ∧ Cert.ReferenceIdeal.Value.res_main_v63 m' c = R1 m c := by
  obtain ⟨e0, e1, e2, e3, e4, e5, e6, e7, e8, e9, e10, e11, e12, e13, e14⟩ := e
  constructor
  · rw [Ref.v62_eq]
    unfold Ref.scoresOf
    rw [e0, e1, e2, e3, e4, e5, e6, e7, e8]
    rfl
  · rw [Ref.v63_eq, e9, e10, e11, e12, e13, e14]
    rfl

section
attribute [local instance] Cert.Attn.Finite.facts

/-- The precondition is the finiteness of the queries and keys. -/
theorem fin6 (m : (ℓ : Loc Cert.KernelIdeal.nD Cert.KernelIdeal.τ Cert.KernelIdeal.sig) → Buf (Elt Ideal) ℓ)
    (h : Cert.Pre_KernelIdeal_finite_scores m) (c : Dev Cert.KernelIdeal.nD) : Fin6 m c := by
  obtain ⟨h0, h1, h2, h3, h5, h6⟩ := Finite.of_fn _ _ _ _ _ _ _ _ _ _ _ _ _ _ _ (h c)
  exact ⟨h0, h1, h2, h3, h5, h6⟩

end

/-- From finite queries and keys the kernel and the reference end with equal results. -/
theorem algebraic : Cert.algebraic_KernelIdeal_ReferenceIdeal_pre_finite_scores (hKernelIdeal := Cert.KernelIdeal.Gen.facts)
    (hReferenceIdeal := Cert.ReferenceIdeal.Gen.facts) (hPre_finite_scores := Cert.Attn.Finite.facts) := fun m g m' g' hp hag =>
  ⟨fun c => R0 m c, fun c => R1 m c,
    (θ_run Cert.KernelIdeal.defs _ _).mono
      (fun r h c => ⟨(h c).1.trans (final_a m c (fin6 m hp c)), (h c).2.1.trans (final_b m c), (h c).2.2⟩) (run_any (F := Ideal) m g),
    (θ_run Cert.ReferenceIdeal.defs _ _).mono
      (fun r h c => ⟨(h c).1.trans (ref_res m m' c (hag c)).1, (h c).2.1.trans (ref_res m m' c (hag c)).2, (h c).2.2⟩)
      (Cert.ReferenceIdeal.Value.run (F := Ideal) m' g')⟩

end Cert.Attn
end
-- ==== Proof.Launch2.lean ====
/-
  The run of the projections' program: each grid point's blocks of the eight results are the pieces the body leaves, so the
  pipeline's arrays end at those blocks; the frame is read off at the argument arrays.
-/
module

public import proofs.«01_k».proof.Proof.Gen.Kernel2Ideal.Frame.RunA
public import Idealize.ShloMosaic.Lib.Quiescent

@[expose] public section

set_option maxRecDepth 16384

noncomputable section

namespace Cert.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run of the body at grid point `t`, on the blocks it is given there. -/
def runAt (c : Dev nD) (t : Fin cfg0.N) :=
  kernelRun0_A (F := F) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- The pieces the body stores of result 0 reach all of its block. -/
theorem cover15 (c : Dev nD) (t : Fin cfg0.N) (y) : ∃ p ∈ (runAt m c t).1, y ∈ p.1.set :=
  View.cover_of_tiledL (runAt m c t).1 S1x1x256x128.size (by unfold runAt; sl_kernel_rfl) y

/-- The pieces the body stores of result 1 reach all of its block. -/
theorem cover16 (c : Dev nD) (t : Fin cfg0.N) (y) : ∃ p ∈ (runAt m c t).2.1, y ∈ p.1.set :=
  View.cover_of_tiledL (runAt m c t).2.1 S1x1x256x128.size (by unfold runAt; sl_kernel_rfl) y

/-- The pieces of the third result reach all of its block, whatever the staging buffers are. -/
theorem cover_values (c : Dev nD) (i : grid0.Coords) (arg2 : Memref sig .tc .vmem S1x1024x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x2048 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S512x128 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1x8x1024x128 .bf16) (harg17 : arg17.IsWhole) (arg18 : Memref sig .tc .vmem S1x8x1024x128 .bf16) (harg18 : arg18.IsWhole) (arg19 : Memref sig .tc .vmem S1x8x80x1024 .bf16) (harg19 : arg19.IsWhole) (arg20 : Memref sig .tc .vmem S1x1024x512 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x1024 .f32) (harg24 : arg24.IsWhole)
    (x0 : Vec F S1x1024x1024 .f32) (x1 : Vec F S1x1x3072 .f32) (x2 : Vec F S1x1024 .f32) (x3 : Vec F S1x1024 .f32) (x4 : Vec F S1024x512 .bf16) (x5 : Vec F S1024x2048 .bf16) (x6 : Vec F S1x256 .f32) (x7 : Vec F S256x1024 .bf16) (x8 : Vec F S1x128 .f32) (x9 : Vec F S128x1024 .bf16) (x10 : Vec F S512x128 .bf16) (x11 : Vec F S1024x128 .f32) (x12 : Vec F S1024x128 .f32) (x13 : Vec F S1024x128 .f32) (x14 : Vec F S1024x128 .f32) (y : S1x8x80x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.1 ![1, 1, 16, 256] (by sl_kernel_rfl) y

/-- The pieces the body stores of result 2 reach all of its block. -/
theorem cover17 (c : Dev nD) (t : Fin cfg0.N) (y) : ∃ p ∈ (runAt m c t).2.2.1, y ∈ p.1.set :=
  cover_values c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ y

/-- The pieces the body stores of result 3 reach all of its block. -/
theorem cover18 (c : Dev nD) (t : Fin cfg0.N) (y) : ∃ p ∈ (runAt m c t).2.2.2.1, y ∈ p.1.set :=
  View.cover_of_tiledL (runAt m c t).2.2.2.1 S1x256x512.size (by unfold runAt; sl_kernel_rfl) y

/-- The pieces the body stores of result 4 reach all of its block. -/
theorem cover19 (c : Dev nD) (t : Fin cfg0.N) (y) : ∃ p ∈ (runAt m c t).2.2.2.2.1, y ∈ p.1.set :=
  View.cover_of_tiledL (runAt m c t).2.2.2.2.1 S1x256x512.size (by unfold runAt; sl_kernel_rfl) y

/-- The pieces the body stores of result 5 reach all of its block. -/
theorem cover20 (c : Dev nD) (t : Fin cfg0.N) (y) : ∃ p ∈ (runAt m c t).2.2.2.2.2.1, y ∈ p.1.set :=
  View.cover_of_tiledL (runAt m c t).2.2.2.2.2.1 S1x256x512.size (by unfold runAt; sl_kernel_rfl) y

/-- The pieces the body stores of result 6 reach all of its block. -/
theorem cover21 (c : Dev nD) (t : Fin cfg0.N) (y) : ∃ p ∈ (runAt m c t).2.2.2.2.2.2.1, y ∈ p.1.set :=
  View.cover_of_tiledL (runAt m c t).2.2.2.2.2.2.1 S1x256x512.size (by unfold runAt; sl_kernel_rfl) y

/-- The pieces the body stores of result 7 reach all of its block. -/
theorem cover22 (c : Dev nD) (t : Fin cfg0.N) (y) : ∃ p ∈ (runAt m c t).2.2.2.2.2.2.2.1, y ∈ p.1.set :=
  View.cover_of_tiledL (runAt m c t).2.2.2.2.2.2.2.1 S1x256x1024.size (by unfold runAt; sl_kernel_rfl) y

/-- The proof data: inputs keep their blocks, the results get the pieces stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => View.canon (runAt m c t).1
    | ⟨16, _⟩ => View.canon (runAt m c t).2.1
    | ⟨17, _⟩ => View.canon (runAt m c t).2.2.1
    | ⟨18, _⟩ => View.canon (runAt m c t).2.2.2.1
    | ⟨19, _⟩ => View.canon (runAt m c t).2.2.2.2.1
    | ⟨20, _⟩ => View.canon (runAt m c t).2.2.2.2.2.1
    | ⟨21, _⟩ => View.canon (runAt m c t).2.2.2.2.2.2.1
    | ⟨22, _⟩ => View.canon (runAt m c t).2.2.2.2.2.2.2.1
    | ⟨_ + 23, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = View.canon (runAt m c t).1 := by dsimp only [dats]
theorem after0_16 (c : Dev nD) (t : Fin cfg0.N) : (dats m 0 c).after 16 t = View.canon (runAt m c t).2.1 := by dsimp only [dats]
theorem after0_17 (c : Dev nD) (t : Fin cfg0.N) : (dats m 0 c).after 17 t = View.canon (runAt m c t).2.2.1 := by dsimp only [dats]
theorem after0_18 (c : Dev nD) (t : Fin cfg0.N) : (dats m 0 c).after 18 t = View.canon (runAt m c t).2.2.2.1 := by dsimp only [dats]
theorem after0_19 (c : Dev nD) (t : Fin cfg0.N) : (dats m 0 c).after 19 t = View.canon (runAt m c t).2.2.2.2.1 := by dsimp only [dats]
theorem after0_20 (c : Dev nD) (t : Fin cfg0.N) : (dats m 0 c).after 20 t = View.canon (runAt m c t).2.2.2.2.2.1 := by dsimp only [dats]
theorem after0_21 (c : Dev nD) (t : Fin cfg0.N) : (dats m 0 c).after 21 t = View.canon (runAt m c t).2.2.2.2.2.2.1 := by dsimp only [dats]
theorem after0_22 (c : Dev nD) (t : Fin cfg0.N) : (dats m 0 c).after 22 t = View.canon (runAt m c t).2.2.2.2.2.2.2.1 := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d
theorem before0_11 (c : Dev nD) (t : Fin cfg0.N) (d) : (dats m 0 c).before 11 t d = iblk m c 11 t := before0_11_of m (dats m 0 c) (A_eq m c 11) (after0_11 m c) t d
theorem before0_12 (c : Dev nD) (t : Fin cfg0.N) (d) : (dats m 0 c).before 12 t d = iblk m c 12 t := before0_12_of m (dats m 0 c) (A_eq m c 12) (after0_12 m c) t d
theorem before0_13 (c : Dev nD) (t : Fin cfg0.N) (d) : (dats m 0 c).before 13 t d = iblk m c 13 t := before0_13_of m (dats m 0 c) (A_eq m c 13) (after0_13 m c) t d
theorem before0_14 (c : Dev nD) (t : Fin cfg0.N) (d) : (dats m 0 c).before 14 t d = iblk m c 14 t := before0_14_of m (dats m 0 c) (A_eq m c 14) (after0_14 m c) t d

/-- The body the table holds for grid point `t`. -/
theorem body_row (t : Fin cfg0.N) : defs₀ (F := F) .tc cfg0.body (cfg0.bodyArgs t (cfg0.slots t)) = bodyAt0 t := by
  unfold defs₀; rw [Defs.onTc_tc]

set_option maxHeartbeats 8000000 in
/-- One grid point. -/
theorem body_obligation (c : Dev nD) : BodyObligation (dats (F := F) m 0 c) (defs₀ (F := F)) Variants.none () Set.univ := fun t => by
  rw [bigSep_W0, bigSep_W0, body_row]
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((runAt m c t).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, ⟨%e22, H22⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact View.read_writes_eq_canon _ _ _ (cover15 m c t)
  isplitl [H16]
  · unfold owns; iexists _; isplitr
    swap; · iexact H16
    ipureintro; exact View.read_writes_eq_canon _ _ _ (cover16 m c t)
  isplitl [H17]
  · unfold owns; iexists _; isplitr
    swap; · iexact H17
    ipureintro; exact View.read_writes_eq_canon _ _ _ (cover17 m c t)
  isplitl [H18]
  · unfold owns; iexists _; isplitr
    swap; · iexact H18
    ipureintro; exact View.read_writes_eq_canon _ _ _ (cover18 m c t)
  isplitl [H19]
  · unfold owns; iexists _; isplitr
    swap; · iexact H19
    ipureintro; exact View.read_writes_eq_canon _ _ _ (cover19 m c t)
  isplitl [H20]
  · unfold owns; iexists _; isplitr
    swap; · iexact H20
    ipureintro; exact View.read_writes_eq_canon _ _ _ (cover20 m c t)
  isplitl [H21]
  · unfold owns; iexists _; isplitr
    swap; · iexact H21
    ipureintro; exact View.read_writes_eq_canon _ _ _ (cover21 m c t)
  unfold owns; iexists _; isplitr
  swap; · iexact H22
  ipureintro; exact View.read_writes_eq_canon _ _ _ (cover22 m c t)

set_option backward.isDefEq.respectTransparency.types false in
/-- Every execution of the program ends, with the pipeline's arrays at what the blocks make them and no counter left. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame of the program's text over any float values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  θ_run_with_sems (frame_of m ρ (dats m) fun _ _ => rfl) (run_main m ρ)

end Cert.Proj

end
-- ==== Proof.Frames2.lean ====
/- The frames of the projections' three programs: every run ends, the arguments are as they were, and every counter is back at zero. -/
module

public import proofs.«01_k».proof.Defs
public import proofs.«01_k».proof.Proof.Gen.Kernel2
public import proofs.«01_k».proof.Proof.Gen.Reference2Ideal.Run
public import proofs.«01_k».proof.Proof.Launch2
public import Idealize.ShloMosaic.Lib.Quiescent

@[expose] public section

set_option maxRecDepth 16384

noncomputable section

namespace Cert.Proj

open Idealize.ShloMosaic Idealize.SL.Sem

/-- The idealized projections leave their arguments and counters as they found them. -/
theorem frame_ideal : Cert.quiescent_Kernel2Ideal (hKernel2Ideal := Cert.Kernel2Ideal.Gen.facts) := fun m ρ _ =>
  frame_any (F := Ideal) m ρ

section
attribute [local instance] Cert.Kernel2.Gen.facts Cert.Kernel2Ideal.Gen.facts

set_option maxHeartbeats 4000000 in
/-- The projections as printed and the idealized ones define the same body for their one label. -/
theorem bodies_eq : Cert.Kernel2.defs₀ (F := Bits) = Cert.Kernel2Ideal.defs₀ (F := Bits) := by
  refine congrArg Defs.onTc ?_
  funext l a
  match l, a with
  | 0, (t, s) => exact rfl

set_option maxHeartbeats 4000000 in
/-- So they define the same pipeline around it. -/
theorem defs_eq : Cert.Kernel2.defs (F := Bits) = Cert.Kernel2Ideal.defs (F := Bits) :=
  congrArg (Pipeline.defs (Cert.Kernel2Ideal.pcfgs (F := Bits))) bodies_eq

set_option maxHeartbeats 4000000 in
/-- The projections as printed have the same text as the idealized ones, so the same run is their frame. -/
theorem frame_kernel : Cert.quiescent_Kernel2 (hKernel2 := Cert.Kernel2.Gen.facts) := fun m ρ _ => by
  have h := frame_any (F := Bits) m ρ
  rw [← defs_eq] at h
  exact h

end

/-- The reference is a list of host operations that write no argument, and it declares no counter. -/
theorem frame_reference : Cert.quiescent_Reference2Ideal (hReference2Ideal := Cert.Reference2Ideal.Gen.facts) := fun m ρ _ =>
  (θ_run Cert.Reference2Ideal.defs _ _).mono
    (fun r h => ⟨fun c => (h c).2.2.2.2.2.2.2.2, sem_eq_zero_of_no_sems rfl r.2⟩) (Cert.Reference2Ideal.Value.run (F := Ideal) m ρ)

end Cert.Proj

end
-- ==== Proof.Ref2.lean ====
/-
  The reference of the projections in layers, each read at an index: the normalised and modulated rows, the products with
  the weights' columns, the normalised latents, the rotary parts, the assembled results.
-/
module
public import proofs.«01_k».proof.Proof.Gen.Reference2Ideal
public import proofs.«01_k».proof.Proof.Soft
public import Idealize.ShloMosaic.Lib.Pointwise
@[expose] public section
set_option maxRecDepth 16384
noncomputable section
namespace Cert.Proj.Ref
open Cert.Reference2Ideal Cert.Reference2Ideal.Gen Idealize.ShloMosaic Idealize.ShloMosaic.TcCoe

/-! ## Functions of one row -/

/-- A row without its mean, over its spread. -/
def spread (x : Fin 1024 → EReal) (d : Fin 1024) : EReal :=
  (x d - Ideal.div (∑ k, x k) (Ideal.ofBits .f32 0x44800000#32))
    * Ideal.rsqrt (Ideal.div (∑ k, (x k - Ideal.div (∑ j, x j) (Ideal.ofBits .f32 0x44800000#32))
        * (x k - Ideal.div (∑ j, x j) (Ideal.ofBits .f32 0x44800000#32))) (Ideal.ofBits .f32 0x44800000#32) + Ideal.ofBits .f32 0x3727C5AC#32)
/-- The normalised row. -/
def hRow (x g b : Fin 1024 → EReal) (d : Fin 1024) : EReal := spread x d * g d + b d
/-- The modulated row. -/
def uRow (h sh sc : Fin 1024 → EReal) (d : Fin 1024) : EReal := h d * (1 + sc d) + sh d
/-- A row over its root mean square, `c` the row's length. -/
def nRow {n : ℕ} (c : EReal) (a g : Fin n → EReal) (d : Fin n) : EReal :=
  a d * Ideal.rsqrt (Ideal.div (∑ k, a k * a k) c + Ideal.ofBits .f32 0x358637BD#32) * g d
/-- The logistic function. -/
def sig (x : EReal) : EReal := Ideal.div 1 (1 + Ideal.exp (-x))
/-- A row of 32 turned by the angles whose cosines and sines are given: in each group of 16, the first eight with the last. -/
def rot (x : Fin 32 → EReal) (cs sn : Fin 2 → Fin 8 → EReal) (j : Fin 32) : EReal :=
  if h : j.val / 8 % 2 < 1 then
    x j * cs ⟨j.val / 16, by omega⟩ ⟨j.val % 8, by omega⟩ - x ⟨j.val + 8, by omega⟩ * sn ⟨j.val / 16, by omega⟩ ⟨j.val % 8, by omega⟩
  else
    x j * cs ⟨j.val / 16, by omega⟩ ⟨j.val % 8, by omega⟩ + x ⟨j.val - 8, by omega⟩ * sn ⟨j.val / 16, by omega⟩ ⟨j.val % 8, by omega⟩

/-! ## The layers -/

/-- The rows' means. -/
def mean (x : FVec Ideal S8x2048x1024 .f32) : FVec Ideal S8x2048x1 .f32 :=
  Host.divf (broadcastInDim S8x2048x1 ![0, 1] bcast_S8x2048_S8x2048x1_0_1 (Host.reduceAdd x (constant S_ .f32 0x00000000#32) reducesTo_S8x2048x1024_S8x2048_d2 h_S_)) (broadcastInDim S8x2048x1 ![] bcast_S_S8x2048x1 (constant S_ .f32 0x44800000#32))
/-- The rows without their means. -/
def cent (x : FVec Ideal S8x2048x1024 .f32) : FVec Ideal S8x2048x1024 .f32 :=
  subf x (broadcastInDim S8x2048x1024 ![0, 1, 2] bcast_S8x2048x1_S8x2048x1024_0_1_2 (mean x))
/-- The normalised rows. -/
def lnorm (xc : FVec Ideal S8x2048x1024 .f32) (g b : FVec Ideal S1024 .f32) : FVec Ideal S8x2048x1024 .f32 :=
  addf (mulf (mulf xc (broadcastInDim S8x2048x1024 ![0, 1, 2] bcast_S8x2048x1_S8x2048x1024_0_1_2 (Host.rsqrt (addf (mean (mulf xc xc)) (broadcastInDim S8x2048x1 ![] bcast_S_S8x2048x1 (constant S_ .f32 0x3727C5AC#32)))))) (broadcastInDim S8x2048x1024 ![0, 1, 2] bcast_S1x1x1024_S8x2048x1024_0_1_2 (broadcastInDim S1x1x1024 ![2] bcast_S1024_S1x1x1024_2 g))) (broadcastInDim S8x2048x1024 ![0, 1, 2] bcast_S1x1x1024_S8x2048x1024_0_1_2 (broadcastInDim S1x1x1024 ![2] bcast_S1024_S1x1x1024_2 b))
/-- The modulated rows. -/
def modul (h : FVec Ideal S8x2048x1024 .f32) (mo : FVec Ideal S9x1x3072 .f32) : FVec Ideal S8x2048x1024 .f32 :=
  addf (mulf h (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 0, 1024] mo slices_S9x1x3072_S8x1x1024_0_0_1024)))) (broadcastInDim S8x2048x1024 ![0, 1, 2] bcast_S8x1x1024_S8x2048x1024_0_1_2 (extractStridedSlice S8x1x1024 ![0, 0, 0] mo slices_S9x1x3072_S8x1x1024_0_0_0))
/-- The products with the first weights. -/
def inp (u : FVec Ideal S8x2048x1024 .f32) (w : FVec Ideal S1024x2464 .f32) : FVec Ideal S8x2048x2464 .f32 :=
  Host.dotGeneral dot_S8x2048x1024_S1024x2464_S8x2048x2464_2_0_01_1_n_n none u w
/-- The normalised latent of the queries. -/
def nq (p : FVec Ideal S8x2048x2464 .f32) (g : FVec Ideal S256 .f32) : FVec Ideal S8x2048x256 .f32 :=
  mulf (mulf (extractStridedSlice S8x2048x256 ![0, 0, 0] p slices_S8x2048x2464_S8x2048x256_0_0_0) (broadcastInDim S8x2048x256 ![0, 1, 2] bcast_S8x2048x1_S8x2048x256_0_1_2 (Host.rsqrt (addf (Host.divf (broadcastInDim S8x2048x1 ![0, 1] bcast_S8x2048_S8x2048x1_0_1 (Host.reduceAdd (mulf (extractStridedSlice S8x2048x256 ![0, 0, 0] p slices_S8x2048x2464_S8x2048x256_0_0_0) (extractStridedSlice S8x2048x256 ![0, 0, 0] p slices_S8x2048x2464_S8x2048x256_0_0_0)) (constant S_ .f32 0x00000000#32) reducesTo_S8x2048x256_S8x2048_d2 h_S_)) (broadcastInDim S8x2048x1 ![] bcast_S_S8x2048x1 (constant S_ .f32 0x43800000#32))) (broadcastInDim S8x2048x1 ![] bcast_S_S8x2048x1 (constant S_ .f32 0x358637BD#32)))))) (broadcastInDim S8x2048x256 ![0, 1, 2] bcast_S1x1x256_S8x2048x256_0_1_2 (broadcastInDim S1x1x256 ![2] bcast_S256_S1x1x256_2 g))
/-- The normalised latent of the keys and values. -/
def nkv (p : FVec Ideal S8x2048x2464 .f32) (g : FVec Ideal S128 .f32) : FVec Ideal S8x2048x128 .f32 :=
  mulf (mulf (extractStridedSlice S8x2048x128 ![0, 0, 256] p slices_S8x2048x2464_S8x2048x128_0_0_256) (broadcastInDim S8x2048x128 ![0, 1, 2] bcast_S8x2048x1_S8x2048x128_0_1_2 (Host.rsqrt (addf (Host.divf (broadcastInDim S8x2048x1 ![0, 1] bcast_S8x2048_S8x2048x1_0_1 (Host.reduceAdd (mulf (extractStridedSlice S8x2048x128 ![0, 0, 256] p slices_S8x2048x2464_S8x2048x128_0_0_256) (extractStridedSlice S8x2048x128 ![0, 0, 256] p slices_S8x2048x2464_S8x2048x128_0_0_256)) (constant S_ .f32 0x00000000#32) reducesTo_S8x2048x128_S8x2048_d2 h_S_)) (broadcastInDim S8x2048x1 ![] bcast_S_S8x2048x1 (constant S_ .f32 0x43000000#32))) (broadcastInDim S8x2048x1 ![] bcast_S_S8x2048x1 (constant S_ .f32 0x358637BD#32)))))) (broadcastInDim S8x2048x128 ![0, 1, 2] bcast_S1x1x128_S8x2048x128_0_1_2 (broadcastInDim S1x1x128 ![2] bcast_S128_S1x1x128_2 g))
/-- The queries, head by head. -/
def qh (n : FVec Ideal S8x2048x256 .f32) (w : FVec Ideal S256x768 .f32) : FVec Ideal S8x2048x8x96 .f32 :=
  shapeCast _ (Host.dotGeneral dot_S8x2048x256_S256x768_S8x2048x768_2_0_01_1_n_n none n w) shapeCasts_S8x2048x768_S8x2048x8x96
/-- The keys and values, head by head. -/
def kvh (n : FVec Ideal S8x2048x128 .f32) (w : FVec Ideal S128x1024 .f32) : FVec Ideal S8x2048x8x128 .f32 :=
  shapeCast _ (Host.dotGeneral dot_S8x2048x128_S128x1024_S8x2048x1024_2_0_01_1_n_n none n w) shapeCasts_S8x2048x1024_S8x2048x8x128
/-- A table of the angles over batch entries and heads. -/
def ang (a : FVec Ideal S2048x2x8 .f32) : FVec Ideal S8x2048x8x2x8 .f32 :=
  broadcastInDim S8x2048x8x2x8 ![0, 1, 2, 3, 4] bcast_S1x2048x1x2x8_S8x2048x8x2x8_0_1_2_3_4 (broadcastInDim S1x2048x1x2x8 ![1, 2, 3, 4] bcast_S2048x1x2x8_S1x2048x1x2x8_1_2_3_4 (broadcastInDim S2048x1x2x8 ![0, 2, 3] bcast_S2048x2x8_S2048x1x2x8_0_2_3 a))
/-- The halves of the queries' rotary part. -/
def qlo (q : FVec Ideal S8x2048x8x96 .f32) : FVec Ideal S8x2048x8x2x8 .f32 :=
  shapeCast _ (extractStridedSlice S8x2048x8x2x1x8 ![0, 0, 0, 0, 0, 0] (shapeCast _ (extractStridedSlice S8x2048x8x32 ![0, 0, 0, 64] q slices_S8x2048x8x96_S8x2048x8x32_0_0_0_64) shapeCasts_S8x2048x8x32_S8x2048x8x2x2x8) slices_S8x2048x8x2x2x8_S8x2048x8x2x1x8_0_0_0_0_0_0) shapeCasts_S8x2048x8x2x1x8_S8x2048x8x2x8
def qhi (q : FVec Ideal S8x2048x8x96 .f32) : FVec Ideal S8x2048x8x2x8 .f32 :=
  shapeCast _ (extractStridedSlice S8x2048x8x2x1x8 ![0, 0, 0, 0, 1, 0] (shapeCast _ (extractStridedSlice S8x2048x8x32 ![0, 0, 0, 64] q slices_S8x2048x8x96_S8x2048x8x32_0_0_0_64) shapeCasts_S8x2048x8x32_S8x2048x8x2x2x8) slices_S8x2048x8x2x2x8_S8x2048x8x2x1x8_0_0_0_0_1_0) shapeCasts_S8x2048x8x2x1x8_S8x2048x8x2x8
/-- The turned rotary part, from its two halves. -/
def qrot (a b : FVec Ideal S8x2048x8x2x8 .f32) (cs sn : FVec Ideal S8x2048x8x2x8 .f32) : FVec Ideal S8x2048x8x32 .f32 :=
  shapeCast _ (concatenate S8x2048x8x2x2x8 4 [⟨S8x2048x8x2x1x8, broadcastInDim S8x2048x8x2x1x8 ![0, 1, 2, 3, 5] bcast_S8x2048x8x2x8_S8x2048x8x2x1x8_0_1_2_3_5 (subf (mulf a cs) (mulf b sn))⟩, ⟨S8x2048x8x2x1x8, broadcastInDim S8x2048x8x2x1x8 ![0, 1, 2, 3, 5] bcast_S8x2048x8x2x8_S8x2048x8x2x1x8_0_1_2_3_5 (addf (mulf b cs) (mulf a sn))⟩] concatenates_S8x2048x8x2x1x8_S8x2048x8x2x1x8_S8x2048x8x2x2x8_d4) shapeCasts_S8x2048x8x2x2x8_S8x2048x8x32
/-- The same for the keys, without heads. -/
def angk (a : FVec Ideal S2048x2x8 .f32) : FVec Ideal S8x2048x2x8 .f32 :=
  broadcastInDim S8x2048x2x8 ![0, 1, 2, 3] bcast_S1x2048x2x8_S8x2048x2x8_0_1_2_3 (broadcastInDim S1x2048x2x8 ![1, 2, 3] bcast_S2048x2x8_S1x2048x2x8_1_2_3 a)
def klo (p : FVec Ideal S8x2048x2464 .f32) : FVec Ideal S8x2048x2x8 .f32 :=
  shapeCast _ (extractStridedSlice S8x2048x2x1x8 ![0, 0, 0, 0, 0] (shapeCast _ (extractStridedSlice S8x2048x32 ![0, 0, 384] p slices_S8x2048x2464_S8x2048x32_0_0_384) shapeCasts_S8x2048x32_S8x2048x2x2x8) slices_S8x2048x2x2x8_S8x2048x2x1x8_0_0_0_0_0) shapeCasts_S8x2048x2x1x8_S8x2048x2x8
def khi (p : FVec Ideal S8x2048x2464 .f32) : FVec Ideal S8x2048x2x8 .f32 :=
  shapeCast _ (extractStridedSlice S8x2048x2x1x8 ![0, 0, 0, 1, 0] (shapeCast _ (extractStridedSlice S8x2048x32 ![0, 0, 384] p slices_S8x2048x2464_S8x2048x32_0_0_384) shapeCasts_S8x2048x32_S8x2048x2x2x8) slices_S8x2048x2x2x8_S8x2048x2x1x8_0_0_0_1_0) shapeCasts_S8x2048x2x1x8_S8x2048x2x8
def krot (a b : FVec Ideal S8x2048x2x8 .f32) (cs sn : FVec Ideal S8x2048x2x8 .f32) : FVec Ideal S8x2048x32 .f32 :=
  shapeCast _ (concatenate S8x2048x2x2x8 3 [⟨S8x2048x2x1x8, broadcastInDim S8x2048x2x1x8 ![0, 1, 2, 4] bcast_S8x2048x2x8_S8x2048x2x1x8_0_1_2_4 (subf (mulf a cs) (mulf b sn))⟩, ⟨S8x2048x2x1x8, broadcastInDim S8x2048x2x1x8 ![0, 1, 2, 4] bcast_S8x2048x2x8_S8x2048x2x1x8_0_1_2_4 (addf (mulf b cs) (mulf a sn))⟩] concatenates_S8x2048x2x1x8_S8x2048x2x1x8_S8x2048x2x2x8_d3) shapeCasts_S8x2048x2x2x8_S8x2048x32
/-- 64 lanes, 32 zeros and a rotary part, heads before positions. -/
def slab (a : FVec Ideal S8x2048x8x64 .f32) (r : FVec Ideal S8x2048x8x32 .f32) : FVec Ideal S8x8x2048x128 .bf16 :=
  truncf .bf16 (transpose S8x8x2048x128 [0, 2, 1, 3] (concatenate S8x2048x8x128 3 [⟨S8x2048x8x64, a⟩, ⟨S8x2048x8x32, broadcastInDim S8x2048x8x32 ![] bcast_S_S8x2048x8x32 (constant S_ .f32 0x00000000#32)⟩, ⟨S8x2048x8x32, r⟩] concatenates_S8x2048x8x64_S8x2048x8x32_S8x2048x8x32_S8x2048x8x128_d3) transposes_S8x2048x8x128_S8x8x2048x128_0_2_1_3) bitsLt_bf16_f32
/-- The first result: the queries. -/
def outQ (q : FVec Ideal S8x2048x8x96 .f32) (cs sn : FVec Ideal S2048x2x8 .f32) : FVec Ideal S8x8x2048x128 .bf16 :=
  slab (extractStridedSlice S8x2048x8x64 ![0, 0, 0, 0] q slices_S8x2048x8x96_S8x2048x8x64_0_0_0_0) (qrot (qlo q) (qhi q) (ang cs) (ang sn))
/-- The second result: the keys. -/
def outK (kv : FVec Ideal S8x2048x8x128 .f32) (p : FVec Ideal S8x2048x2464 .f32) (cs sn : FVec Ideal S2048x2x8 .f32) : FVec Ideal S8x8x2048x128 .bf16 :=
  slab (extractStridedSlice S8x2048x8x64 ![0, 0, 0, 0] kv slices_S8x2048x8x128_S8x2048x8x64_0_0_0_0) (broadcastInDim S8x2048x8x32 ![0, 1, 2, 3] bcast_S8x2048x1x32_S8x2048x8x32_0_1_2_3 (broadcastInDim S8x2048x1x32 ![0, 1, 3] bcast_S8x2048x32_S8x2048x1x32_0_1_3 (krot (klo p) (khi p) (angk cs) (angk sn))))
/-- The third result: the values over positions, a row of ones, rows of zeros. -/
def outV (kv : FVec Ideal S8x2048x8x128 .f32) : FVec Ideal S8x8x80x2048 .bf16 :=
  truncf .bf16 (concatenate S8x8x80x2048 2 [⟨S8x8x64x2048, transpose S8x8x64x2048 [0, 2, 3, 1] (extractStridedSlice S8x2048x8x64 ![0, 0, 0, 64] kv slices_S8x2048x8x128_S8x2048x8x64_0_0_0_64) transposes_S8x2048x8x64_S8x8x64x2048_0_2_3_1⟩, ⟨S8x8x1x2048, broadcastInDim S8x8x1x2048 ![] bcast_S_S8x8x1x2048 (constant S_ .f32 0x3F800000#32)⟩, ⟨S8x8x15x2048, broadcastInDim S8x8x15x2048 ![] bcast_S_S8x8x15x2048 (constant S_ .f32 0x00000000#32)⟩] concatenates_S8x8x64x2048_S8x8x1x2048_S8x8x15x2048_S8x8x80x2048_d2) bitsLt_bf16_f32
/-- One over one and the exponential of the negated. -/
def sigm (z : FVec Ideal S8x2048x512 .f32) : FVec Ideal S8x2048x512 .f32 :=
  Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf z)))
/-- The fourth to seventh results. -/
def outX (p : FVec Ideal S8x2048x2464 .f32) : FVec Ideal S8x2048x512 .bf16 :=
  truncf .bf16 (extractStridedSlice S8x2048x512 ![0, 0, 928] p slices_S8x2048x2464_S8x2048x512_0_0_928) bitsLt_bf16_f32
def outZ (p : FVec Ideal S8x2048x2464 .f32) : FVec Ideal S8x2048x512 .bf16 :=
  truncf .bf16 (mulf (extractStridedSlice S8x2048x512 ![0, 0, 416] p slices_S8x2048x2464_S8x2048x512_0_0_416) (sigm (extractStridedSlice S8x2048x512 ![0, 0, 416] p slices_S8x2048x2464_S8x2048x512_0_0_416))) bitsLt_bf16_f32
def outO (p : FVec Ideal S8x2048x2464 .f32) : FVec Ideal S8x2048x512 .bf16 :=
  truncf .bf16 (sigm (extractStridedSlice S8x2048x512 ![0, 0, 1440] p slices_S8x2048x2464_S8x2048x512_0_0_1440)) bitsLt_bf16_f32
def outM (p : FVec Ideal S8x2048x2464 .f32) : FVec Ideal S8x2048x512 .bf16 :=
  truncf .bf16 (mulf (extractStridedSlice S8x2048x512 ![0, 0, 1952] p slices_S8x2048x2464_S8x2048x512_0_0_1952) (sigm (extractStridedSlice S8x2048x512 ![0, 0, 1952] p slices_S8x2048x2464_S8x2048x512_0_0_1952))) bitsLt_bf16_f32

/-! ## Read at an index -/

theorem mean_at (x : FVec Ideal S8x2048x1024 .f32) (i : Fin 8) (n : Fin 2048) :
    mean x (ix3 i n (0 : Fin 1)) = Ideal.div (∑ k : Fin 1024, x (ix3 i n k)) (Ideal.ofBits .f32 0x44800000#32) := by
  pointwise [mean]
theorem cent_at (x : FVec Ideal S8x2048x1024 .f32) (i : Fin 8) (n : Fin 2048) (d : Fin 1024) :
    cent x (ix3 i n d) = x (ix3 i n d) - Ideal.div (∑ k : Fin 1024, x (ix3 i n k)) (Ideal.ofBits .f32 0x44800000#32) := by
  pointwise [cent, mean]
theorem lnorm_at (x : FVec Ideal S8x2048x1024 .f32) (g b : FVec Ideal S1024 .f32) (i : Fin 8) (n : Fin 2048) (d : Fin 1024) :
    lnorm (cent x) g b (ix3 i n d) = hRow (fun k => x (ix3 i n k)) (fun k => g (ix1 k)) (fun k => b (ix1 k)) d := by
  unfold hRow spread
  pointwise [lnorm, mean, cent]
theorem modul_at (h : FVec Ideal S8x2048x1024 .f32) (mo : FVec Ideal S9x1x3072 .f32) (i : Fin 8) (n : Fin 2048) (d : Fin 1024) :
    modul h mo (ix3 i n d) = uRow (fun k => h (ix3 i n k)) (fun k => mo (ix3 (⟨i.val, by omega⟩ : Fin 9) (0 : Fin 1) (⟨k.val, by omega⟩ : Fin 3072)))
      (fun k => mo (ix3 (⟨i.val, by omega⟩ : Fin 9) (0 : Fin 1) (⟨1024 + k.val, by omega⟩ : Fin 3072))) d := by
  unfold uRow
  pointwise [modul]
theorem inp_at (u : FVec Ideal S8x2048x1024 .f32) (w : FVec Ideal S1024x2464 .f32) (i : Fin 8) (n : Fin 2048) (j : Fin 2464) :
    inp u w (ix3 i n j) = ∑ k : Fin 1024, u (ix3 i n k) * w (ix2 k j) := by
  pointwise [inp]
theorem nq_at (p : FVec Ideal S8x2048x2464 .f32) (g : FVec Ideal S256 .f32) (i : Fin 8) (n : Fin 2048) (d : Fin 256) :
    nq p g (ix3 i n d) = nRow (Ideal.ofBits .f32 0x43800000#32) (fun k => p (ix3 i n (⟨k.val, by omega⟩ : Fin 2464))) (fun k => g (ix1 k)) d := by
  unfold nRow
  pointwise [nq]
theorem nkv_at (p : FVec Ideal S8x2048x2464 .f32) (g : FVec Ideal S128 .f32) (i : Fin 8) (n : Fin 2048) (d : Fin 128) :
    nkv p g (ix3 i n d) = nRow (Ideal.ofBits .f32 0x43000000#32) (fun k => p (ix3 i n (⟨256 + k.val, by omega⟩ : Fin 2464))) (fun k => g (ix1 k)) d := by
  unfold nRow
  pointwise [nkv]
theorem qh_at (v : FVec Ideal S8x2048x256 .f32) (w : FVec Ideal S256x768 .f32) (i : Fin 8) (n : Fin 2048) (h : Fin 8) (d : Fin 96) :
    qh v w (ix4 i n h d) = ∑ k : Fin 256, v (ix3 i n k) * w (ix2 k (⟨h.val * 96 + d.val, by omega⟩ : Fin 768)) := by
  pointwise [qh]
theorem kvh_at (v : FVec Ideal S8x2048x128 .f32) (w : FVec Ideal S128x1024 .f32) (i : Fin 8) (n : Fin 2048) (h : Fin 8) (d : Fin 128) :
    kvh v w (ix4 i n h d) = ∑ k : Fin 128, v (ix3 i n k) * w (ix2 k (⟨h.val * 128 + d.val, by omega⟩ : Fin 1024)) := by
  pointwise [kvh]
theorem sigm_at (z : FVec Ideal S8x2048x512 .f32) (i : Fin 8) (n : Fin 2048) (d : Fin 512) : sigm z (ix3 i n d) = sig (z (ix3 i n d)) := by
  unfold sig
  pointwise [sigm]
theorem outX_at (p : FVec Ideal S8x2048x2464 .f32) (i : Fin 8) (n : Fin 2048) (d : Fin 512) :
    outX p (ix3 i n d) = p (ix3 i n (⟨928 + d.val, by omega⟩ : Fin 2464)) := by pointwise [outX]
theorem outZ_at (p : FVec Ideal S8x2048x2464 .f32) (i : Fin 8) (n : Fin 2048) (d : Fin 512) :
    outZ p (ix3 i n d) = p (ix3 i n (⟨416 + d.val, by omega⟩ : Fin 2464)) * sig (p (ix3 i n (⟨416 + d.val, by omega⟩ : Fin 2464))) := by
  unfold sig
  pointwise [outZ, sigm]
theorem outO_at (p : FVec Ideal S8x2048x2464 .f32) (i : Fin 8) (n : Fin 2048) (d : Fin 512) :
    outO p (ix3 i n d) = sig (p (ix3 i n (⟨1440 + d.val, by omega⟩ : Fin 2464))) := by
  unfold sig
  pointwise [outO, sigm]
theorem outM_at (p : FVec Ideal S8x2048x2464 .f32) (i : Fin 8) (n : Fin 2048) (d : Fin 512) :
    outM p (ix3 i n d) = p (ix3 i n (⟨1952 + d.val, by omega⟩ : Fin 2464)) * sig (p (ix3 i n (⟨1952 + d.val, by omega⟩ : Fin 2464))) := by
  unfold sig
  pointwise [outM, sigm]
theorem outV_at (kv : FVec Ideal S8x2048x8x128 .f32) (i h : Fin 8) (d : Fin 80) (n : Fin 2048) :
    outV kv (ix4 i h d n) = if hd : d.val < 64 then kv (ix4 i n h (⟨64 + d.val, by omega⟩ : Fin 128)) else if d.val = 64 then 1 else 0 := by
  pointwise [outV]
  rcases Nat.lt_or_ge d.val 64 with h1 | h1
  · rw [dif_pos h1, dif_pos h1]
  · rw [dif_neg (Nat.not_lt.2 h1), dif_neg (Nat.not_lt.2 h1)]
    rcases Nat.lt_or_ge 64 d.val with h2 | h2
    · rw [dif_neg (show ¬ d.val - 64 < 1 by omega), if_neg (show ¬ d.val = 64 by omega)]
    · rw [dif_pos (show d.val - 64 < 1 by omega), if_pos (show d.val = 64 by omega)]
theorem slab_at (a : FVec Ideal S8x2048x8x64 .f32) (r : FVec Ideal S8x2048x8x32 .f32) (i h : Fin 8) (n : Fin 2048) (d : Fin 128) :
    slab a r (ix4 i h n d) = if hd : d.val < 64 then a (ix4 i n h (⟨d.val, hd⟩ : Fin 64)) else if hr : d.val < 96 then 0
      else r (ix4 i n h (⟨d.val - 96, by omega⟩ : Fin 32)) := by
  pointwise [slab]
  rcases Nat.lt_or_ge d.val 64 with h1 | h1
  · rw [dif_pos h1, dif_pos h1]
  · rw [dif_neg (Nat.not_lt.2 h1), dif_neg (Nat.not_lt.2 h1)]
    rcases Nat.lt_or_ge d.val 96 with h2 | h2
    · rw [dif_pos (show d.val - 64 < 32 by omega), dif_pos h2]
    · rw [dif_neg (show ¬ d.val - 64 < 32 by omega), dif_neg (Nat.not_lt.2 h2)]
      exact congrArg (fun z => r (ix4 i n h z)) (Fin.ext (by show d.val - 64 - 32 = d.val - 96; omega))
theorem qlo_at (q : FVec Ideal S8x2048x8x96 .f32) (i h : Fin 8) (n : Fin 2048) (a : Fin 2) (f : Fin 8) :
    qlo q (ix5 i n h a f) = q (ix4 i n h (⟨64 + (a.val * 16 + f.val), by omega⟩ : Fin 96)) := by
  pointwise [qlo]
theorem qhi_at (q : FVec Ideal S8x2048x8x96 .f32) (i h : Fin 8) (n : Fin 2048) (a : Fin 2) (f : Fin 8) :
    qhi q (ix5 i n h a f) = q (ix4 i n h (⟨64 + (a.val * 16 + 8 + f.val), by omega⟩ : Fin 96)) := by
  pointwise [qhi]
theorem ang_at (t : FVec Ideal S2048x2x8 .f32) (i h : Fin 8) (n : Fin 2048) (a : Fin 2) (f : Fin 8) :
    ang t (ix5 i n h a f) = t (ix3 n a f) := by
  pointwise [ang]
theorem qrot_at (a b cs sn : FVec Ideal S8x2048x8x2x8 .f32) (i h : Fin 8) (n : Fin 2048) (j : Fin 32) :
    qrot a b cs sn (ix4 i n h j) = if _hj : j.val / 8 % 2 < 1 then
        a (ix5 i n h (⟨j.val / 16, by omega⟩ : Fin 2) (⟨j.val % 8, by omega⟩ : Fin 8)) * cs (ix5 i n h (⟨j.val / 16, by omega⟩ : Fin 2) (⟨j.val % 8, by omega⟩ : Fin 8))
          - b (ix5 i n h (⟨j.val / 16, by omega⟩ : Fin 2) (⟨j.val % 8, by omega⟩ : Fin 8)) * sn (ix5 i n h (⟨j.val / 16, by omega⟩ : Fin 2) (⟨j.val % 8, by omega⟩ : Fin 8))
      else b (ix5 i n h (⟨j.val / 16, by omega⟩ : Fin 2) (⟨j.val % 8, by omega⟩ : Fin 8)) * cs (ix5 i n h (⟨j.val / 16, by omega⟩ : Fin 2) (⟨j.val % 8, by omega⟩ : Fin 8))
          + a (ix5 i n h (⟨j.val / 16, by omega⟩ : Fin 2) (⟨j.val % 8, by omega⟩ : Fin 8)) * sn (ix5 i n h (⟨j.val / 16, by omega⟩ : Fin 2) (⟨j.val % 8, by omega⟩ : Fin 8)) := by
  pointwise [qrot]

theorem klo_at (p : FVec Ideal S8x2048x2464 .f32) (i : Fin 8) (n : Fin 2048) (a : Fin 2) (f : Fin 8) :
    klo p (ix4 i n a f) = p (ix3 i n (⟨384 + (a.val * 16 + f.val), by omega⟩ : Fin 2464)) := by
  pointwise [klo]
theorem khi_at (p : FVec Ideal S8x2048x2464 .f32) (i : Fin 8) (n : Fin 2048) (a : Fin 2) (f : Fin 8) :
    khi p (ix4 i n a f) = p (ix3 i n (⟨384 + (a.val * 16 + 8 + f.val), by omega⟩ : Fin 2464)) := by
  pointwise [khi]
theorem angk_at (t : FVec Ideal S2048x2x8 .f32) (i : Fin 8) (n : Fin 2048) (a : Fin 2) (f : Fin 8) :
    angk t (ix4 i n a f) = t (ix3 n a f) := by
  pointwise [angk]
theorem krot_at (a b cs sn : FVec Ideal S8x2048x2x8 .f32) (i : Fin 8) (n : Fin 2048) (j : Fin 32) :
    krot a b cs sn (ix3 i n j) = if _hj : j.val / 8 % 2 < 1 then
        a (ix4 i n (⟨j.val / 16, by omega⟩ : Fin 2) (⟨j.val % 8, by omega⟩ : Fin 8)) * cs (ix4 i n (⟨j.val / 16, by omega⟩ : Fin 2) (⟨j.val % 8, by omega⟩ : Fin 8))
          - b (ix4 i n (⟨j.val / 16, by omega⟩ : Fin 2) (⟨j.val % 8, by omega⟩ : Fin 8)) * sn (ix4 i n (⟨j.val / 16, by omega⟩ : Fin 2) (⟨j.val % 8, by omega⟩ : Fin 8))
      else b (ix4 i n (⟨j.val / 16, by omega⟩ : Fin 2) (⟨j.val % 8, by omega⟩ : Fin 8)) * cs (ix4 i n (⟨j.val / 16, by omega⟩ : Fin 2) (⟨j.val % 8, by omega⟩ : Fin 8))
          + a (ix4 i n (⟨j.val / 16, by omega⟩ : Fin 2) (⟨j.val % 8, by omega⟩ : Fin 8)) * sn (ix4 i n (⟨j.val / 16, by omega⟩ : Fin 2) (⟨j.val % 8, by omega⟩ : Fin 8)) := by
  pointwise [krot]
theorem qrot_rot (q : FVec Ideal S8x2048x8x96 .f32) (cs sn : FVec Ideal S2048x2x8 .f32) (i h : Fin 8) (n : Fin 2048) (j : Fin 32) :
    qrot (qlo q) (qhi q) (ang cs) (ang sn) (ix4 i n h j) = rot (fun l => q (ix4 i n h (⟨64 + l.val, by omega⟩ : Fin 96)))
      (fun a f => cs (ix3 n a f)) (fun a f => sn (ix3 n a f)) j := by
  rw [qrot_at]
  unfold rot
  rcases Nat.lt_or_ge (j.val / 8 % 2) 1 with h1 | h1
  · rw [dif_pos h1, dif_pos h1, qlo_at, qhi_at, ang_at, ang_at]
    refine congrArg₂ (fun a b => q (ix4 i n h a) * _ - q (ix4 i n h b) * _) (Fin.ext ?_) (Fin.ext ?_)
    · show 64 + (j.val / 16 * 16 + j.val % 8) = 64 + j.val; omega
    · show 64 + (j.val / 16 * 16 + 8 + j.val % 8) = 64 + (j.val + 8); omega
  · rw [dif_neg (Nat.not_lt.2 h1), dif_neg (Nat.not_lt.2 h1), qlo_at, qhi_at, ang_at, ang_at]
    refine congrArg₂ (fun a b => q (ix4 i n h a) * _ + q (ix4 i n h b) * _) (Fin.ext ?_) (Fin.ext ?_)
    · show 64 + (j.val / 16 * 16 + 8 + j.val % 8) = 64 + j.val; omega
    · show 64 + (j.val / 16 * 16 + j.val % 8) = 64 + (j.val - 8); omega
theorem krot_rot (p : FVec Ideal S8x2048x2464 .f32) (cs sn : FVec Ideal S2048x2x8 .f32) (i : Fin 8) (n : Fin 2048) (j : Fin 32) :
    krot (klo p) (khi p) (angk cs) (angk sn) (ix3 i n j) = rot (fun l => p (ix3 i n (⟨384 + l.val, by omega⟩ : Fin 2464)))
      (fun a f => cs (ix3 n a f)) (fun a f => sn (ix3 n a f)) j := by
  rw [krot_at]
  unfold rot
  rcases Nat.lt_or_ge (j.val / 8 % 2) 1 with h1 | h1
  · rw [dif_pos h1, dif_pos h1, klo_at, khi_at, angk_at, angk_at]
    refine congrArg₂ (fun a b => p (ix3 i n a) * _ - p (ix3 i n b) * _) (Fin.ext ?_) (Fin.ext ?_)
    · show 384 + (j.val / 16 * 16 + j.val % 8) = 384 + j.val; omega
    · show 384 + (j.val / 16 * 16 + 8 + j.val % 8) = 384 + (j.val + 8); omega
  · rw [dif_neg (Nat.not_lt.2 h1), dif_neg (Nat.not_lt.2 h1), klo_at, khi_at, angk_at, angk_at]
    refine congrArg₂ (fun a b => p (ix3 i n a) * _ + p (ix3 i n b) * _) (Fin.ext ?_) (Fin.ext ?_)
    · show 384 + (j.val / 16 * 16 + 8 + j.val % 8) = 384 + j.val; omega
    · show 384 + (j.val / 16 * 16 + j.val % 8) = 384 + (j.val - 8); omega
theorem heads_at (r : FVec Ideal S8x2048x32 .f32) (i h : Fin 8) (n : Fin 2048) (j : Fin 32) :
    broadcastInDim S8x2048x8x32 ![0, 1, 2, 3] bcast_S8x2048x1x32_S8x2048x8x32_0_1_2_3 (broadcastInDim S8x2048x1x32 ![0, 1, 3] bcast_S8x2048x32_S8x2048x1x32_0_1_3 r) (ix4 i n h j)
      = r (ix3 i n j) := by
  pointwise []
theorem outQ_at (q : FVec Ideal S8x2048x8x96 .f32) (cs sn : FVec Ideal S2048x2x8 .f32) (i h : Fin 8) (n : Fin 2048) (d : Fin 128) :
    outQ q cs sn (ix4 i h n d) = if hd : d.val < 64 then q (ix4 i n h (⟨d.val, by omega⟩ : Fin 96)) else if hr : d.val < 96 then 0
      else rot (fun l => q (ix4 i n h (⟨64 + l.val, by omega⟩ : Fin 96))) (fun a f => cs (ix3 n a f)) (fun a f => sn (ix3 n a f)) ⟨d.val - 96, by omega⟩ := by
  rw [outQ, slab_at]
  rcases Nat.lt_or_ge d.val 64 with h1 | h1
  · rw [dif_pos h1, dif_pos h1]
    pointwise []
  · rw [dif_neg (Nat.not_lt.2 h1), dif_neg (Nat.not_lt.2 h1)]
    rcases Nat.lt_or_ge d.val 96 with h2 | h2
    · rw [dif_pos h2, dif_pos h2]
    · rw [dif_neg (Nat.not_lt.2 h2), dif_neg (Nat.not_lt.2 h2), qrot_rot]
theorem outK_at (kv : FVec Ideal S8x2048x8x128 .f32) (p : FVec Ideal S8x2048x2464 .f32) (cs sn : FVec Ideal S2048x2x8 .f32) (i h : Fin 8) (n : Fin 2048) (d : Fin 128) :
    outK kv p cs sn (ix4 i h n d) = if hd : d.val < 64 then kv (ix4 i n h (⟨d.val, by omega⟩ : Fin 128)) else if hr : d.val < 96 then 0
      else rot (fun l => p (ix3 i n (⟨384 + l.val, by omega⟩ : Fin 2464))) (fun a f => cs (ix3 n a f)) (fun a f => sn (ix3 n a f)) ⟨d.val - 96, by omega⟩ := by
  rw [outK, slab_at]
  rcases Nat.lt_or_ge d.val 64 with h1 | h1
  · rw [dif_pos h1, dif_pos h1]
    pointwise []
  · rw [dif_neg (Nat.not_lt.2 h1), dif_neg (Nat.not_lt.2 h1)]
    rcases Nat.lt_or_ge d.val 96 with h2 | h2
    · rw [dif_pos h2, dif_pos h2]
    · rw [dif_neg (Nat.not_lt.2 h2), dif_neg (Nat.not_lt.2 h2), heads_at, krot_rot]

end Cert.Proj.Ref
end
-- ==== Proof.Tile2.lean ====
/-
  The tiles of one grid point of the projections: 256 rows at a time, each result of the body read at an index from the
  blocks.
-/
module
public import proofs.«01_k».proof.Proof.Gen.Kernel2Ideal.Skeleton
public import proofs.«01_k».proof.Proof.Ref2
public import Idealize.ShloMosaic.Lib.Pointwise
public import Idealize.ShloMosaic.Lib.Pipeline.ValueKit
@[expose] public section
set_option maxRecDepth 16384
noncomputable section
namespace Cert.Proj
open Cert.Kernel2Ideal Cert.Kernel2Ideal.Gen Idealize.ShloMosaic Idealize.ShloMosaic.TcCoe
open Cert.Proj.Ref (spread hRow uRow nRow rot)

/-- The fifteen blocks a grid point reads. -/
structure Blks where
  x : Vec Ideal S1x1024x1024 .f32
  mo : Vec Ideal S1x1x3072 .f32
  g : Vec Ideal S1x1024 .f32
  b : Vec Ideal S1x1024 .f32
  wa : Vec Ideal S1024x512 .bf16
  wr : Vec Ideal S1024x2048 .bf16
  gq : Vec Ideal S1x256 .f32
  wq : Vec Ideal S256x1024 .bf16
  gk : Vec Ideal S1x128 .f32
  wk : Vec Ideal S128x1024 .bf16
  wv : Vec Ideal S512x128 .bf16
  cq : Vec Ideal S1024x128 .f32
  sq : Vec Ideal S1024x128 .f32
  ck : Vec Ideal S1024x128 .f32
  sk : Vec Ideal S1024x128 .f32

namespace Blks
variable (B : Blks)

/-! ## Rows of the point -/

/-- The normalised row `n`. -/
def h (n : Fin 1024) : Fin 1024 → EReal := hRow (fun k => B.x (ix3 0 n k)) (fun k => B.g (ix2 0 k)) (fun k => B.b (ix2 0 k))
/-- The modulated row. -/
def u (n : Fin 1024) : Fin 1024 → EReal :=
  uRow (B.h n) (fun k => B.mo (ix3 0 0 (⟨k.val, by omega⟩ : Fin 3072))) (fun k => B.mo (ix3 0 0 (⟨1024 + k.val, by omega⟩ : Fin 3072)))
/-- Its products with the latents' and the gates' columns. -/
def a (n : Fin 1024) (j : Fin 512) : EReal := ∑ k, B.u n k * B.wa (ix2 k j)
def r (n : Fin 1024) (j : Fin 2048) : EReal := ∑ k, B.u n k * B.wr (ix2 k j)
/-- The normalised latents. -/
def kv (n : Fin 1024) : Fin 128 → EReal :=
  nRow (Ideal.ofBits .f32 0x43000000#32) (fun k => B.a n ⟨256 + k.val, by omega⟩) (fun k => B.gk (ix2 0 k))
def ql (n : Fin 1024) : Fin 256 → EReal :=
  nRow (Ideal.ofBits .f32 0x43800000#32) (fun k => B.a n ⟨k.val, by omega⟩) (fun k => B.gq (ix2 0 k))
/-- Keys, values and queries before the angles. -/
def kn (n : Fin 1024) (j : Fin 1024) : EReal := ∑ k, B.kv n k * B.wk (ix2 k j)
def vn (j : Fin 512) (n : Fin 1024) : EReal := ∑ k, B.wv (ix2 j k) * B.kv n k
def z (n : Fin 1024) (j : Fin 1024) : EReal := ∑ k, B.ql n k * B.wq (ix2 k j)
/-- A key's rotary lanes; a key; a query. -/
def kr (n : Fin 1024) (d : Fin 128) : EReal :=
  B.a n ⟨384 + d.val, by omega⟩ * B.ck (ix2 n d) + B.a n ⟨384 + (d.val + 96) % 128, by omega⟩ * B.sk (ix2 n d)
def key (hd : Fin 8) (n : Fin 1024) (d : Fin 128) : EReal := B.kn n ⟨128 * hd.val + d.val, by omega⟩ + B.kr n d
def qry (hd : Fin 8) (n : Fin 1024) (d : Fin 128) : EReal :=
  B.z n ⟨128 * hd.val + d.val, by omega⟩ * B.cq (ix2 n d) + B.z n ⟨128 * hd.val + (d.val + 96) % 128, by omega⟩ * B.sq (ix2 n d)
/-- A value, the ones, the zeros. -/
def vt (hd : Fin 8) (d : Fin 80) (n : Fin 1024) : EReal :=
  if hl : d.val < 64 then B.vn ⟨64 * hd.val + d.val, by omega⟩ n else if d.val = 64 then 1 else 0

/-! ## The body's steps at an index -/

def turn (y t1 t2 : FVec Ideal S256x128 .f32) : FVec Ideal S256x128 .f32 :=
  addf (mulf y (shapeCast S256x128 t1 shapeCasts_S256x128_S256x128)) (mulf (dynamicRotate 1 32#32 none y rotates_S256x128_d1) (shapeCast S256x128 t2 shapeCasts_S256x128_S256x128))
section
variable (q : Fin 256)
theorem norm_at (X : Vec Ideal S1x256x1024 .f32) (g b : Vec Ideal S1x1024 .f32) (d : Fin 1024) :
    k0_pay7 X g b (ix2 q d) = hRow (fun k => X (ix3 0 q k)) (fun k => g (ix2 0 k)) (fun k => b (ix2 0 k)) d := by
  unfold hRow spread
  pointwise [k0_pay7]
theorem mod_at (mo : Vec Ideal S1x1x3072 .f32) (H : FVec Ideal S256x1024 .f32) (d : Fin 1024) :
    k0_pay9 (k0_pay4 mo) (k0_pay5 mo) H (ix2 q d) = uRow (fun k => H (ix2 q k)) (fun k => mo (ix3 0 0 (⟨k.val, by omega⟩ : Fin 3072)))
      (fun k => mo (ix3 0 0 (⟨1024 + k.val, by omega⟩ : Fin 3072))) d := by
  unfold uRow
  pointwise [k0_pay9, k0_pay4, k0_pay5, k0_pay3]
theorem prod_at (U : FVec Ideal S256x1024 .bf16) (W : Vec Ideal S1024x512 .bf16) (j : Fin 512) :
    k0_pay13 U W (ix2 q j) = ∑ k : Fin 1024, U (ix2 q k) * W (ix2 k j) := by
  pointwise [k0_pay13]
theorem lat_at (U : FVec Ideal S256x1024 .bf16) (W : Vec Ideal S1024x512 .bf16) (g : Vec Ideal S1x128 .f32) (d : Fin 128) :
    k0_pay16 U W g (ix2 q d) = nRow (Ideal.ofBits .f32 0x43000000#32) (fun k => k0_pay13 U W (ix2 q (⟨256 + k.val, by omega⟩ : Fin 512))) (fun k => g (ix2 0 k)) d := by
  unfold nRow
  pointwise [k0_pay16]
theorem kn_at (U : FVec Ideal S256x1024 .bf16) (W : Vec Ideal S1024x512 .bf16) (g : Vec Ideal S1x128 .f32) (wk : Vec Ideal S128x1024 .bf16) (j : Fin 1024) :
    k0_pay17 U W g wk (ix2 q j) = ∑ k : Fin 128, k0_pay16 U W g (ix2 q k) * wk (ix2 k j) := by
  pointwise [k0_pay17]
theorem v_at (V : FVec Ideal S256x128 .bf16) (W : Vec Ideal S512x128 .bf16) (j : Fin 512) :
    k0_pay29 V W (ix2 j q) = ∑ k : Fin 128, W (ix2 j k) * V (ix2 q k) := by
  pointwise [k0_pay29]
theorem z_at (A : FVec Ideal S256x512 .f32) (g : Vec Ideal S1x256 .f32) (W : Vec Ideal S256x1024 .bf16) (j : Fin 1024) :
    k0_pay47 A g W (ix2 q j) = ∑ k : Fin 256, nRow (Ideal.ofBits .f32 0x43800000#32) (fun k => A (ix2 q (⟨k.val, by omega⟩ : Fin 512))) (fun k => g (ix2 0 k)) k * W (ix2 k j) := by
  unfold nRow
  pointwise [k0_pay47]
theorem turn_at (y t1 t2 : FVec Ideal S256x128 .f32) (d : Fin 128) :
    turn y t1 t2 (ix2 q d) = y (ix2 q d) * t1 (ix2 q d) + y (ix2 q (⟨(d.val + 96) % 128, by omega⟩ : Fin 128)) * t2 (ix2 q d) := by
  have e : d.val + 128 - 32 = d.val + 96 := by omega
  pointwise [turn]
  simp only [e]
theorem kr_at (A : FVec Ideal S256x512 .f32) (t1 t2 : Vec Ideal S256x128 .f32) (d : Fin 128) :
    k0_pay19 A t1 t2 (ix2 q d) = A (ix2 q (⟨384 + d.val, by omega⟩ : Fin 512)) * t1 (ix2 q d)
      + A (ix2 q (⟨384 + (d.val + 96) % 128, by omega⟩ : Fin 512)) * t2 (ix2 q d) := by
  have e : d.val + 128 - 32 = d.val + 96 := by omega
  pointwise [k0_pay19]
  simp only [e]
theorem ones_at (d : Fin 16) : k0_pay6 (F := Ideal) (ix2 d q) = if d.val = 0 then 1 else 0 := by
  pointwise [k0_pay6]
  show ((((BitVec.setWidth 32 (IntOp.cmpi CmpIPredicate.eq (BitVec.ofNat 32 d.val) 0#32)).toInt : ℤ) : ℝ) : EReal) = _
  have e : (BitVec.setWidth 32 (IntOp.cmpi CmpIPredicate.eq (BitVec.ofNat 32 d.val) 0#32)).toInt = if d.val = 0 then 1 else 0 :=
    (by decide : ∀ d : Fin 16, (BitVec.setWidth 32 (IntOp.cmpi CmpIPredicate.eq (BitVec.ofNat 32 d.val) 0#32)).toInt = if d.val = 0 then 1 else 0) d
  rw [e]
  split <;> simp
theorem silu_at (y : FVec Ideal S256x512 .f32) (d : Fin 512) : k0_pay61 (k0_pay60 y) (ix3 0 q d) = y (ix2 q d) * Ref.sig (y (ix2 q d)) := by
  pointwise [k0_pay61, k0_pay60]
  rfl
theorem gate_at (y : FVec Ideal S256x512 .f32) (d : Fin 512) : k0_pay59 y (ix3 0 q d) = Ref.sig (y (ix2 q d)) := by
  pointwise [k0_pay59]
  rfl
theorem cast_at (y : FVec Ideal S256x512 .f32) (d : Fin 512) : k0_pay62 y (ix3 0 q d) = y (ix2 q d) := by
  pointwise [k0_pay62]
theorem cast8_at (y : FVec Ideal S256x1024 .f32) (d : Fin 1024) : k0_pay8 y (ix3 0 q d) = y (ix2 q d) := by
  pointwise [k0_pay8]
theorem cast31_at (y : FVec Ideal S16x256 .bf16) (d : Fin 16) : k0_pay31 y (ix4 0 0 d q) = y (ix2 d q) := by
  pointwise [k0_pay31]
end

/-! ## Tiles of 256 rows from row `o` -/

section
variable (o : ℕ) (hx : ∀ a, (![0, o, 0] : Fin 3 → ℕ) a + S1x256x1024.size a ≤ S1x1024x1024.size a)
variable (ht : ∀ a, (![o, 0] : Fin 2 → ℕ) a + S256x128.size a ≤ S1024x128.size a)
variable (cw : ℕ) (hw : ∀ a, (![0, cw] : Fin 2 → ℕ) a + S1024x512.size a ≤ S1024x2048.size a)

def tx : Vec Ideal S1x256x1024 .f32 := View.ld (Val := Elt Ideal) (e' := .f32) B.x (Rect.unit ![0, o, 0] S1x256x1024.size hx)
def tt (T : Vec Ideal S1024x128 .f32) : Vec Ideal S256x128 .f32 := View.ld (Val := Elt Ideal) (e' := .f32) T (Rect.unit (s := S1024x128) ![o, 0] S256x128.size ht)
def tw : Vec Ideal S1024x512 .bf16 := View.ld (Val := Elt Ideal) (e' := .bf16) B.wr (Rect.unit (s := S1024x2048) ![0, cw] S1024x512.size hw)
def th : FVec Ideal S256x1024 .f32 := k0_pay7 (B.tx o hx) B.g B.b
def tu : FVec Ideal S256x1024 .bf16 := k0_pay9 (k0_pay4 B.mo) (k0_pay5 B.mo) (B.th o hx)
def ta : FVec Ideal S256x512 .f32 := k0_pay13 (B.tu o hx) B.wa
def tr : FVec Ideal S256x512 .f32 := k0_pay13 (B.tu o hx) (B.tw cw hw)
def tkv : FVec Ideal S256x128 .bf16 := k0_pay16 (B.tu o hx) B.wa B.gk
def tkn : FVec Ideal S256x1024 .f32 := k0_pay17 (B.tu o hx) B.wa B.gk B.wk
def tv : FVec Ideal S512x256 .bf16 := k0_pay29 (B.tkv o hx) B.wv
def tz : FVec Ideal S256x1024 .f32 := k0_pay47 (B.ta o hx) B.gq B.wq
def tkr : FVec Ideal S256x128 .f32 := k0_pay19 (B.ta o hx) (tt o ht B.ck) (tt o ht B.sk)

variable (c : ℕ) (hs : S256x1024.Slices ![0, c] S256x128)
def tkey : FVec Ideal S1x1x256x128 .bf16 :=
  shapeCast S1x1x256x128 (truncf .bf16 (addf (extractStridedSlice S256x128 ![0, c] (B.tkn o hx) hs) (B.tkr o hx ht)) bitsLt_bf16_f32) shapeCasts_S256x128_S1x1x256x128
def tqry : FVec Ideal S1x1x256x128 .bf16 :=
  shapeCast S1x1x256x128 (truncf .bf16 (turn (extractStridedSlice S256x128 ![0, c] (B.tz o hx) hs) (tt o ht B.cq) (tt o ht B.sq)) bitsLt_bf16_f32) shapeCasts_S256x128_S1x1x256x128
variable (hv : S512x256.Slices ![c, 0] S64x256)
def tvt : FVec Ideal S1x1x64x256 .bf16 := shapeCast S1x1x64x256 (extractStridedSlice S64x256 ![c, 0] (B.tv o hx) hv) shapeCasts_S64x256_S1x1x64x256

variable (q : Fin 256) (n : Fin 1024) (hn : n.val = o + q.val)
include hn

theorem tx_at (d : Fin 1024) : B.tx o hx (ix3 0 q d) = B.x (ix3 0 n d) := by
  refine congrArg B.x (funext fun a => ?_)
  fin_cases a <;> apply Fin.ext <;> simp [Rect.unit, hn]
theorem tt_at (T : Vec Ideal S1024x128 .f32) (d : Fin 128) : tt o ht T (ix2 q d) = T (ix2 n d) := by
  refine congrArg T (funext fun a => ?_)
  fin_cases a <;> apply Fin.ext <;> simp [Rect.unit, hn]
omit hn in
theorem tw_at (k : Fin 1024) (j : Fin 512) (j' : Fin 2048) (hj : j'.val = cw + j.val) : B.tw cw hw (ix2 k j) = B.wr (ix2 k j') := by
  refine congrArg B.wr (funext fun a => ?_)
  fin_cases a <;> apply Fin.ext <;> simp [Rect.unit, hj]
theorem th_at (d : Fin 1024) : B.th o hx (ix2 q d) = B.h n d := by
  unfold th
  rw [norm_at]
  simp only [B.tx_at o hx q n hn]
  rfl
theorem tu_at (d : Fin 1024) : B.tu o hx (ix2 q d) = B.u n d := by
  unfold tu
  rw [mod_at]
  simp only [B.th_at o hx q n hn]
  rfl
theorem ta_at (j : Fin 512) : B.ta o hx (ix2 q j) = B.a n j := by
  unfold ta
  rw [prod_at]
  simp only [B.tu_at o hx q n hn]
  rfl
theorem tr_at (j : Fin 512) (j' : Fin 2048) (hj : j'.val = cw + j.val) : B.tr o hx cw hw (ix2 q j) = B.r n j' := by
  unfold tr
  rw [prod_at]
  simp only [B.tu_at o hx q n hn, B.tw_at cw hw _ j j' hj]
  rfl
theorem tkv_at (d : Fin 128) : B.tkv o hx (ix2 q d) = B.kv n d := by
  unfold tkv
  rw [lat_at]
  have e := fun j => B.ta_at o hx q n hn j
  unfold ta at e
  simp only [e]
  rfl
theorem tkn_at (j : Fin 1024) : B.tkn o hx (ix2 q j) = B.kn n j := by
  unfold tkn
  rw [kn_at]
  have e := fun d => B.tkv_at o hx q n hn d
  unfold tkv at e
  simp only [e]
  rfl
theorem tv_at (j : Fin 512) : B.tv o hx (ix2 j q) = B.vn j n := by
  unfold tv
  rw [v_at]
  simp only [B.tkv_at o hx q n hn]
  rfl
theorem tz_at (j : Fin 1024) : B.tz o hx (ix2 q j) = B.z n j := by
  unfold tz
  rw [z_at]
  simp only [B.ta_at o hx q n hn]
  rfl
theorem tkr_at (d : Fin 128) : B.tkr o hx ht (ix2 q d) = B.kr n d := by
  unfold tkr
  rw [kr_at]
  simp only [B.ta_at o hx q n hn, tt_at o ht q n hn]
  rfl
theorem tkey_at (hd : Fin 8) (hc : c = 128 * hd.val) (d : Fin 128) : B.tkey o hx ht c hs (ix4 0 0 q d) = B.key hd n d := by
  subst hc
  have e : B.tkey o hx ht (128 * hd.val) hs (ix4 0 0 q d) = B.tkn o hx (ix2 q (⟨128 * hd.val + d.val, by omega⟩ : Fin 1024)) + B.tkr o hx ht (ix2 q d) := by
    pointwise [tkey]
  rw [e, B.tkn_at o hx q n hn, B.tkr_at o hx ht q n hn]
  rfl
theorem tqry_at (hd : Fin 8) (hc : c = 128 * hd.val) (d : Fin 128) : B.tqry o hx ht c hs (ix4 0 0 q d) = B.qry hd n d := by
  subst hc
  have e : B.tqry o hx ht (128 * hd.val) hs (ix4 0 0 q d) = turn (extractStridedSlice S256x128 ![0, 128 * hd.val] (B.tz o hx) hs) (tt o ht B.cq) (tt o ht B.sq) (ix2 q d) := by
    pointwise [tqry]
  have f : ∀ d : Fin 128, extractStridedSlice S256x128 ![0, 128 * hd.val] (B.tz o hx) hs (ix2 q d) = B.tz o hx (ix2 q (⟨128 * hd.val + d.val, by omega⟩ : Fin 1024)) := fun d => by
    pointwise []
  rw [e, turn_at, f, f, B.tz_at o hx q n hn, B.tz_at o hx q n hn, tt_at o ht q n hn, tt_at o ht q n hn]
  rfl
theorem tvt_at (hd : Fin 8) (hc : c = 64 * hd.val) (d : Fin 64) (d' : Fin 80) (hd' : d'.val = d.val) : B.tvt o hx c hv (ix4 0 0 d q) = B.vt hd d' n := by
  subst hc
  have e : B.tvt o hx (64 * hd.val) hv (ix4 0 0 d q) = B.tv o hx (ix2 (⟨64 * hd.val + d.val, by omega⟩ : Fin 512) q) := by
    pointwise [tvt]
  rw [e, B.tv_at o hx q n hn, vt, dif_pos (show d'.val < 64 by omega)]
  exact congrArg (fun j => B.vn j n) (Fin.ext (by show 64 * hd.val + d.val = 64 * hd.val + d'.val; omega))
end
end Blks
end Cert.Proj
end
-- ==== Proof.At2.lean ====
/-
  The blocks a grid point of the projections reads.
-/
module
public import proofs.«01_k».proof.Proof.Tile2
public import proofs.«01_k».proof.Proof.Launch2
@[expose] public section
set_option maxRecDepth 16384
noncomputable section
namespace Cert.Proj
open Cert.Kernel2Ideal Cert.Kernel2Ideal.Gen Idealize.ShloMosaic Idealize.ShloMosaic.TcCoe

variable (m : (ℓ : Loc nD τ sig) → Buf (Elt Ideal) ℓ) (c : Dev nD) (t : Fin cfg0.N)

/-- The blocks grid point `t` reads. -/
def blks : Blks where
  x := iblk m c 0 t
  mo := iblk m c 1 t
  g := iblk m c 2 t
  b := iblk m c 3 t
  wa := iblk m c 4 t
  wr := iblk m c 5 t
  gq := iblk m c 6 t
  wq := iblk m c 7 t
  gk := iblk m c 8 t
  wk := iblk m c 9 t
  wv := iblk m c 10 t
  cq := iblk m c 11 t
  sq := iblk m c 12 t
  ck := iblk m c 13 t
  sk := iblk m c 14 t

end Cert.Proj
end
-- ==== Proof.Host2.lean ====
/- What the host code hands to the projections, element by element. -/
module
public import proofs.«01_k».proof.Proof.Launch2
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.Proj
open Cert.Kernel2Ideal Cert.Kernel2Ideal.Gen

/-- The first weights' columns for the latents, zeros, the rotary columns turned, the rotary columns. -/
def krW (w : FVec Ideal S1024x2464 .f32) : FVec Ideal S1024x32 .f32 := extractStridedSlice S1024x32 ![0, 384] w slices_S1024x2464_S1024x32_0_384
def turnW (v : FVec Ideal S1024x32 .f32) : FVec Ideal S1024x32 .f32 :=
  concatenate S1024x32 1 [⟨S1024x8, Host.negf (extractStridedSlice S1024x8 ![0, 8] v slices_S1024x32_S1024x8_0_8)⟩,
    ⟨S1024x8, extractStridedSlice S1024x8 ![0, 0] v slices_S1024x32_S1024x8_0_0⟩,
    ⟨S1024x8, Host.negf (extractStridedSlice S1024x8 ![0, 24] v slices_S1024x32_S1024x8_0_24)⟩,
    ⟨S1024x8, extractStridedSlice S1024x8 ![0, 16] v slices_S1024x32_S1024x8_0_16⟩] concatenates_S1024x8_S1024x8_S1024x8_S1024x8_S1024x32_d1
def waT (w : FVec Ideal S1024x2464 .f32) : FVec Ideal S1024x512 .bf16 :=
  truncf .bf16 (concatenate S1024x512 1 [⟨S1024x384, extractStridedSlice S1024x384 ![0, 0] w slices_S1024x2464_S1024x384_0_0⟩,
    ⟨S1024x64, broadcastInDim S1024x64 ![] bcast_S_S1024x64 (constant S_ .f32 0x00000000#32)⟩, ⟨S1024x32, turnW (krW w)⟩, ⟨S1024x32, krW w⟩]
    concatenates_S1024x384_S1024x64_S1024x32_S1024x32_S1024x512_d1) bitsLt_bf16_f32
/-- Its columns for the gates. -/
def wrT (w : FVec Ideal S1024x2464 .f32) : FVec Ideal S1024x2048 .bf16 :=
  truncf .bf16 (extractStridedSlice S1024x2048 ![0, 416] w slices_S1024x2464_S1024x2048_0_416) bitsLt_bf16_f32
/-- The queries' weights head by head: 64 columns, the rotary columns turned, the rotary columns. -/
def qrW (w : FVec Ideal S256x768 .f32) : FVec Ideal S256x8x32 .f32 :=
  extractStridedSlice S256x8x32 ![0, 0, 64] (shapeCast S256x8x96 w shapeCasts_S256x768_S256x8x96) slices_S256x8x96_S256x8x32_0_0_64
def turnQ (v : FVec Ideal S256x8x32 .f32) : FVec Ideal S256x8x32 .f32 :=
  concatenate S256x8x32 2 [⟨S256x8x8, Host.negf (extractStridedSlice S256x8x8 ![0, 0, 8] v slices_S256x8x32_S256x8x8_0_0_8)⟩,
    ⟨S256x8x8, extractStridedSlice S256x8x8 ![0, 0, 0] v slices_S256x8x32_S256x8x8_0_0_0⟩,
    ⟨S256x8x8, Host.negf (extractStridedSlice S256x8x8 ![0, 0, 24] v slices_S256x8x32_S256x8x8_0_0_24)⟩,
    ⟨S256x8x8, extractStridedSlice S256x8x8 ![0, 0, 16] v slices_S256x8x32_S256x8x8_0_0_16⟩] concatenates_S256x8x8_S256x8x8_S256x8x8_S256x8x8_S256x8x32_d2
def wqH (w : FVec Ideal S256x768 .f32) : FVec Ideal S256x8x128 .f32 :=
  concatenate S256x8x128 2 [⟨S256x8x64, extractStridedSlice S256x8x64 ![0, 0, 0] (shapeCast S256x8x96 w shapeCasts_S256x768_S256x8x96) slices_S256x8x96_S256x8x64_0_0_0⟩,
    ⟨S256x8x32, turnQ (qrW w)⟩, ⟨S256x8x32, qrW w⟩] concatenates_S256x8x64_S256x8x32_S256x8x32_S256x8x128_d2
def wqT (w : FVec Ideal S256x768 .f32) : FVec Ideal S256x1024 .bf16 :=
  truncf .bf16 (shapeCast S256x1024 (wqH w) shapeCasts_S256x8x128_S256x1024) bitsLt_bf16_f32
/-- The keys' weights head by head: 64 columns and 64 zeros. -/
def wkH (w : FVec Ideal S128x1024 .f32) : FVec Ideal S128x8x128 .f32 :=
  concatenate S128x8x128 2 [⟨S128x8x64, extractStridedSlice S128x8x64 ![0, 0, 0] (shapeCast S128x8x128 w shapeCasts_S128x1024_S128x8x128) slices_S128x8x128_S128x8x64_0_0_0⟩,
    ⟨S128x8x64, broadcastInDim S128x8x64 ![] bcast_S_S128x8x64 (constant S_ .f32 0x00000000#32)⟩] concatenates_S128x8x64_S128x8x64_S128x8x128_d2
def wkT (w : FVec Ideal S128x1024 .f32) : FVec Ideal S128x1024 .bf16 :=
  truncf .bf16 (shapeCast S128x1024 (wkH w) shapeCasts_S128x8x128_S128x1024) bitsLt_bf16_f32
/-- The values' weights, transposed. -/
def wvH (w : FVec Ideal S128x1024 .f32) : FVec Ideal S8x64x128 .f32 :=
  transpose S8x64x128 [1, 2, 0] (extractStridedSlice S128x8x64 ![0, 0, 64] (shapeCast S128x8x128 w shapeCasts_S128x1024_S128x8x128) slices_S128x8x128_S128x8x64_0_0_64) transposes_S128x8x64_S8x64x128_1_2_0
def wvT (w : FVec Ideal S128x1024 .f32) : FVec Ideal S512x128 .bf16 :=
  truncf .bf16 (shapeCast S512x128 (wvH w) shapeCasts_S8x64x128_S512x128) bitsLt_bf16_f32
/-- A vector as one row. -/
def rowD (x : FVec Ideal S1024 .f32) : FVec Ideal S1x1024 .f32 := shapeCast S1x1024 x shapeCasts_S1024_S1x1024
def rowQ (x : FVec Ideal S256 .f32) : FVec Ideal S1x256 .f32 := shapeCast S1x256 x shapeCasts_S256_S1x256
def rowK (x : FVec Ideal S128 .f32) : FVec Ideal S1x128 .f32 := shapeCast S1x128 x shapeCasts_S128_S1x128
/-- A table of angles, each group's eight twice. -/
def twice (x : FVec Ideal S2048x2x8 .f32) : FVec Ideal S2048x32 .f32 :=
  shapeCast S2048x32 (broadcastInDim S2048x2x2x8 ![0, 1, 2, 3] bcast_S2048x2x1x8_S2048x2x2x8_0_1_2_3 (broadcastInDim S2048x2x1x8 ![0, 1, 3] bcast_S2048x2x8_S2048x2x1x8_0_1_3 x)) shapeCasts_S2048x2x2x8_S2048x32
/-- The table behind 64 ones and 32 zeros; behind 96 zeros. -/
def tab (b : BitVec 32) (x : FVec Ideal S2048x2x8 .f32) : FVec Ideal S2048x128 .f32 :=
  concatenate S2048x128 1 [⟨S2048x64, broadcastInDim S2048x64 ![] bcast_S_S2048x64 (constant S_ .f32 b)⟩,
    ⟨S2048x32, broadcastInDim S2048x32 ![] bcast_S_S2048x32 (constant S_ .f32 0x00000000#32)⟩, ⟨S2048x32, twice x⟩] concatenates_S2048x64_S2048x32_S2048x32_S2048x128_d1

/-! ## Read at an index -/

theorem turnW_at (v : FVec Ideal S1024x32 .f32) (k : Fin 1024) (j : Fin 32) : turnW v (ix2 k j)
    = if h : j.val / 8 % 2 < 1 then -(v (ix2 k (⟨j.val + 8, by omega⟩ : Fin 32))) else v (ix2 k (⟨j.val - 8, by omega⟩ : Fin 32)) := by
  pointwise [turnW]
  rcases Nat.lt_or_ge j.val 8 with h1 | h1
  · rw [dif_pos h1, dif_pos (show j.val / 8 % 2 < 1 by omega)]
    exact congrArg (fun z => -(v (ix2 k z))) (Fin.ext (by show 8 + j.val = j.val + 8; omega))
  rw [dif_neg (Nat.not_lt.2 h1)]
  rcases Nat.lt_or_ge j.val 16 with h2 | h2
  · rw [dif_pos (show j.val - 8 < 8 by omega), dif_neg (show ¬ j.val / 8 % 2 < 1 by omega)]
  rw [dif_neg (show ¬ j.val - 8 < 8 by omega)]
  rcases Nat.lt_or_ge j.val 24 with h3 | h3
  · rw [dif_pos (show j.val - 8 - 8 < 8 by omega), dif_pos (show j.val / 8 % 2 < 1 by omega)]
    exact congrArg (fun z => -(v (ix2 k z))) (Fin.ext (by show 24 + (j.val - 8 - 8) = j.val + 8; omega))
  · rw [dif_neg (show ¬ j.val - 8 - 8 < 8 by omega), dif_neg (show ¬ j.val / 8 % 2 < 1 by omega)]
    exact congrArg (fun z => v (ix2 k z)) (Fin.ext (by show 16 + (j.val - 8 - 8 - 8) = j.val - 8; omega))
theorem krW_at (w : FVec Ideal S1024x2464 .f32) (k : Fin 1024) (j : Fin 32) : krW w (ix2 k j) = w (ix2 k (⟨384 + j.val, by omega⟩ : Fin 2464)) := by
  pointwise [krW]
theorem wa_lo (w : FVec Ideal S1024x2464 .f32) (k : Fin 1024) (j : Fin 512) (hj : j.val < 384) : waT w (ix2 k j) = w (ix2 k (⟨j.val, by omega⟩ : Fin 2464)) := by
  pointwise [waT]
  rw [dif_pos hj]
theorem wa_turn (w : FVec Ideal S1024x2464 .f32) (k : Fin 1024) (j : Fin 32) : waT w (ix2 k (⟨448 + j.val, by omega⟩ : Fin 512)) = turnW (krW w) (ix2 k j) := by
  generalize ht : turnW (krW w) = T
  have e : waT w = truncf .bf16 (concatenate S1024x512 1 [⟨S1024x384, extractStridedSlice S1024x384 ![0, 0] w slices_S1024x2464_S1024x384_0_0⟩,
    ⟨S1024x64, broadcastInDim S1024x64 ![] bcast_S_S1024x64 (constant S_ .f32 0x00000000#32)⟩, ⟨S1024x32, T⟩, ⟨S1024x32, krW w⟩]
    concatenates_S1024x384_S1024x64_S1024x32_S1024x32_S1024x512_d1) bitsLt_bf16_f32 := by rw [← ht]; rfl
  rw [e]
  pointwise []
  rw [dif_neg (by omega), dif_neg (by omega), dif_pos (by omega)]
  exact congrArg (fun z => T (ix2 k z)) (Fin.ext (by show 448 + j.val - 384 - 64 = j.val; omega))
theorem wa_kr (w : FVec Ideal S1024x2464 .f32) (k : Fin 1024) (j : Fin 32) : waT w (ix2 k (⟨480 + j.val, by omega⟩ : Fin 512)) = krW w (ix2 k j) := by
  generalize ht : turnW (krW w) = T
  generalize hk : krW w = K
  have e : waT w = truncf .bf16 (concatenate S1024x512 1 [⟨S1024x384, extractStridedSlice S1024x384 ![0, 0] w slices_S1024x2464_S1024x384_0_0⟩,
    ⟨S1024x64, broadcastInDim S1024x64 ![] bcast_S_S1024x64 (constant S_ .f32 0x00000000#32)⟩, ⟨S1024x32, T⟩, ⟨S1024x32, K⟩]
    concatenates_S1024x384_S1024x64_S1024x32_S1024x32_S1024x512_d1) bitsLt_bf16_f32 := by rw [← ht, ← hk]; rfl
  rw [e]
  pointwise []
  rw [dif_neg (by omega), dif_neg (by omega), dif_neg (by omega)]
  exact congrArg (fun z => K (ix2 k z)) (Fin.ext (by show 480 + j.val - 384 - 64 - 32 = j.val; omega))
theorem wr_at (w : FVec Ideal S1024x2464 .f32) (k : Fin 1024) (j : Fin 2048) : wrT w (ix2 k j) = w (ix2 k (⟨416 + j.val, by omega⟩ : Fin 2464)) := by
  pointwise [wrT]
theorem turnQ_at (v : FVec Ideal S256x8x32 .f32) (k : Fin 256) (h : Fin 8) (j : Fin 32) : turnQ v (ix3 k h j)
    = if h' : j.val / 8 % 2 < 1 then -(v (ix3 k h (⟨j.val + 8, by omega⟩ : Fin 32))) else v (ix3 k h (⟨j.val - 8, by omega⟩ : Fin 32)) := by
  pointwise [turnQ]
  rcases Nat.lt_or_ge j.val 8 with h1 | h1
  · rw [dif_pos h1, dif_pos (show j.val / 8 % 2 < 1 by omega)]
    exact congrArg (fun z => -(v (ix3 k h z))) (Fin.ext (by show 8 + j.val = j.val + 8; omega))
  rw [dif_neg (Nat.not_lt.2 h1)]
  rcases Nat.lt_or_ge j.val 16 with h2 | h2
  · rw [dif_pos (show j.val - 8 < 8 by omega), dif_neg (show ¬ j.val / 8 % 2 < 1 by omega)]
  rw [dif_neg (show ¬ j.val - 8 < 8 by omega)]
  rcases Nat.lt_or_ge j.val 24 with h3 | h3
  · rw [dif_pos (show j.val - 8 - 8 < 8 by omega), dif_pos (show j.val / 8 % 2 < 1 by omega)]
    exact congrArg (fun z => -(v (ix3 k h z))) (Fin.ext (by show 24 + (j.val - 8 - 8) = j.val + 8; omega))
  · rw [dif_neg (show ¬ j.val - 8 - 8 < 8 by omega), dif_neg (show ¬ j.val / 8 % 2 < 1 by omega)]
    exact congrArg (fun z => v (ix3 k h z)) (Fin.ext (by show 16 + (j.val - 8 - 8 - 8) = j.val - 8; omega))
theorem qrW_at (w : FVec Ideal S256x768 .f32) (k : Fin 256) (h : Fin 8) (j : Fin 32) : qrW w (ix3 k h j) = w (ix2 k (⟨h.val * 96 + (64 + j.val), by omega⟩ : Fin 768)) := by
  pointwise [qrW]
theorem wqT_at (w : FVec Ideal S256x768 .f32) (k : Fin 256) (j : Fin 1024) (h : Fin 8) (d : Fin 128) (e : j.val = 128 * h.val + d.val) :
    wqT w (ix2 k j) = wqH w (ix3 k h d) := by
  unfold wqT
  generalize wqH w = W
  pointwise []
  refine congrArg₂ (fun a b => W (ix3 k a b)) (Fin.ext ?_) (Fin.ext ?_)
  · show j.val / 128 = h.val; omega
  · show j.val % 128 = d.val; omega
theorem wqH_lo (w : FVec Ideal S256x768 .f32) (k : Fin 256) (h : Fin 8) (d : Fin 128) (hd : d.val < 64) :
    wqH w (ix3 k h d) = w (ix2 k (⟨h.val * 96 + d.val, by omega⟩ : Fin 768)) := by
  pointwise [wqH]
  rw [dif_pos hd]
theorem wqH_turn (w : FVec Ideal S256x768 .f32) (k : Fin 256) (h : Fin 8) (j : Fin 32) :
    wqH w (ix3 k h (⟨64 + j.val, by omega⟩ : Fin 128)) = turnQ (qrW w) (ix3 k h j) := by
  unfold wqH
  generalize turnQ (qrW w) = T
  generalize qrW w = K
  pointwise []
theorem wqH_hi (w : FVec Ideal S256x768 .f32) (k : Fin 256) (h : Fin 8) (j : Fin 32) :
    wqH w (ix3 k h (⟨96 + j.val, by omega⟩ : Fin 128)) = qrW w (ix3 k h j) := by
  unfold wqH
  generalize turnQ (qrW w) = T
  generalize qrW w = K
  pointwise []
  rw [dif_neg (by omega), dif_neg (by omega)]
  exact congrArg (fun z => K (ix3 k h z)) (Fin.ext (by show 96 + j.val - 64 - 32 = j.val; omega))
theorem wkT_at (w : FVec Ideal S128x1024 .f32) (k : Fin 128) (j : Fin 1024) (h : Fin 8) (d : Fin 128) (e : j.val = 128 * h.val + d.val) :
    wkT w (ix2 k j) = if hd : d.val < 64 then w (ix2 k (⟨h.val * 128 + d.val, by omega⟩ : Fin 1024)) else 0 := by
  unfold wkT
  have e1 : shapeCast S128x1024 (wkH w) shapeCasts_S128x8x128_S128x1024 (ix2 k j) = wkH w (ix3 k h d) := by
    generalize wkH w = W
    pointwise []
    refine congrArg₂ (fun a b => W (ix3 k a b)) (Fin.ext ?_) (Fin.ext ?_)
    · show j.val / 128 = h.val; omega
    · show j.val % 128 = d.val; omega
  refine Eq.trans e1 ?_
  pointwise [wkH]
theorem wvT_at (w : FVec Ideal S128x1024 .f32) (k : Fin 128) (j : Fin 512) (h : Fin 8) (d : Fin 64) (e : j.val = 64 * h.val + d.val) :
    wvT w (ix2 j k) = w (ix2 k (⟨h.val * 128 + (64 + d.val), by omega⟩ : Fin 1024)) := by
  unfold wvT
  have e1 : shapeCast S512x128 (wvH w) shapeCasts_S8x64x128_S512x128 (ix2 j k) = wvH w (ix3 h d k) := by
    generalize wvH w = W
    pointwise []
    refine congrArg₂ (fun a b => W (ix3 a b k)) (Fin.ext ?_) (Fin.ext ?_)
    · show j.val / 64 = h.val; omega
    · show j.val % 64 = d.val; omega
  refine Eq.trans e1 ?_
  pointwise [wvH]
theorem rowD_at (x : FVec Ideal S1024 .f32) (k : Fin 1024) : rowD x (ix2 0 k) = x (ix1 k) := by pointwise [rowD]
theorem rowQ_at (x : FVec Ideal S256 .f32) (k : Fin 256) : rowQ x (ix2 0 k) = x (ix1 k) := by pointwise [rowQ]
theorem rowK_at (x : FVec Ideal S128 .f32) (k : Fin 128) : rowK x (ix2 0 k) = x (ix1 k) := by pointwise [rowK]
theorem twice_at (x : FVec Ideal S2048x2x8 .f32) (n : Fin 2048) (j : Fin 32) :
    twice x (ix2 n j) = x (ix3 n (⟨j.val / 16, by omega⟩ : Fin 2) (⟨j.val % 8, by omega⟩ : Fin 8)) := by
  pointwise [twice]
theorem tab_at (b : BitVec 32) (x : FVec Ideal S2048x2x8 .f32) (n : Fin 2048) (d : Fin 128) :
    tab b x (ix2 n d) = if h : d.val < 64 then Ideal.ofBits .f32 b else if h' : d.val < 96 then 0
      else x (ix3 n (⟨(d.val - 96) / 16, by omega⟩ : Fin 2) (⟨(d.val - 96) % 8, by omega⟩ : Fin 8)) := by
  have e (j : Fin 32) := twice_at x n j
  unfold tab
  revert e
  generalize twice x = T
  intro e
  pointwise []
  rcases Nat.lt_or_ge d.val 64 with h1 | h1
  · rw [dif_pos h1, dif_pos h1]
  rw [dif_neg (Nat.not_lt.2 h1), dif_neg (Nat.not_lt.2 h1)]
  rcases Nat.lt_or_ge d.val 96 with h2 | h2
  · rw [dif_pos (show d.val - 64 < 32 by omega), dif_pos h2]
  rw [dif_neg (show ¬ d.val - 64 < 32 by omega), dif_neg (Nat.not_lt.2 h2)]
  refine Eq.trans ?_ (e ⟨d.val - 96, by omega⟩)
  exact congrArg (fun z => T (ix2 n z)) (Fin.ext (by show d.val - 64 - 32 = d.val - 96; omega))

end Cert.Proj
end
-- ==== Proof.HostV2.lean ====
/- The arrays the projections' windows read, in the arguments. -/
module
public import proofs.«01_k».proof.Proof.Host2
@[expose] public section
set_option maxRecDepth 16384
noncomputable section
open Idealize.ShloMosaic Idealize.ShloMosaic.TcCoe Idealize.SL.Sem
namespace Cert.Proj
open Cert.Kernel2Ideal Cert.Kernel2Ideal.Gen
variable (m : (ℓ : Loc nD τ sig) → Buf (Elt Ideal) ℓ) (c : Dev nD)

set_option maxHeartbeats 4000000 in
theorem V_v38 : V m c main_v38 = rowD (m ((c.tc : Thread nD τ).loc main_arg2)) := by
  dsimp only [V, hostOps0]
  after_results_simp; rfl
set_option maxHeartbeats 4000000 in
theorem V_v39 : V m c main_v39 = rowD (m ((c.tc : Thread nD τ).loc main_arg3)) := by
  dsimp only [V, hostOps0]
  after_results_simp; rfl
set_option maxHeartbeats 4000000 in
theorem V_v11 : V m c main_v11 = waT (m ((c.tc : Thread nD τ).loc main_arg4)) := by
  dsimp only [V, hostOps0]
  after_results_simp; rfl
set_option maxHeartbeats 4000000 in
theorem V_v13 : V m c main_v13 = wrT (m ((c.tc : Thread nD τ).loc main_arg4)) := by
  dsimp only [V, hostOps0]
  after_results_simp; rfl
set_option maxHeartbeats 4000000 in
theorem V_v40 : V m c main_v40 = rowQ (m ((c.tc : Thread nD τ).loc main_arg5)) := by
  dsimp only [V, hostOps0]
  after_results_simp; rfl
set_option maxHeartbeats 4000000 in
theorem V_v27 : V m c main_v27 = wqT (m ((c.tc : Thread nD τ).loc main_arg6)) := by
  dsimp only [V, hostOps0]
  after_results_simp; rfl
set_option maxHeartbeats 4000000 in
theorem V_v41 : V m c main_v41 = rowK (m ((c.tc : Thread nD τ).loc main_arg7)) := by
  dsimp only [V, hostOps0]
  after_results_simp; rfl
set_option maxHeartbeats 4000000 in
theorem V_v33 : V m c main_v33 = wkT (m ((c.tc : Thread nD τ).loc main_arg8)) := by
  dsimp only [V, hostOps0]
  after_results_simp; rfl
set_option maxHeartbeats 4000000 in
theorem V_v37 : V m c main_v37 = wvT (m ((c.tc : Thread nD τ).loc main_arg8)) := by
  dsimp only [V, hostOps0]
  after_results_simp; rfl
set_option maxHeartbeats 4000000 in
theorem V_v47 : V m c main_v47 = tab 0x3F800000#32 (m ((c.tc : Thread nD τ).loc main_arg9)) := by
  dsimp only [V, hostOps0]
  after_results_simp; rfl
set_option maxHeartbeats 4000000 in
theorem V_v53 : V m c main_v53 = tab 0x00000000#32 (m ((c.tc : Thread nD τ).loc main_arg10)) := by
  dsimp only [V, hostOps0]
  after_results_simp; rfl
set_option maxHeartbeats 4000000 in
theorem V_v59 : V m c main_v59 = tab 0x00000000#32 (m ((c.tc : Thread nD τ).loc main_arg9)) := by
  dsimp only [V, hostOps0]
  after_results_simp; rfl
set_option maxHeartbeats 4000000 in
theorem V_v65 : V m c main_v65 = tab 0x00000000#32 (m ((c.tc : Thread nD τ).loc main_arg10)) := by
  dsimp only [V, hostOps0]
  after_results_simp; rfl
set_option maxHeartbeats 4000000 in
theorem V_arg0 : V m c main_arg0 = m ((c.tc : Thread nD τ).loc main_arg0) := by
  dsimp only [V, hostOps0]
  after_results_simp
set_option maxHeartbeats 4000000 in
theorem V_arg1 : V m c main_arg1 = m ((c.tc : Thread nD τ).loc main_arg1) := by
  dsimp only [V, hostOps0]
  after_results_simp

end Cert.Proj
end
-- ==== Proof.Blocks2.lean ====
/-
  The blocks of a grid point of the projections, at an index, in the arguments.
-/
module
public import proofs.«01_k».proof.Proof.At2
public import proofs.«01_k».proof.Proof.HostV2
public import Idealize.ShloMosaic.Lib.Pipeline.ValueKit
@[expose] public section
set_option maxRecDepth 16384
noncomputable section
open Idealize.ShloMosaic Idealize.ShloMosaic.TcCoe
namespace Cert.Proj
open Cert.Kernel2Ideal Cert.Kernel2Ideal.Gen

theorem point_lt (t : Fin cfg0.N) : t.val < 16 := (by decide +kernel : ∀ t : Fin grid0.N, t.val < 16) t
theorem idx0 : ∀ t : Fin cfg0.N, win0_0.index t = ![t.val / 2, t.val % 2, 0] :=
  (by decide +kernel : ∀ t : Fin grid0.N, win0_0.index t = ![t.val / 2, t.val % 2, 0])
theorem idx1 : ∀ t : Fin cfg0.N, win0_1.index t = ![t.val / 2, 0, 0] :=
  (by decide +kernel : ∀ t : Fin grid0.N, win0_1.index t = ![t.val / 2, 0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![0, 0] :=
  (by decide +kernel : ∀ t : Fin grid0.N, win0_9.index t = ![0, 0])
theorem idx10 : ∀ t : Fin cfg0.N, win0_10.index t = ![0, 0] :=
  (by decide +kernel : ∀ t : Fin grid0.N, win0_10.index t = ![0, 0])
theorem idx11 : ∀ t : Fin cfg0.N, win0_11.index t = ![t.val % 2, 0] :=
  (by decide +kernel : ∀ t : Fin grid0.N, win0_11.index t = ![t.val % 2, 0])
theorem idx12 : ∀ t : Fin cfg0.N, win0_12.index t = ![t.val % 2, 0] :=
  (by decide +kernel : ∀ t : Fin grid0.N, win0_12.index t = ![t.val % 2, 0])
theorem idx13 : ∀ t : Fin cfg0.N, win0_13.index t = ![t.val % 2, 0] :=
  (by decide +kernel : ∀ t : Fin grid0.N, win0_13.index t = ![t.val % 2, 0])
theorem idx14 : ∀ t : Fin cfg0.N, win0_14.index t = ![t.val % 2, 0] :=
  (by decide +kernel : ∀ t : Fin grid0.N, win0_14.index t = ![t.val % 2, 0])
theorem idx15 : ∀ t : Fin cfg0.N, win0_15.index t = ![t.val / 2, 0, t.val % 2, 0] :=
  (by decide +kernel : ∀ t : Fin grid0.N, win0_15.index t = ![t.val / 2, 0, t.val % 2, 0])
theorem idx16 : ∀ t : Fin cfg0.N, win0_16.index t = ![t.val / 2, 0, t.val % 2, 0] :=
  (by decide +kernel : ∀ t : Fin grid0.N, win0_16.index t = ![t.val / 2, 0, t.val % 2, 0])
theorem idx17 : ∀ t : Fin cfg0.N, win0_17.index t = ![t.val / 2, 0, 0, t.val % 2] :=
  (by decide +kernel : ∀ t : Fin grid0.N, win0_17.index t = ![t.val / 2, 0, 0, t.val % 2])
theorem idx18 : ∀ t : Fin cfg0.N, win0_18.index t = ![t.val / 2, t.val % 2, 0] :=
  (by decide +kernel : ∀ t : Fin grid0.N, win0_18.index t = ![t.val / 2, t.val % 2, 0])
theorem idx19 : ∀ t : Fin cfg0.N, win0_19.index t = ![t.val / 2, t.val % 2, 0] :=
  (by decide +kernel : ∀ t : Fin grid0.N, win0_19.index t = ![t.val / 2, t.val % 2, 0])
theorem idx20 : ∀ t : Fin cfg0.N, win0_20.index t = ![t.val / 2, t.val % 2, 0] :=
  (by decide +kernel : ∀ t : Fin grid0.N, win0_20.index t = ![t.val / 2, t.val % 2, 0])
theorem idx21 : ∀ t : Fin cfg0.N, win0_21.index t = ![t.val / 2, t.val % 2, 0] :=
  (by decide +kernel : ∀ t : Fin grid0.N, win0_21.index t = ![t.val / 2, t.val % 2, 0])
theorem idx22 : ∀ t : Fin cfg0.N, win0_22.index t = ![t.val / 2, t.val % 2, 0] :=
  (by decide +kernel : ∀ t : Fin grid0.N, win0_22.index t = ![t.val / 2, t.val % 2, 0])

variable (m : (ℓ : Loc nD τ sig) → Buf (Elt Ideal) ℓ) (c : Dev nD) (t : Fin cfg0.N)

/-- The batch entry of a grid point, and its row `n` in the array. -/
def bat : Fin 8 := ⟨t.val / 2, by have := point_lt t; omega⟩
def row (n : Fin 1024) : Fin 2048 := ⟨1024 * (t.val % 2) + n.val, by omega⟩

/-! ## The arguments -/
def b0 : FVec Ideal S8x2048x1024 .f32 := m ((c.tc : Thread nD τ).loc main_arg0)
def b1 : FVec Ideal S9x1x3072 .f32 := m ((c.tc : Thread nD τ).loc main_arg1)
def b2 : FVec Ideal S1024 .f32 := m ((c.tc : Thread nD τ).loc main_arg2)
def b3 : FVec Ideal S1024 .f32 := m ((c.tc : Thread nD τ).loc main_arg3)
def b4 : FVec Ideal S1024x2464 .f32 := m ((c.tc : Thread nD τ).loc main_arg4)
def b5 : FVec Ideal S256 .f32 := m ((c.tc : Thread nD τ).loc main_arg5)
def b6 : FVec Ideal S256x768 .f32 := m ((c.tc : Thread nD τ).loc main_arg6)
def b7 : FVec Ideal S128 .f32 := m ((c.tc : Thread nD τ).loc main_arg7)
def b8 : FVec Ideal S128x1024 .f32 := m ((c.tc : Thread nD τ).loc main_arg8)
def b9 : FVec Ideal S2048x2x8 .f32 := m ((c.tc : Thread nD τ).loc main_arg9)
def b10 : FVec Ideal S2048x2x8 .f32 := m ((c.tc : Thread nD τ).loc main_arg10)

/-! ## The blocks -/

theorem x_emb (n : Fin 1024) (k : Fin 1024) : (win0_0.blk t).view.emb (ix3 0 n k) = (ix3 (bat t) (row t n) k) := by
  unfold bat row
  blk_ext [idx0 t]
theorem x_blk (n : Fin 1024) (k : Fin 1024) : (blks m c t).x (ix3 0 n k) = b0 m c (ix3 (bat t) (row t n) k) :=
  (congrArg (V m c main_arg0) (x_emb t n k)).trans (congrFun (V_arg0 m c) _)
theorem mo_emb (k : Fin 3072) : (win0_1.blk t).view.emb (ix3 0 0 k) = (ix3 (⟨(bat t).val, by omega⟩ : Fin 9) (0 : Fin 1) k) := by
  unfold bat
  blk_ext [idx1 t]
theorem mo_blk (k : Fin 3072) : (blks m c t).mo (ix3 0 0 k) = b1 m c (ix3 (⟨(bat t).val, by omega⟩ : Fin 9) (0 : Fin 1) k) :=
  (congrArg (V m c main_arg1) (mo_emb t k)).trans (congrFun (V_arg1 m c) _)
theorem g_emb (k : Fin 1024) : (win0_2.blk t).view.emb (ix2 0 k) = (ix2 0 k) := by
  blk_ext [idx2 t]
theorem g_blk (k : Fin 1024) : (blks m c t).g (ix2 0 k) = rowD (b2 m c) (ix2 0 k) :=
  (congrArg (V m c main_v38) (g_emb t k)).trans (congrFun (V_v38 m c) _)
theorem b_emb (k : Fin 1024) : (win0_3.blk t).view.emb (ix2 0 k) = (ix2 0 k) := by
  blk_ext [idx3 t]
theorem b_blk (k : Fin 1024) : (blks m c t).b (ix2 0 k) = rowD (b3 m c) (ix2 0 k) :=
  (congrArg (V m c main_v39) (b_emb t k)).trans (congrFun (V_v39 m c) _)
theorem wa_emb (k : Fin 1024) (j : Fin 512) : (win0_4.blk t).view.emb (ix2 k j) = (ix2 k j) := by
  blk_ext [idx4 t]
theorem wa_blk (k : Fin 1024) (j : Fin 512) : (blks m c t).wa (ix2 k j) = waT (b4 m c) (ix2 k j) :=
  (congrArg (V m c main_v11) (wa_emb t k j)).trans (congrFun (V_v11 m c) _)
theorem wr_emb (k : Fin 1024) (j : Fin 2048) : (win0_5.blk t).view.emb (ix2 k j) = (ix2 k j) := by
  blk_ext [idx5 t]
theorem wr_blk (k : Fin 1024) (j : Fin 2048) : (blks m c t).wr (ix2 k j) = wrT (b4 m c) (ix2 k j) :=
  (congrArg (V m c main_v13) (wr_emb t k j)).trans (congrFun (V_v13 m c) _)
theorem gq_emb (k : Fin 256) : (win0_6.blk t).view.emb (ix2 0 k) = (ix2 0 k) := by
  blk_ext [idx6 t]
theorem gq_blk (k : Fin 256) : (blks m c t).gq (ix2 0 k) = rowQ (b5 m c) (ix2 0 k) :=
  (congrArg (V m c main_v40) (gq_emb t k)).trans (congrFun (V_v40 m c) _)
theorem wq_emb (k : Fin 256) (j : Fin 1024) : (win0_7.blk t).view.emb (ix2 k j) = (ix2 k j) := by
  blk_ext [idx7 t]
theorem wq_blk (k : Fin 256) (j : Fin 1024) : (blks m c t).wq (ix2 k j) = wqT (b6 m c) (ix2 k j) :=
  (congrArg (V m c main_v27) (wq_emb t k j)).trans (congrFun (V_v27 m c) _)
theorem gk_emb (k : Fin 128) : (win0_8.blk t).view.emb (ix2 0 k) = (ix2 0 k) := by
  blk_ext [idx8 t]
theorem gk_blk (k : Fin 128) : (blks m c t).gk (ix2 0 k) = rowK (b7 m c) (ix2 0 k) :=
  (congrArg (V m c main_v41) (gk_emb t k)).trans (congrFun (V_v41 m c) _)
theorem wk_emb (k : Fin 128) (j : Fin 1024) : (win0_9.blk t).view.emb (ix2 k j) = (ix2 k j) := by
  blk_ext [idx9 t]
theorem wk_blk (k : Fin 128) (j : Fin 1024) : (blks m c t).wk (ix2 k j) = wkT (b8 m c) (ix2 k j) :=
  (congrArg (V m c main_v33) (wk_emb t k j)).trans (congrFun (V_v33 m c) _)
theorem wv_emb (j : Fin 512) (k : Fin 128) : (win0_10.blk t).view.emb (ix2 j k) = (ix2 j k) := by
  blk_ext [idx10 t]
theorem wv_blk (j : Fin 512) (k : Fin 128) : (blks m c t).wv (ix2 j k) = wvT (b8 m c) (ix2 j k) :=
  (congrArg (V m c main_v37) (wv_emb t j k)).trans (congrFun (V_v37 m c) _)
theorem cq_emb (n : Fin 1024) (d : Fin 128) : (win0_11.blk t).view.emb (ix2 n d) = (ix2 (row t n) d) := by
  unfold row
  blk_ext [idx11 t]
theorem cq_blk (n : Fin 1024) (d : Fin 128) : (blks m c t).cq (ix2 n d) = tab 0x3F800000#32 (b9 m c) (ix2 (row t n) d) :=
  (congrArg (V m c main_v47) (cq_emb t n d)).trans (congrFun (V_v47 m c) _)
theorem sq_emb (n : Fin 1024) (d : Fin 128) : (win0_12.blk t).view.emb (ix2 n d) = (ix2 (row t n) d) := by
  unfold row
  blk_ext [idx12 t]
theorem sq_blk (n : Fin 1024) (d : Fin 128) : (blks m c t).sq (ix2 n d) = tab 0x00000000#32 (b10 m c) (ix2 (row t n) d) :=
  (congrArg (V m c main_v53) (sq_emb t n d)).trans (congrFun (V_v53 m c) _)
theorem ck_emb (n : Fin 1024) (d : Fin 128) : (win0_13.blk t).view.emb (ix2 n d) = (ix2 (row t n) d) := by
  unfold row
  blk_ext [idx13 t]
theorem ck_blk (n : Fin 1024) (d : Fin 128) : (blks m c t).ck (ix2 n d) = tab 0x00000000#32 (b9 m c) (ix2 (row t n) d) :=
  (congrArg (V m c main_v59) (ck_emb t n d)).trans (congrFun (V_v59 m c) _)
theorem sk_emb (n : Fin 1024) (d : Fin 128) : (win0_14.blk t).view.emb (ix2 n d) = (ix2 (row t n) d) := by
  unfold row
  blk_ext [idx14 t]
theorem sk_blk (n : Fin 1024) (d : Fin 128) : (blks m c t).sk (ix2 n d) = tab 0x00000000#32 (b10 m c) (ix2 (row t n) d) :=
  (congrArg (V m c main_v65) (sk_emb t n d)).trans (congrFun (V_v65 m c) _)

/-! ## The results' blocks in their arrays -/

theorem emb15 (h : Fin 8) (n : Fin 1024) (d : Fin 128) : (win0_15.blk t).view.emb (ix4 0 h n d) = (ix4 (bat t) h (row t n) d) := by
  unfold bat row
  blk_ext [idx15 t]
theorem emb16 (h : Fin 8) (n : Fin 1024) (d : Fin 128) : (win0_16.blk t).view.emb (ix4 0 h n d) = (ix4 (bat t) h (row t n) d) := by
  unfold bat row
  blk_ext [idx16 t]
theorem emb17 (h : Fin 8) (d : Fin 80) (n : Fin 1024) : (win0_17.blk t).view.emb (ix4 0 h d n) = (ix4 (bat t) h d (row t n)) := by
  unfold bat row
  blk_ext [idx17 t]
theorem emb18 (n : Fin 1024) (d : Fin 512) : (win0_18.blk t).view.emb (ix3 0 n d) = (ix3 (bat t) (row t n) d) := by
  unfold bat row
  blk_ext [idx18 t]
theorem emb19 (n : Fin 1024) (d : Fin 512) : (win0_19.blk t).view.emb (ix3 0 n d) = (ix3 (bat t) (row t n) d) := by
  unfold bat row
  blk_ext [idx19 t]
theorem emb20 (n : Fin 1024) (d : Fin 512) : (win0_20.blk t).view.emb (ix3 0 n d) = (ix3 (bat t) (row t n) d) := by
  unfold bat row
  blk_ext [idx20 t]
theorem emb21 (n : Fin 1024) (d : Fin 512) : (win0_21.blk t).view.emb (ix3 0 n d) = (ix3 (bat t) (row t n) d) := by
  unfold bat row
  blk_ext [idx21 t]
theorem emb22 (n : Fin 1024) (d : Fin 1024) : (win0_22.blk t).view.emb (ix3 0 n d) = (ix3 (bat t) (row t n) d) := by
  unfold bat row
  blk_ext [idx22 t]

end Cert.Proj
end
-- ==== Proof.Rows2.lean ====
/-
  The rows of a grid point of the projections, in the reference's layers of the arguments.
-/
module
public import proofs.«01_k».proof.Proof.Blocks2
public import proofs.«01_k».proof.Proof.Soft
@[expose] public section
set_option maxRecDepth 16384
noncomputable section
open Idealize.ShloMosaic Idealize.ShloMosaic.TcCoe
namespace Cert.Proj
open Cert.Kernel2Ideal Cert.Kernel2Ideal.Gen

/-- A sum of products with negated reals is the negated sum. -/
theorem sum_neg {ι : Type} [Fintype ι] (f g : ι → EReal) (hf : ∀ k, ∃ r : ℝ, f k = (r : EReal)) (hg : ∀ k, ∃ r : ℝ, g k = (r : EReal)) :
    ∑ k, f k * -(g k) = -(∑ k, f k * g k) := by
  choose a ha using hf
  choose b hb using hg
  have e1 : ∀ k, f k * -(g k) = ((-(a k * b k) : ℝ) : EReal) := fun k => by
    rw [ha, hb, ← EReal.coe_neg, ← EReal.coe_mul]
    congr 1
    ring
  have e2 : ∀ k, f k * g k = ((a k * b k : ℝ) : EReal) := fun k => by rw [ha, hb, ← EReal.coe_mul]
  simp only [e1, e2]
  rw [Cert.Attn.Soft.coe_sum, Cert.Attn.Soft.coe_sum, ← EReal.coe_neg, Finset.sum_neg_distrib]

/-! ## Turning by a product with turned columns -/

/-- A row turned: the products with the turned columns times the sines, the products with the columns times the cosines. -/
theorem turn_rot (p q : Fin 32 → EReal) (cs sn : Fin 2 → Fin 8 → EReal)
    (hq : ∀ j : Fin 32, q j = if h : j.val / 8 % 2 < 1 then -(p ⟨j.val + 8, by omega⟩) else p ⟨j.val - 8, by omega⟩) (j : Fin 32) :
    p j * cs ⟨j.val / 16, by omega⟩ ⟨j.val % 8, by omega⟩ + q j * sn ⟨j.val / 16, by omega⟩ ⟨j.val % 8, by omega⟩ = Ref.rot p cs sn j := by
  unfold Ref.rot
  rw [hq]
  rcases Nat.lt_or_ge (j.val / 8 % 2) 1 with h1 | h1
  · rw [dif_pos h1, dif_pos h1, EReal.neg_mul, ← sub_eq_add_neg]
  · rw [dif_neg (Nat.not_lt.2 h1), dif_neg (Nat.not_lt.2 h1)]

variable (m : (ℓ : Loc nD τ sig) → Buf (Elt Ideal) ℓ) (c : Dev nD) (t : Fin cfg0.N)

/-! ## The reference's layers -/

def H : FVec Ideal S8x2048x1024 .f32 := Ref.lnorm (Ref.cent (b0 m c)) (b2 m c) (b3 m c)
def U : FVec Ideal S8x2048x1024 .f32 := Ref.modul (H m c) (b1 m c)
def P : FVec Ideal Cert.Reference2Ideal.S8x2048x2464 .f32 := Ref.inp (U m c) (b4 m c)
def NQ : FVec Ideal Cert.Reference2Ideal.S8x2048x256 .f32 := Ref.nq (P m c) (b5 m c)
def NK : FVec Ideal Cert.Reference2Ideal.S8x2048x128 .f32 := Ref.nkv (P m c) (b7 m c)
def Q : FVec Ideal Cert.Reference2Ideal.S8x2048x8x96 .f32 := Ref.qh (NQ m c) (b6 m c)
def KV : FVec Ideal Cert.Reference2Ideal.S8x2048x8x128 .f32 := Ref.kvh (NK m c) (b8 m c)

/-- What the precondition says. -/
structure Fin4 : Prop where
  hu : ∀ i, ∃ r : ℝ, U m c i = (r : EReal)
  hw : ∀ i, ∃ r : ℝ, krW (b4 m c) i = (r : EReal)
  hn : ∀ i, ∃ r : ℝ, NQ m c i = (r : EReal)
  hq : ∀ i, ∃ r : ℝ, b6 m c i = (r : EReal)

/-! ## The rows -/

theorem h_row (n d : Fin 1024) : (blks m c t).h n d = H m c (ix3 (bat t) (row t n) d) := by
  unfold Blks.h H
  rw [Ref.lnorm_at]
  have e1 : (fun k => (blks m c t).x (ix3 0 n k)) = fun k => b0 m c (ix3 (bat t) (row t n) k) := funext fun k => x_blk m c t n k
  have e2 : (fun k => (blks m c t).g (ix2 0 k)) = fun k => b2 m c (ix1 k) := funext fun k => (g_blk m c t k).trans (rowD_at _ k)
  have e3 : (fun k => (blks m c t).b (ix2 0 k)) = fun k => b3 m c (ix1 k) := funext fun k => (b_blk m c t k).trans (rowD_at _ k)
  rw [e1, e2, e3]
theorem u_row (n d : Fin 1024) : (blks m c t).u n d = U m c (ix3 (bat t) (row t n) d) := by
  unfold Blks.u U
  rw [Ref.modul_at]
  have e1 : (blks m c t).h n = fun k => H m c (ix3 (bat t) (row t n) k) := funext fun k => h_row m c t n k
  have e2 : (fun k : Fin 1024 => (blks m c t).mo (ix3 0 0 (⟨k.val, by omega⟩ : Fin 3072))) = fun k => b1 m c (ix3 (⟨(bat t).val, by omega⟩ : Fin 9) (0 : Fin 1) (⟨k.val, by omega⟩ : Fin 3072)) :=
    funext fun k => mo_blk m c t _
  have e3 : (fun k : Fin 1024 => (blks m c t).mo (ix3 0 0 (⟨1024 + k.val, by omega⟩ : Fin 3072))) = fun k => b1 m c (ix3 (⟨(bat t).val, by omega⟩ : Fin 9) (0 : Fin 1) (⟨1024 + k.val, by omega⟩ : Fin 3072)) :=
    funext fun k => mo_blk m c t _
  rw [e1, e2, e3]
theorem a_row (n : Fin 1024) (j : Fin 512) : (blks m c t).a n j = ∑ k, U m c (ix3 (bat t) (row t n) k) * waT (b4 m c) (ix2 k j) := by
  unfold Blks.a
  exact Finset.sum_congr rfl fun k _ => by rw [u_row, wa_blk]
theorem a_lo (n : Fin 1024) (j : Fin 512) (hj : j.val < 384) : (blks m c t).a n j = P m c (ix3 (bat t) (row t n) ⟨j.val, by omega⟩) := by
  rw [a_row]
  unfold P
  rw [Ref.inp_at]
  exact Finset.sum_congr rfl fun k _ => by rw [wa_lo _ k j hj]
theorem a_kr (n : Fin 1024) (j : Fin 32) : (blks m c t).a n ⟨480 + j.val, by omega⟩ = P m c (ix3 (bat t) (row t n) ⟨384 + j.val, by omega⟩) := by
  rw [a_row]
  unfold P
  rw [Ref.inp_at]
  exact Finset.sum_congr rfl fun k _ => by rw [wa_kr, krW_at]
theorem a_turn (F : Fin4 m c) (n : Fin 1024) (j : Fin 32) : (blks m c t).a n ⟨448 + j.val, by omega⟩
    = if h : j.val / 8 % 2 < 1 then -(P m c (ix3 (bat t) (row t n) ⟨384 + (j.val + 8), by omega⟩)) else P m c (ix3 (bat t) (row t n) ⟨384 + (j.val - 8), by omega⟩) := by
  rw [a_row]
  unfold P
  rcases Nat.lt_or_ge (j.val / 8 % 2) 1 with h1 | h1
  · rw [dif_pos h1, Ref.inp_at]
    refine Eq.trans (Finset.sum_congr rfl fun k _ => ?_) ((sum_neg (fun k => U m c (ix3 (bat t) (row t n) k)) (fun k => krW (b4 m c) (ix2 k (⟨j.val + 8, by omega⟩ : Fin 32)))
      (fun k => F.hu _) (fun k => F.hw _)).trans (congrArg Neg.neg (Finset.sum_congr rfl fun k _ => ?_)))
    · rw [wa_turn, turnW_at, dif_pos h1]
    · exact congrArg (fun z => U m c (ix3 (bat t) (row t n) k) * z) (krW_at (b4 m c) k ⟨j.val + 8, by omega⟩)
  · rw [dif_neg (Nat.not_lt.2 h1), Ref.inp_at]
    refine Finset.sum_congr rfl fun k _ => ?_
    rw [wa_turn, turnW_at, dif_neg (Nat.not_lt.2 h1), krW_at]
theorem r_row (n : Fin 1024) (j : Fin 2048) : (blks m c t).r n j = P m c (ix3 (bat t) (row t n) ⟨416 + j.val, by omega⟩) := by
  unfold Blks.r P
  rw [Ref.inp_at]
  exact Finset.sum_congr rfl fun k _ => by rw [u_row, wr_blk, wr_at]
theorem ql_row (n : Fin 1024) (d : Fin 256) : (blks m c t).ql n d = NQ m c (ix3 (bat t) (row t n) d) := by
  unfold Blks.ql NQ
  rw [Ref.nq_at]
  have e1 : (fun k : Fin 256 => (blks m c t).a n ⟨k.val, by omega⟩) = fun k => P m c (ix3 (bat t) (row t n) (⟨k.val, by omega⟩ : Fin 2464)) :=
    funext fun k => a_lo m c t n _ (show k.val < 384 by omega)
  have e2 : (fun k => (blks m c t).gq (ix2 0 k)) = fun k => b5 m c (ix1 k) := funext fun k => (gq_blk m c t k).trans (rowQ_at _ k)
  rw [e1, e2]
theorem kv_row (n : Fin 1024) (d : Fin 128) : (blks m c t).kv n d = NK m c (ix3 (bat t) (row t n) d) := by
  unfold Blks.kv NK
  rw [Ref.nkv_at]
  have e1 : (fun k : Fin 128 => (blks m c t).a n ⟨256 + k.val, by omega⟩) = fun k => P m c (ix3 (bat t) (row t n) (⟨256 + k.val, by omega⟩ : Fin 2464)) :=
    funext fun k => a_lo m c t n _ (show 256 + k.val < 384 by omega)
  have e2 : (fun k => (blks m c t).gk (ix2 0 k)) = fun k => b7 m c (ix1 k) := funext fun k => (gk_blk m c t k).trans (rowK_at _ k)
  rw [e1, e2]
theorem kn_lo (n : Fin 1024) (j : Fin 1024) (h : Fin 8) (d : Fin 128) (e : j.val = 128 * h.val + d.val) (hd : d.val < 64) :
    (blks m c t).kn n j = KV m c (ix4 (bat t) (row t n) h d) := by
  unfold Blks.kn KV
  rw [Ref.kvh_at]
  exact Finset.sum_congr rfl fun k _ => by rw [kv_row, wk_blk, wkT_at _ k j h d e, dif_pos hd]
theorem kn_hi (n : Fin 1024) (j : Fin 1024) (h : Fin 8) (d : Fin 128) (e : j.val = 128 * h.val + d.val) (hd : 64 ≤ d.val) :
    (blks m c t).kn n j = 0 := by
  unfold Blks.kn
  exact Finset.sum_eq_zero fun k _ => by rw [wk_blk, wkT_at _ k j h d e, dif_neg (Nat.not_lt.2 hd), mul_zero]
theorem vn_row (n : Fin 1024) (j : Fin 512) (h : Fin 8) (d : Fin 64) (e : j.val = 64 * h.val + d.val) :
    (blks m c t).vn j n = KV m c (ix4 (bat t) (row t n) h ⟨64 + d.val, by omega⟩) := by
  unfold Blks.vn KV
  rw [Ref.kvh_at]
  exact Finset.sum_congr rfl fun k _ => by rw [kv_row, wv_blk, wvT_at _ k j h d e, mul_comm]
theorem z_row (n : Fin 1024) (j : Fin 1024) (h : Fin 8) (d : Fin 128) (e : j.val = 128 * h.val + d.val) :
    (blks m c t).z n j = ∑ k, NQ m c (ix3 (bat t) (row t n) k) * wqH (b6 m c) (ix3 k h d) := by
  unfold Blks.z
  exact Finset.sum_congr rfl fun k _ => by rw [ql_row, wq_blk, wqT_at _ k j h d e]
theorem z_lo (n : Fin 1024) (j : Fin 1024) (h : Fin 8) (d : Fin 128) (e : j.val = 128 * h.val + d.val) (hd : d.val < 64) :
    (blks m c t).z n j = Q m c (ix4 (bat t) (row t n) h ⟨d.val, by omega⟩) := by
  rw [z_row m c t n j h d e]
  unfold Q
  rw [Ref.qh_at]
  exact Finset.sum_congr rfl fun k _ => by rw [wqH_lo _ k h d hd]
theorem z_hi (n : Fin 1024) (j : Fin 1024) (h : Fin 8) (l : Fin 32) (e : j.val = 128 * h.val + (96 + l.val)) :
    (blks m c t).z n j = Q m c (ix4 (bat t) (row t n) h ⟨64 + l.val, by omega⟩) := by
  rw [z_row m c t n j h ⟨96 + l.val, by omega⟩ e]
  unfold Q
  rw [Ref.qh_at]
  exact Finset.sum_congr rfl fun k _ => by rw [wqH_hi, qrW_at]
theorem z_turn (F : Fin4 m c) (n : Fin 1024) (j : Fin 1024) (h : Fin 8) (l : Fin 32) (e : j.val = 128 * h.val + (64 + l.val)) :
    (blks m c t).z n j = if h1 : l.val / 8 % 2 < 1 then -(Q m c (ix4 (bat t) (row t n) h ⟨64 + (l.val + 8), by omega⟩))
      else Q m c (ix4 (bat t) (row t n) h ⟨64 + (l.val - 8), by omega⟩) := by
  rw [z_row m c t n j h ⟨64 + l.val, by omega⟩ e]
  unfold Q
  rcases Nat.lt_or_ge (l.val / 8 % 2) 1 with h1 | h1
  · rw [dif_pos h1, Ref.qh_at]
    refine Eq.trans (Finset.sum_congr rfl fun k _ => ?_) ((sum_neg (fun k => NQ m c (ix3 (bat t) (row t n) k)) (fun k => qrW (b6 m c) (ix3 k h (⟨l.val + 8, by omega⟩ : Fin 32)))
      (fun k => F.hn _) (fun k => ?_)).trans (congrArg Neg.neg (Finset.sum_congr rfl fun k _ => ?_)))
    · rw [wqH_turn, turnQ_at, dif_pos h1]
    · exact (F.hq _).imp fun r e => (qrW_at (b6 m c) k h ⟨l.val + 8, by omega⟩).trans e
    · exact congrArg (fun z => NQ m c (ix3 (bat t) (row t n) k) * z) (qrW_at (b6 m c) k h ⟨l.val + 8, by omega⟩)
  · rw [dif_neg (Nat.not_lt.2 h1), Ref.qh_at]
    refine Finset.sum_congr rfl fun k _ => ?_
    rw [wqH_turn, turnQ_at, dif_neg (Nat.not_lt.2 h1), qrW_at]

/-! ## The tables -/

theorem tab_lo (b : BitVec 32) (x : FVec Ideal S2048x2x8 .f32) (n : Fin 2048) (d : Fin 128) (hd : d.val < 64) : tab b x (ix2 n d) = Ideal.ofBits .f32 b := by
  rw [tab_at, dif_pos hd]
theorem tab_mid (b : BitVec 32) (x : FVec Ideal S2048x2x8 .f32) (n : Fin 2048) (d : Fin 128) (hd : 64 ≤ d.val) (h' : d.val < 96) : tab b x (ix2 n d) = 0 := by
  rw [tab_at, dif_neg (Nat.not_lt.2 hd), dif_pos h']
theorem tab_hi (b : BitVec 32) (x : FVec Ideal S2048x2x8 .f32) (n : Fin 2048) (j : Fin 32) : tab b x (ix2 n (⟨96 + j.val, by omega⟩ : Fin 128))
    = x (ix3 n (⟨j.val / 16, by omega⟩ : Fin 2) (⟨j.val % 8, by omega⟩ : Fin 8)) := by
  rw [tab_at, dif_neg (by show ¬ 96 + j.val < 64; omega), dif_neg (by show ¬ 96 + j.val < 96; omega)]
  refine congrArg₂ (fun a b => x (ix3 n a b)) (Fin.ext ?_) (Fin.ext ?_)
  · show (96 + j.val - 96) / 16 = j.val / 16; omega
  · show (96 + j.val - 96) % 8 = j.val % 8; omega

/-! ## The results -/

theorem key_row (F : Fin4 m c) (h : Fin 8) (n : Fin 1024) (d : Fin 128) : (blks m c t).key h n d
    = Ref.outK (KV m c) (P m c) (b9 m c) (b10 m c) (ix4 (bat t) h (row t n) d) := by
  unfold Blks.key Blks.kr
  rw [Ref.outK_at, ck_blk, sk_blk]
  rcases Nat.lt_or_ge d.val 64 with h1 | h1
  · rw [dif_pos h1, tab_lo _ _ _ d h1, tab_lo _ _ _ d h1, kn_lo m c t n _ h d rfl h1, Ideal.ofBits_zero_f32, mul_zero, mul_zero, add_zero, add_zero]
  rw [dif_neg (Nat.not_lt.2 h1), kn_hi m c t n _ h d rfl h1, zero_add]
  rcases Nat.lt_or_ge d.val 96 with h2 | h2
  · rw [dif_pos h2, tab_mid _ _ _ d h1 h2, tab_mid _ _ _ d h1 h2, mul_zero, mul_zero, add_zero]
  rw [dif_neg (Nat.not_lt.2 h2)]
  obtain ⟨j, hj⟩ : ∃ j : Fin 32, d = (⟨96 + j.val, by have := j.isLt; omega⟩ : Fin 128) := ⟨⟨d.val - 96, by have := d.isLt; omega⟩, Fin.ext (by show d.val = 96 + (d.val - 96); omega)⟩
  have hd : d.val = 96 + j.val := congrArg Fin.val hj
  rw [congrArg (fun z => tab _ (b9 m c) (ix2 (row t n) z)) hj, congrArg (fun z => tab _ (b10 m c) (ix2 (row t n) z)) hj, tab_hi, tab_hi]
  have e1 : (blks m c t).a n ⟨384 + d.val, by omega⟩ = P m c (ix3 (bat t) (row t n) ⟨384 + j.val, by omega⟩) :=
    (congrArg ((blks m c t).a n) (Fin.ext (by show 384 + d.val = 480 + j.val; omega))).trans (a_kr m c t n j)
  have e2 : (blks m c t).a n ⟨384 + (d.val + 96) % 128, by omega⟩ = (blks m c t).a n ⟨448 + j.val, by omega⟩ :=
    congrArg ((blks m c t).a n) (Fin.ext (by show 384 + (d.val + 96) % 128 = 448 + j.val; omega))
  refine (congrArg₂ (fun a b => a * _ + b * _) e1 e2).trans ?_
  refine (turn_rot (fun l => P m c (ix3 (bat t) (row t n) ⟨384 + l.val, by omega⟩)) (fun l => (blks m c t).a n ⟨448 + l.val, by omega⟩)
    (fun a f => b9 m c (ix3 (row t n) a f)) (fun a f => b10 m c (ix3 (row t n) a f)) (fun l => a_turn m c t F n l) j).trans ?_
  exact congrArg (Ref.rot _ _ _) (Fin.ext (by show j.val = d.val - 96; omega))
theorem qry_row (F : Fin4 m c) (h : Fin 8) (n : Fin 1024) (d : Fin 128) : (blks m c t).qry h n d
    = Ref.outQ (Q m c) (b9 m c) (b10 m c) (ix4 (bat t) h (row t n) d) := by
  unfold Blks.qry
  rw [Ref.outQ_at, cq_blk, sq_blk]
  rcases Nat.lt_or_ge d.val 64 with h1 | h1
  · rw [dif_pos h1, tab_lo _ _ _ d h1, tab_lo _ _ _ d h1, z_lo m c t n _ h d rfl h1, Ideal.ofBits_zero_f32, Ideal.ofBits_one_f32, mul_zero, mul_one, add_zero]
  rw [dif_neg (Nat.not_lt.2 h1)]
  rcases Nat.lt_or_ge d.val 96 with h2 | h2
  · rw [dif_pos h2, tab_mid _ _ _ d h1 h2, tab_mid _ _ _ d h1 h2, mul_zero, mul_zero, add_zero]
  rw [dif_neg (Nat.not_lt.2 h2)]
  obtain ⟨j, hj⟩ : ∃ j : Fin 32, d = (⟨96 + j.val, by have := j.isLt; omega⟩ : Fin 128) := ⟨⟨d.val - 96, by have := d.isLt; omega⟩, Fin.ext (by show d.val = 96 + (d.val - 96); omega)⟩
  have hd : d.val = 96 + j.val := congrArg Fin.val hj
  rw [congrArg (fun z => tab _ (b9 m c) (ix2 (row t n) z)) hj, congrArg (fun z => tab _ (b10 m c) (ix2 (row t n) z)) hj, tab_hi, tab_hi]
  have e1 : (blks m c t).z n ⟨128 * h.val + d.val, by omega⟩ = Q m c (ix4 (bat t) (row t n) h ⟨64 + j.val, by omega⟩) :=
    z_hi m c t n _ h j (by show 128 * h.val + d.val = _; omega)
  have e2 : (blks m c t).z n ⟨128 * h.val + (d.val + 96) % 128, by omega⟩ = (blks m c t).z n ⟨128 * h.val + (64 + j.val), by omega⟩ :=
    congrArg ((blks m c t).z n) (Fin.ext (by show 128 * h.val + (d.val + 96) % 128 = 128 * h.val + (64 + j.val); omega))
  refine (congrArg₂ (fun a b => a * _ + b * _) e1 e2).trans ?_
  refine (turn_rot (fun l => Q m c (ix4 (bat t) (row t n) h ⟨64 + l.val, by omega⟩)) (fun l => (blks m c t).z n ⟨128 * h.val + (64 + l.val), by omega⟩)
    (fun a f => b9 m c (ix3 (row t n) a f)) (fun a f => b10 m c (ix3 (row t n) a f)) (fun l => z_turn m c t F n _ h l rfl) j).trans ?_
  exact congrArg (Ref.rot _ _ _) (Fin.ext (by show j.val = d.val - 96; omega))
theorem vt_row (h : Fin 8) (d : Fin 80) (n : Fin 1024) : (blks m c t).vt h d n = Ref.outV (KV m c) (ix4 (bat t) h d (row t n)) := by
  unfold Blks.vt
  rw [Ref.outV_at]
  rcases Nat.lt_or_ge d.val 64 with h1 | h1
  · rw [dif_pos h1, dif_pos h1, vn_row m c t n _ h ⟨d.val, h1⟩ rfl]
  · rw [dif_neg (Nat.not_lt.2 h1), dif_neg (Nat.not_lt.2 h1)]

end Cert.Proj
end
-- ==== Proof.Piece2.lean ====
/-
  The pieces of a grid point's blocks of the projections, each at its place.
-/
module
public import proofs.«01_k».proof.Proof.Gen.Kernel2Ideal.Frame.RunA
public import proofs.«01_k».proof.Proof.Tile2
@[expose] public section
set_option maxRecDepth 16384
noncomputable section
namespace Cert.Proj
open Cert.Kernel2Ideal Cert.Kernel2Ideal.Gen Idealize.ShloMosaic Idealize.ShloMosaic.TcCoe

namespace Blks
variable (B : Blks)

theorem lane_lt {c : ℕ} (h : c + 512 ≤ 2048) (j : Fin 512) : c + j.val < 2048 := by omega
/-- An index whose first axes have length one. -/
theorem ix3_ext {a b : ℕ} (x : (⟨3, ![1, a, b]⟩ : Shape).Idx) : x = ix3 (n0 := 1) (n1 := a) (n2 := b) 0 (x 1) (x 2) := funext fun i =>
  match i with
  | 0 => Subsingleton.elim (α := Fin 1) _ _
  | 1 => rfl
  | 2 => rfl
theorem ix4_ext {a b : ℕ} (x : (⟨4, ![1, 1, a, b]⟩ : Shape).Idx) : x = ix4 (n0 := 1) (n1 := 1) (n2 := a) (n3 := b) 0 0 (x 2) (x 3) := funext fun i =>
  match i with
  | 0 => Subsingleton.elim (α := Fin 1) _ _
  | 1 => Subsingleton.elim (α := Fin 1) _ _
  | 2 => rfl
  | 3 => rfl

/-! ## A piece at its place -/

section
variable (o : ℕ) (hx : ∀ a, (![0, o, 0] : Fin 3 → ℕ) a + S1x256x1024.size a ≤ S1x1024x1024.size a)
variable (ht : ∀ a, (![o, 0] : Fin 2 → ℕ) a + S256x128.size a ≤ S1024x128.size a)
variable (c : ℕ) (hs : S256x1024.Slices ![0, c] S256x128) (hv : S512x256.Slices ![c, 0] S64x256)
variable (hw : ∀ a, (![0, c] : Fin 2 → ℕ) a + S1024x512.size a ≤ S1024x2048.size a)

theorem h_piece (x : S1x256x1024.Idx) (y : S1x1024x1024.Idx) (h1 : (y 1).val = o + (x 1).val) (h2 : (y 2).val = (x 2).val) :
    k0_pay8 (B.th o hx) x = B.h (y 1) (y 2) := by
  exact (congrArg (k0_pay8 (B.th o hx)) (ix3_ext x)).trans ((cast8_at (x 1) _ (x 2)).trans
    ((B.th_at o hx (x 1) (y 1) h1 (x 2)).trans (congrArg (B.h (y 1)) (Fin.ext h2.symm))))
theorem x_piece (x : S1x256x512.Idx) (y : S1x1024x512.Idx) (h1 : (y 1).val = o + (x 1).val) (h2 : (y 2).val = (x 2).val)
    (hc : c + 512 ≤ 2048) : k0_pay62 (B.tr o hx c hw) x = B.r (y 1) ⟨c + (y 2).val, lane_lt hc (y 2)⟩ := by
  exact (congrArg (k0_pay62 (B.tr o hx c hw)) (ix3_ext x)).trans ((cast_at (x 1) _ (x 2)).trans
    (B.tr_at o hx c hw (x 1) (y 1) h1 (x 2) _ (congrArg (c + ·) h2)))
theorem s_piece (x : S1x256x512.Idx) (y : S1x1024x512.Idx) (h1 : (y 1).val = o + (x 1).val) (h2 : (y 2).val = (x 2).val)
    (hc : c + 512 ≤ 2048) : k0_pay61 (k0_pay60 (B.tr o hx c hw)) x
      = B.r (y 1) ⟨c + (y 2).val, lane_lt hc (y 2)⟩ * Ref.sig (B.r (y 1) ⟨c + (y 2).val, lane_lt hc (y 2)⟩) := by
  exact (congrArg (k0_pay61 (k0_pay60 (B.tr o hx c hw))) (ix3_ext x)).trans ((silu_at (x 1) _ (x 2)).trans
    (congrArg (fun v => v * Ref.sig v) (B.tr_at o hx c hw (x 1) (y 1) h1 (x 2) _ (congrArg (c + ·) h2))))
theorem g_piece (x : S1x256x512.Idx) (y : S1x1024x512.Idx) (h1 : (y 1).val = o + (x 1).val) (h2 : (y 2).val = (x 2).val)
    (hc : c + 512 ≤ 2048) : k0_pay59 (B.tr o hx c hw) x = Ref.sig (B.r (y 1) ⟨c + (y 2).val, lane_lt hc (y 2)⟩) := by
  exact (congrArg (k0_pay59 (B.tr o hx c hw)) (ix3_ext x)).trans ((gate_at (x 1) _ (x 2)).trans
    (congrArg Ref.sig (B.tr_at o hx c hw (x 1) (y 1) h1 (x 2) _ (congrArg (c + ·) h2))))
theorem k_piece (x : S1x1x256x128.Idx) (y : S1x8x1024x128.Idx) (hc : c = 128 * (y 1).val) (h2 : (y 2).val = o + (x 2).val) (h3 : (y 3).val = (x 3).val) :
    B.tkey o hx ht c hs x = B.key (y 1) (y 2) (y 3) := by
  exact (congrArg (B.tkey o hx ht c hs) (ix4_ext x)).trans ((B.tkey_at o hx ht c hs (x 2) (y 2) h2 (y 1) hc (x 3)).trans
    (congrArg (B.key (y 1) (y 2)) (Fin.ext h3.symm)))
theorem q_piece (x : S1x1x256x128.Idx) (y : S1x8x1024x128.Idx) (hc : c = 128 * (y 1).val) (h2 : (y 2).val = o + (x 2).val) (h3 : (y 3).val = (x 3).val) :
    B.tqry o hx ht c hs x = B.qry (y 1) (y 2) (y 3) := by
  exact (congrArg (B.tqry o hx ht c hs) (ix4_ext x)).trans ((B.tqry_at o hx ht c hs (x 2) (y 2) h2 (y 1) hc (x 3)).trans
    (congrArg (B.qry (y 1) (y 2)) (Fin.ext h3.symm)))
theorem v_piece (x : S1x1x64x256.Idx) (y : S1x8x80x1024.Idx) (hc : c = 64 * (y 1).val) (h2 : (y 2).val = (x 2).val) (h3 : (y 3).val = o + (x 3).val) :
    B.tvt o hx c hv x = B.vt (y 1) (y 2) (y 3) := by
  exact (congrArg (B.tvt o hx c hv) (ix4_ext x)).trans (B.tvt_at o hx c hv (x 3) (y 3) h3 (y 1) hc (x 2) (y 2) h2)
theorem o_piece (x : S1x1x16x256.Idx) (y : S1x8x80x1024.Idx) (h2 : (y 2).val = 64 + (x 2).val) :
    k0_pay31 (k0_pay6 (F := Ideal)) x = B.vt (y 1) (y 2) (y 3) := by
  refine (congrArg (k0_pay31 (k0_pay6 (F := Ideal))) (ix4_ext x)).trans ((cast31_at (x 3) _ (x 2)).trans ((ones_at (x 3) (x 2)).trans ?_))
  unfold vt
  rw [dif_neg (show ¬ (y 2).val < 64 by omega)]
  rcases Nat.eq_zero_or_pos (x 2).val with h | h
  · rw [if_pos h, if_pos (show (y 2).val = 64 by omega)]
  · rw [if_neg (show ¬ (x 2).val = 0 by omega), if_neg (show ¬ (y 2).val = 64 by omega)]
end
end Blks

set_option maxHeartbeats 8000000 in
/-- The product kept as it is, whatever the staging buffers are. -/
theorem of18 (c : Dev nD) (i : grid0.Coords) (arg2 : Memref sig .tc .vmem S1x1024x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x2048 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S512x128 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1x8x1024x128 .bf16) (harg17 : arg17.IsWhole) (arg18 : Memref sig .tc .vmem S1x8x1024x128 .bf16) (harg18 : arg18.IsWhole) (arg19 : Memref sig .tc .vmem S1x8x80x1024 .bf16) (harg19 : arg19.IsWhole) (arg20 : Memref sig .tc .vmem S1x1024x512 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x1024 .f32) (harg24 : arg24.IsWhole)
    (B : Blks) (y : S1x1024x512.Idx) (hc : ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 B.x B.mo B.g B.b B.wa B.wr B.gq B.wq B.gk B.wk B.wv B.cq B.sq B.ck B.sk).2.2.2.1, y ∈ p.1.set) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 B.x B.mo B.g B.b B.wa B.wr B.gq B.wq B.gk B.wk B.wv B.cq B.sq B.ck B.sk).2.2.2.1 y = B.r (y 1) ⟨512 + (y 2).val, Blks.lane_lt (by decide) (y 2)⟩ := by
  obtain ⟨G, hG⟩ : ∃ G : S1x1024x512.Idx → EReal, ∀ y, G y = B.r (y 1) ⟨512 + (y 2).val, Blks.lane_lt (by decide) (y 2)⟩ := ⟨_, fun _ => rfl⟩
  rw [← hG]
  revert hc
  frame_out
  intro hc
  canon_tiles x h using hc
  all_goals clear hc
  all_goals rw [hG]
  · exact B.x_piece 768 inb_S1x1024x1024_S1x256x1024_0_768_0 512 inb_S1024x2048_S1024x512_0_512 x y (by omega) (by omega) (by decide)
  · exact B.x_piece 512 inb_S1x1024x1024_S1x256x1024_0_512_0 512 inb_S1024x2048_S1024x512_0_512 x y (by omega) (by omega) (by decide)
  · exact B.x_piece 256 inb_S1x1024x1024_S1x256x1024_0_256_0 512 inb_S1024x2048_S1024x512_0_512 x y (by omega) (by omega) (by decide)
  · exact B.x_piece 0 inb_S1x1024x1024_S1x256x1024_0_0_0 512 inb_S1024x2048_S1024x512_0_512 x y (by omega) (by omega) (by decide)
set_option maxHeartbeats 8000000 in
/-- The first gate, whatever the staging buffers are. -/
theorem of19 (c : Dev nD) (i : grid0.Coords) (arg2 : Memref sig .tc .vmem S1x1024x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x2048 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S512x128 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1x8x1024x128 .bf16) (harg17 : arg17.IsWhole) (arg18 : Memref sig .tc .vmem S1x8x1024x128 .bf16) (harg18 : arg18.IsWhole) (arg19 : Memref sig .tc .vmem S1x8x80x1024 .bf16) (harg19 : arg19.IsWhole) (arg20 : Memref sig .tc .vmem S1x1024x512 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x1024 .f32) (harg24 : arg24.IsWhole)
    (B : Blks) (y : S1x1024x512.Idx) (hc : ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 B.x B.mo B.g B.b B.wa B.wr B.gq B.wq B.gk B.wk B.wv B.cq B.sq B.ck B.sk).2.2.2.2.1, y ∈ p.1.set) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 B.x B.mo B.g B.b B.wa B.wr B.gq B.wq B.gk B.wk B.wv B.cq B.sq B.ck B.sk).2.2.2.2.1 y = B.r (y 1) ⟨0 + (y 2).val, Blks.lane_lt (by decide) (y 2)⟩ * Ref.sig (B.r (y 1) ⟨0 + (y 2).val, Blks.lane_lt (by decide) (y 2)⟩) := by
  obtain ⟨G, hG⟩ : ∃ G : S1x1024x512.Idx → EReal, ∀ y, G y = B.r (y 1) ⟨0 + (y 2).val, Blks.lane_lt (by decide) (y 2)⟩ * Ref.sig (B.r (y 1) ⟨0 + (y 2).val, Blks.lane_lt (by decide) (y 2)⟩) := ⟨_, fun _ => rfl⟩
  rw [← hG]
  revert hc
  frame_out
  intro hc
  canon_tiles x h using hc
  all_goals clear hc
  all_goals rw [hG]
  · exact B.s_piece 768 inb_S1x1024x1024_S1x256x1024_0_768_0 0 inb_S1024x2048_S1024x512_0_0 x y (by omega) (by omega) (by decide)
  · exact B.s_piece 512 inb_S1x1024x1024_S1x256x1024_0_512_0 0 inb_S1024x2048_S1024x512_0_0 x y (by omega) (by omega) (by decide)
  · exact B.s_piece 256 inb_S1x1024x1024_S1x256x1024_0_256_0 0 inb_S1024x2048_S1024x512_0_0 x y (by omega) (by omega) (by decide)
  · exact B.s_piece 0 inb_S1x1024x1024_S1x256x1024_0_0_0 0 inb_S1024x2048_S1024x512_0_0 x y (by omega) (by omega) (by decide)
set_option maxHeartbeats 8000000 in
/-- The second gate, whatever the staging buffers are. -/
theorem of20 (c : Dev nD) (i : grid0.Coords) (arg2 : Memref sig .tc .vmem S1x1024x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x2048 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S512x128 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1x8x1024x128 .bf16) (harg17 : arg17.IsWhole) (arg18 : Memref sig .tc .vmem S1x8x1024x128 .bf16) (harg18 : arg18.IsWhole) (arg19 : Memref sig .tc .vmem S1x8x80x1024 .bf16) (harg19 : arg19.IsWhole) (arg20 : Memref sig .tc .vmem S1x1024x512 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x1024 .f32) (harg24 : arg24.IsWhole)
    (B : Blks) (y : S1x1024x512.Idx) (hc : ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 B.x B.mo B.g B.b B.wa B.wr B.gq B.wq B.gk B.wk B.wv B.cq B.sq B.ck B.sk).2.2.2.2.2.1, y ∈ p.1.set) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 B.x B.mo B.g B.b B.wa B.wr B.gq B.wq B.gk B.wk B.wv B.cq B.sq B.ck B.sk).2.2.2.2.2.1 y = Ref.sig (B.r (y 1) ⟨1024 + (y 2).val, Blks.lane_lt (by decide) (y 2)⟩) := by
  obtain ⟨G, hG⟩ : ∃ G : S1x1024x512.Idx → EReal, ∀ y, G y = Ref.sig (B.r (y 1) ⟨1024 + (y 2).val, Blks.lane_lt (by decide) (y 2)⟩) := ⟨_, fun _ => rfl⟩
  rw [← hG]
  revert hc
  frame_out
  intro hc
  canon_tiles x h using hc
  all_goals clear hc
  all_goals rw [hG]
  · exact B.g_piece 768 inb_S1x1024x1024_S1x256x1024_0_768_0 1024 inb_S1024x2048_S1024x512_0_1024 x y (by omega) (by omega) (by decide)
  · exact B.g_piece 512 inb_S1x1024x1024_S1x256x1024_0_512_0 1024 inb_S1024x2048_S1024x512_0_1024 x y (by omega) (by omega) (by decide)
  · exact B.g_piece 256 inb_S1x1024x1024_S1x256x1024_0_256_0 1024 inb_S1024x2048_S1024x512_0_1024 x y (by omega) (by omega) (by decide)
  · exact B.g_piece 0 inb_S1x1024x1024_S1x256x1024_0_0_0 1024 inb_S1024x2048_S1024x512_0_1024 x y (by omega) (by omega) (by decide)
set_option maxHeartbeats 8000000 in
/-- The third gate, whatever the staging buffers are. -/
theorem of21 (c : Dev nD) (i : grid0.Coords) (arg2 : Memref sig .tc .vmem S1x1024x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x2048 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S512x128 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1x8x1024x128 .bf16) (harg17 : arg17.IsWhole) (arg18 : Memref sig .tc .vmem S1x8x1024x128 .bf16) (harg18 : arg18.IsWhole) (arg19 : Memref sig .tc .vmem S1x8x80x1024 .bf16) (harg19 : arg19.IsWhole) (arg20 : Memref sig .tc .vmem S1x1024x512 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x1024 .f32) (harg24 : arg24.IsWhole)
    (B : Blks) (y : S1x1024x512.Idx) (hc : ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 B.x B.mo B.g B.b B.wa B.wr B.gq B.wq B.gk B.wk B.wv B.cq B.sq B.ck B.sk).2.2.2.2.2.2.1, y ∈ p.1.set) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 B.x B.mo B.g B.b B.wa B.wr B.gq B.wq B.gk B.wk B.wv B.cq B.sq B.ck B.sk).2.2.2.2.2.2.1 y = B.r (y 1) ⟨1536 + (y 2).val, Blks.lane_lt (by decide) (y 2)⟩ * Ref.sig (B.r (y 1) ⟨1536 + (y 2).val, Blks.lane_lt (by decide) (y 2)⟩) := by
  obtain ⟨G, hG⟩ : ∃ G : S1x1024x512.Idx → EReal, ∀ y, G y = B.r (y 1) ⟨1536 + (y 2).val, Blks.lane_lt (by decide) (y 2)⟩ * Ref.sig (B.r (y 1) ⟨1536 + (y 2).val, Blks.lane_lt (by decide) (y 2)⟩) := ⟨_, fun _ => rfl⟩
  rw [← hG]
  revert hc
  frame_out
  intro hc
  canon_tiles x h using hc
  all_goals clear hc
  all_goals rw [hG]
  · exact B.s_piece 768 inb_S1x1024x1024_S1x256x1024_0_768_0 1536 inb_S1024x2048_S1024x512_0_1536 x y (by omega) (by omega) (by decide)
  · exact B.s_piece 512 inb_S1x1024x1024_S1x256x1024_0_512_0 1536 inb_S1024x2048_S1024x512_0_1536 x y (by omega) (by omega) (by decide)
  · exact B.s_piece 256 inb_S1x1024x1024_S1x256x1024_0_256_0 1536 inb_S1024x2048_S1024x512_0_1536 x y (by omega) (by omega) (by decide)
  · exact B.s_piece 0 inb_S1x1024x1024_S1x256x1024_0_0_0 1536 inb_S1024x2048_S1024x512_0_1536 x y (by omega) (by omega) (by decide)
set_option maxHeartbeats 8000000 in
/-- The normalised rows, whatever the staging buffers are. -/
theorem of22 (c : Dev nD) (i : grid0.Coords) (arg2 : Memref sig .tc .vmem S1x1024x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x2048 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S512x128 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1x8x1024x128 .bf16) (harg17 : arg17.IsWhole) (arg18 : Memref sig .tc .vmem S1x8x1024x128 .bf16) (harg18 : arg18.IsWhole) (arg19 : Memref sig .tc .vmem S1x8x80x1024 .bf16) (harg19 : arg19.IsWhole) (arg20 : Memref sig .tc .vmem S1x1024x512 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x1024 .f32) (harg24 : arg24.IsWhole)
    (B : Blks) (y : S1x1024x1024.Idx) (hc : ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 B.x B.mo B.g B.b B.wa B.wr B.gq B.wq B.gk B.wk B.wv B.cq B.sq B.ck B.sk).2.2.2.2.2.2.2.1, y ∈ p.1.set) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 B.x B.mo B.g B.b B.wa B.wr B.gq B.wq B.gk B.wk B.wv B.cq B.sq B.ck B.sk).2.2.2.2.2.2.2.1 y = B.h (y 1) (y 2) := by
  obtain ⟨G, hG⟩ : ∃ G : S1x1024x1024.Idx → EReal, ∀ y, G y = B.h (y 1) (y 2) := ⟨_, fun _ => rfl⟩
  rw [← hG]
  revert hc
  frame_out
  intro hc
  canon_tiles x h using hc
  all_goals clear hc
  all_goals rw [hG]
  · exact B.h_piece 768 inb_S1x1024x1024_S1x256x1024_0_768_0 x y (by omega) (by omega)
  · exact B.h_piece 512 inb_S1x1024x1024_S1x256x1024_0_512_0 x y (by omega) (by omega)
  · exact B.h_piece 256 inb_S1x1024x1024_S1x256x1024_0_256_0 x y (by omega) (by omega)
  · exact B.h_piece 0 inb_S1x1024x1024_S1x256x1024_0_0_0 x y (by omega) (by omega)

end Cert.Proj
end
-- ==== Proof.PieceQ2.lean ====
/-
  The queries' block, piece by piece.
-/
module
public import proofs.«01_k».proof.Proof.Piece2
@[expose] public section
set_option maxRecDepth 16384
noncomputable section
namespace Cert.Proj
open Cert.Kernel2Ideal Cert.Kernel2Ideal.Gen Idealize.ShloMosaic Idealize.ShloMosaic.TcCoe

set_option maxHeartbeats 8000000 in
/-- The queries, whatever the staging buffers are. -/
theorem of15 (c : Dev nD) (i : grid0.Coords) (arg2 : Memref sig .tc .vmem S1x1024x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x2048 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S512x128 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1x8x1024x128 .bf16) (harg17 : arg17.IsWhole) (arg18 : Memref sig .tc .vmem S1x8x1024x128 .bf16) (harg18 : arg18.IsWhole) (arg19 : Memref sig .tc .vmem S1x8x80x1024 .bf16) (harg19 : arg19.IsWhole) (arg20 : Memref sig .tc .vmem S1x1024x512 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x1024 .f32) (harg24 : arg24.IsWhole)
    (B : Blks) (y : S1x8x1024x128.Idx) (hc : ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 B.x B.mo B.g B.b B.wa B.wr B.gq B.wq B.gk B.wk B.wv B.cq B.sq B.ck B.sk).1, y ∈ p.1.set) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 B.x B.mo B.g B.b B.wa B.wr B.gq B.wq B.gk B.wk B.wv B.cq B.sq B.ck B.sk).1 y = B.qry (y 1) (y 2) (y 3) := by
  obtain ⟨G, hG⟩ : ∃ G : S1x8x1024x128.Idx → EReal, ∀ y, G y = B.qry (y 1) (y 2) (y 3) := ⟨_, fun _ => rfl⟩
  rw [← hG]
  revert hc
  frame_out
  intro hc
  canon_tiles x h using hc
  all_goals clear hc
  all_goals rw [hG]
  · exact B.q_piece 768 inb_S1x1024x1024_S1x256x1024_0_768_0 inb_S1024x128_S256x128_768_0 896 slices_S256x1024_o0_896_S256x128 x y (by omega) (by omega) (by omega)
  · exact B.q_piece 768 inb_S1x1024x1024_S1x256x1024_0_768_0 inb_S1024x128_S256x128_768_0 768 slices_S256x1024_o0_768_S256x128 x y (by omega) (by omega) (by omega)
  · exact B.q_piece 768 inb_S1x1024x1024_S1x256x1024_0_768_0 inb_S1024x128_S256x128_768_0 640 slices_S256x1024_o0_640_S256x128 x y (by omega) (by omega) (by omega)
  · exact B.q_piece 768 inb_S1x1024x1024_S1x256x1024_0_768_0 inb_S1024x128_S256x128_768_0 512 slices_S256x1024_o0_512_S256x128 x y (by omega) (by omega) (by omega)
  · exact B.q_piece 768 inb_S1x1024x1024_S1x256x1024_0_768_0 inb_S1024x128_S256x128_768_0 384 slices_S256x1024_o0_384_S256x128 x y (by omega) (by omega) (by omega)
  · exact B.q_piece 768 inb_S1x1024x1024_S1x256x1024_0_768_0 inb_S1024x128_S256x128_768_0 256 slices_S256x1024_o0_256_S256x128 x y (by omega) (by omega) (by omega)
  · exact B.q_piece 768 inb_S1x1024x1024_S1x256x1024_0_768_0 inb_S1024x128_S256x128_768_0 128 slices_S256x1024_o0_128_S256x128 x y (by omega) (by omega) (by omega)
  · exact B.q_piece 768 inb_S1x1024x1024_S1x256x1024_0_768_0 inb_S1024x128_S256x128_768_0 0 slices_S256x1024_o0_0_S256x128 x y (by omega) (by omega) (by omega)
  · exact B.q_piece 512 inb_S1x1024x1024_S1x256x1024_0_512_0 inb_S1024x128_S256x128_512_0 896 slices_S256x1024_o0_896_S256x128 x y (by omega) (by omega) (by omega)
  · exact B.q_piece 512 inb_S1x1024x1024_S1x256x1024_0_512_0 inb_S1024x128_S256x128_512_0 768 slices_S256x1024_o0_768_S256x128 x y (by omega) (by omega) (by omega)
  · exact B.q_piece 512 inb_S1x1024x1024_S1x256x1024_0_512_0 inb_S1024x128_S256x128_512_0 640 slices_S256x1024_o0_640_S256x128 x y (by omega) (by omega) (by omega)
  · exact B.q_piece 512 inb_S1x1024x1024_S1x256x1024_0_512_0 inb_S1024x128_S256x128_512_0 512 slices_S256x1024_o0_512_S256x128 x y (by omega) (by omega) (by omega)
  · exact B.q_piece 512 inb_S1x1024x1024_S1x256x1024_0_512_0 inb_S1024x128_S256x128_512_0 384 slices_S256x1024_o0_384_S256x128 x y (by omega) (by omega) (by omega)
  · exact B.q_piece 512 inb_S1x1024x1024_S1x256x1024_0_512_0 inb_S1024x128_S256x128_512_0 256 slices_S256x1024_o0_256_S256x128 x y (by omega) (by omega) (by omega)
  · exact B.q_piece 512 inb_S1x1024x1024_S1x256x1024_0_512_0 inb_S1024x128_S256x128_512_0 128 slices_S256x1024_o0_128_S256x128 x y (by omega) (by omega) (by omega)
  · exact B.q_piece 512 inb_S1x1024x1024_S1x256x1024_0_512_0 inb_S1024x128_S256x128_512_0 0 slices_S256x1024_o0_0_S256x128 x y (by omega) (by omega) (by omega)
  · exact B.q_piece 256 inb_S1x1024x1024_S1x256x1024_0_256_0 inb_S1024x128_S256x128_256_0 896 slices_S256x1024_o0_896_S256x128 x y (by omega) (by omega) (by omega)
  · exact B.q_piece 256 inb_S1x1024x1024_S1x256x1024_0_256_0 inb_S1024x128_S256x128_256_0 768 slices_S256x1024_o0_768_S256x128 x y (by omega) (by omega) (by omega)
  · exact B.q_piece 256 inb_S1x1024x1024_S1x256x1024_0_256_0 inb_S1024x128_S256x128_256_0 640 slices_S256x1024_o0_640_S256x128 x y (by omega) (by omega) (by omega)
  · exact B.q_piece 256 inb_S1x1024x1024_S1x256x1024_0_256_0 inb_S1024x128_S256x128_256_0 512 slices_S256x1024_o0_512_S256x128 x y (by omega) (by omega) (by omega)
  · exact B.q_piece 256 inb_S1x1024x1024_S1x256x1024_0_256_0 inb_S1024x128_S256x128_256_0 384 slices_S256x1024_o0_384_S256x128 x y (by omega) (by omega) (by omega)
  · exact B.q_piece 256 inb_S1x1024x1024_S1x256x1024_0_256_0 inb_S1024x128_S256x128_256_0 256 slices_S256x1024_o0_256_S256x128 x y (by omega) (by omega) (by omega)
  · exact B.q_piece 256 inb_S1x1024x1024_S1x256x1024_0_256_0 inb_S1024x128_S256x128_256_0 128 slices_S256x1024_o0_128_S256x128 x y (by omega) (by omega) (by omega)
  · exact B.q_piece 256 inb_S1x1024x1024_S1x256x1024_0_256_0 inb_S1024x128_S256x128_256_0 0 slices_S256x1024_o0_0_S256x128 x y (by omega) (by omega) (by omega)
  · exact B.q_piece 0 inb_S1x1024x1024_S1x256x1024_0_0_0 inb_S1024x128_S256x128_0_0 896 slices_S256x1024_o0_896_S256x128 x y (by omega) (by omega) (by omega)
  · exact B.q_piece 0 inb_S1x1024x1024_S1x256x1024_0_0_0 inb_S1024x128_S256x128_0_0 768 slices_S256x1024_o0_768_S256x128 x y (by omega) (by omega) (by omega)
  · exact B.q_piece 0 inb_S1x1024x1024_S1x256x1024_0_0_0 inb_S1024x128_S256x128_0_0 640 slices_S256x1024_o0_640_S256x128 x y (by omega) (by omega) (by omega)
  · exact B.q_piece 0 inb_S1x1024x1024_S1x256x1024_0_0_0 inb_S1024x128_S256x128_0_0 512 slices_S256x1024_o0_512_S256x128 x y (by omega) (by omega) (by omega)
  · exact B.q_piece 0 inb_S1x1024x1024_S1x256x1024_0_0_0 inb_S1024x128_S256x128_0_0 384 slices_S256x1024_o0_384_S256x128 x y (by omega) (by omega) (by omega)
  · exact B.q_piece 0 inb_S1x1024x1024_S1x256x1024_0_0_0 inb_S1024x128_S256x128_0_0 256 slices_S256x1024_o0_256_S256x128 x y (by omega) (by omega) (by omega)
  · exact B.q_piece 0 inb_S1x1024x1024_S1x256x1024_0_0_0 inb_S1024x128_S256x128_0_0 128 slices_S256x1024_o0_128_S256x128 x y (by omega) (by omega) (by omega)
  · exact B.q_piece 0 inb_S1x1024x1024_S1x256x1024_0_0_0 inb_S1024x128_S256x128_0_0 0 slices_S256x1024_o0_0_S256x128 x y (by omega) (by omega) (by omega)

end Cert.Proj
end
-- ==== Proof.PieceK2.lean ====
/-
  The keys' block, piece by piece.
-/
module
public import proofs.«01_k».proof.Proof.Piece2
@[expose] public section
set_option maxRecDepth 16384
noncomputable section
namespace Cert.Proj
open Cert.Kernel2Ideal Cert.Kernel2Ideal.Gen Idealize.ShloMosaic Idealize.ShloMosaic.TcCoe

set_option maxHeartbeats 8000000 in
/-- The keys, whatever the staging buffers are. -/
theorem of16 (c : Dev nD) (i : grid0.Coords) (arg2 : Memref sig .tc .vmem S1x1024x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x2048 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S512x128 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1x8x1024x128 .bf16) (harg17 : arg17.IsWhole) (arg18 : Memref sig .tc .vmem S1x8x1024x128 .bf16) (harg18 : arg18.IsWhole) (arg19 : Memref sig .tc .vmem S1x8x80x1024 .bf16) (harg19 : arg19.IsWhole) (arg20 : Memref sig .tc .vmem S1x1024x512 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x1024 .f32) (harg24 : arg24.IsWhole)
    (B : Blks) (y : S1x8x1024x128.Idx) (hc : ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 B.x B.mo B.g B.b B.wa B.wr B.gq B.wq B.gk B.wk B.wv B.cq B.sq B.ck B.sk).2.1, y ∈ p.1.set) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 B.x B.mo B.g B.b B.wa B.wr B.gq B.wq B.gk B.wk B.wv B.cq B.sq B.ck B.sk).2.1 y = B.key (y 1) (y 2) (y 3) := by
  obtain ⟨G, hG⟩ : ∃ G : S1x8x1024x128.Idx → EReal, ∀ y, G y = B.key (y 1) (y 2) (y 3) := ⟨_, fun _ => rfl⟩
  rw [← hG]
  revert hc
  frame_out
  intro hc
  canon_tiles x h using hc
  all_goals clear hc
  all_goals rw [hG]
  · exact B.k_piece 768 inb_S1x1024x1024_S1x256x1024_0_768_0 inb_S1024x128_S256x128_768_0 896 slices_S256x1024_o0_896_S256x128 x y (by omega) (by omega) (by omega)
  · exact B.k_piece 768 inb_S1x1024x1024_S1x256x1024_0_768_0 inb_S1024x128_S256x128_768_0 768 slices_S256x1024_o0_768_S256x128 x y (by omega) (by omega) (by omega)
  · exact B.k_piece 768 inb_S1x1024x1024_S1x256x1024_0_768_0 inb_S1024x128_S256x128_768_0 640 slices_S256x1024_o0_640_S256x128 x y (by omega) (by omega) (by omega)
  · exact B.k_piece 768 inb_S1x1024x1024_S1x256x1024_0_768_0 inb_S1024x128_S256x128_768_0 512 slices_S256x1024_o0_512_S256x128 x y (by omega) (by omega) (by omega)
  · exact B.k_piece 768 inb_S1x1024x1024_S1x256x1024_0_768_0 inb_S1024x128_S256x128_768_0 384 slices_S256x1024_o0_384_S256x128 x y (by omega) (by omega) (by omega)
  · exact B.k_piece 768 inb_S1x1024x1024_S1x256x1024_0_768_0 inb_S1024x128_S256x128_768_0 256 slices_S256x1024_o0_256_S256x128 x y (by omega) (by omega) (by omega)
  · exact B.k_piece 768 inb_S1x1024x1024_S1x256x1024_0_768_0 inb_S1024x128_S256x128_768_0 128 slices_S256x1024_o0_128_S256x128 x y (by omega) (by omega) (by omega)
  · exact B.k_piece 768 inb_S1x1024x1024_S1x256x1024_0_768_0 inb_S1024x128_S256x128_768_0 0 slices_S256x1024_o0_0_S256x128 x y (by omega) (by omega) (by omega)
  · exact B.k_piece 512 inb_S1x1024x1024_S1x256x1024_0_512_0 inb_S1024x128_S256x128_512_0 896 slices_S256x1024_o0_896_S256x128 x y (by omega) (by omega) (by omega)
  · exact B.k_piece 512 inb_S1x1024x1024_S1x256x1024_0_512_0 inb_S1024x128_S256x128_512_0 768 slices_S256x1024_o0_768_S256x128 x y (by omega) (by omega) (by omega)
  · exact B.k_piece 512 inb_S1x1024x1024_S1x256x1024_0_512_0 inb_S1024x128_S256x128_512_0 640 slices_S256x1024_o0_640_S256x128 x y (by omega) (by omega) (by omega)
  · exact B.k_piece 512 inb_S1x1024x1024_S1x256x1024_0_512_0 inb_S1024x128_S256x128_512_0 512 slices_S256x1024_o0_512_S256x128 x y (by omega) (by omega) (by omega)
  · exact B.k_piece 512 inb_S1x1024x1024_S1x256x1024_0_512_0 inb_S1024x128_S256x128_512_0 384 slices_S256x1024_o0_384_S256x128 x y (by omega) (by omega) (by omega)
  · exact B.k_piece 512 inb_S1x1024x1024_S1x256x1024_0_512_0 inb_S1024x128_S256x128_512_0 256 slices_S256x1024_o0_256_S256x128 x y (by omega) (by omega) (by omega)
  · exact B.k_piece 512 inb_S1x1024x1024_S1x256x1024_0_512_0 inb_S1024x128_S256x128_512_0 128 slices_S256x1024_o0_128_S256x128 x y (by omega) (by omega) (by omega)
  · exact B.k_piece 512 inb_S1x1024x1024_S1x256x1024_0_512_0 inb_S1024x128_S256x128_512_0 0 slices_S256x1024_o0_0_S256x128 x y (by omega) (by omega) (by omega)
  · exact B.k_piece 256 inb_S1x1024x1024_S1x256x1024_0_256_0 inb_S1024x128_S256x128_256_0 896 slices_S256x1024_o0_896_S256x128 x y (by omega) (by omega) (by omega)
  · exact B.k_piece 256 inb_S1x1024x1024_S1x256x1024_0_256_0 inb_S1024x128_S256x128_256_0 768 slices_S256x1024_o0_768_S256x128 x y (by omega) (by omega) (by omega)
  · exact B.k_piece 256 inb_S1x1024x1024_S1x256x1024_0_256_0 inb_S1024x128_S256x128_256_0 640 slices_S256x1024_o0_640_S256x128 x y (by omega) (by omega) (by omega)
  · exact B.k_piece 256 inb_S1x1024x1024_S1x256x1024_0_256_0 inb_S1024x128_S256x128_256_0 512 slices_S256x1024_o0_512_S256x128 x y (by omega) (by omega) (by omega)
  · exact B.k_piece 256 inb_S1x1024x1024_S1x256x1024_0_256_0 inb_S1024x128_S256x128_256_0 384 slices_S256x1024_o0_384_S256x128 x y (by omega) (by omega) (by omega)
  · exact B.k_piece 256 inb_S1x1024x1024_S1x256x1024_0_256_0 inb_S1024x128_S256x128_256_0 256 slices_S256x1024_o0_256_S256x128 x y (by omega) (by omega) (by omega)
  · exact B.k_piece 256 inb_S1x1024x1024_S1x256x1024_0_256_0 inb_S1024x128_S256x128_256_0 128 slices_S256x1024_o0_128_S256x128 x y (by omega) (by omega) (by omega)
  · exact B.k_piece 256 inb_S1x1024x1024_S1x256x1024_0_256_0 inb_S1024x128_S256x128_256_0 0 slices_S256x1024_o0_0_S256x128 x y (by omega) (by omega) (by omega)
  · exact B.k_piece 0 inb_S1x1024x1024_S1x256x1024_0_0_0 inb_S1024x128_S256x128_0_0 896 slices_S256x1024_o0_896_S256x128 x y (by omega) (by omega) (by omega)
  · exact B.k_piece 0 inb_S1x1024x1024_S1x256x1024_0_0_0 inb_S1024x128_S256x128_0_0 768 slices_S256x1024_o0_768_S256x128 x y (by omega) (by omega) (by omega)
  · exact B.k_piece 0 inb_S1x1024x1024_S1x256x1024_0_0_0 inb_S1024x128_S256x128_0_0 640 slices_S256x1024_o0_640_S256x128 x y (by omega) (by omega) (by omega)
  · exact B.k_piece 0 inb_S1x1024x1024_S1x256x1024_0_0_0 inb_S1024x128_S256x128_0_0 512 slices_S256x1024_o0_512_S256x128 x y (by omega) (by omega) (by omega)
  · exact B.k_piece 0 inb_S1x1024x1024_S1x256x1024_0_0_0 inb_S1024x128_S256x128_0_0 384 slices_S256x1024_o0_384_S256x128 x y (by omega) (by omega) (by omega)
  · exact B.k_piece 0 inb_S1x1024x1024_S1x256x1024_0_0_0 inb_S1024x128_S256x128_0_0 256 slices_S256x1024_o0_256_S256x128 x y (by omega) (by omega) (by omega)
  · exact B.k_piece 0 inb_S1x1024x1024_S1x256x1024_0_0_0 inb_S1024x128_S256x128_0_0 128 slices_S256x1024_o0_128_S256x128 x y (by omega) (by omega) (by omega)
  · exact B.k_piece 0 inb_S1x1024x1024_S1x256x1024_0_0_0 inb_S1024x128_S256x128_0_0 0 slices_S256x1024_o0_0_S256x128 x y (by omega) (by omega) (by omega)

end Cert.Proj
end
-- ==== Proof.PieceV2.lean ====
/-
  The values' block, piece by piece.
-/
module
public import proofs.«01_k».proof.Proof.Piece2
@[expose] public section
set_option maxRecDepth 16384
noncomputable section
namespace Cert.Proj
open Cert.Kernel2Ideal Cert.Kernel2Ideal.Gen Idealize.ShloMosaic Idealize.ShloMosaic.TcCoe

set_option maxHeartbeats 8000000 in
/-- The values, whatever the staging buffers are. -/
theorem of17 (c : Dev nD) (i : grid0.Coords) (arg2 : Memref sig .tc .vmem S1x1024x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x2048 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S512x128 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1x8x1024x128 .bf16) (harg17 : arg17.IsWhole) (arg18 : Memref sig .tc .vmem S1x8x1024x128 .bf16) (harg18 : arg18.IsWhole) (arg19 : Memref sig .tc .vmem S1x8x80x1024 .bf16) (harg19 : arg19.IsWhole) (arg20 : Memref sig .tc .vmem S1x1024x512 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x1024 .f32) (harg24 : arg24.IsWhole)
    (B : Blks) (y : S1x8x80x1024.Idx) (hc : ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 B.x B.mo B.g B.b B.wa B.wr B.gq B.wq B.gk B.wk B.wv B.cq B.sq B.ck B.sk).2.2.1, y ∈ p.1.set) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 B.x B.mo B.g B.b B.wa B.wr B.gq B.wq B.gk B.wk B.wv B.cq B.sq B.ck B.sk).2.2.1 y = B.vt (y 1) (y 2) (y 3) := by
  obtain ⟨G, hG⟩ : ∃ G : S1x8x80x1024.Idx → EReal, ∀ y, G y = B.vt (y 1) (y 2) (y 3) := ⟨_, fun _ => rfl⟩
  rw [← hG]
  revert hc
  frame_out
  intro hc
  canon_tiles x h using hc
  all_goals clear hc
  all_goals rw [hG]
  · exact B.o_piece x y (by omega)
  · exact B.v_piece 768 inb_S1x1024x1024_S1x256x1024_0_768_0 448 slices_S512x256_o448_0_S64x256 x y (by omega) (by omega) (by omega)
  · exact B.o_piece x y (by omega)
  · exact B.v_piece 768 inb_S1x1024x1024_S1x256x1024_0_768_0 384 slices_S512x256_o384_0_S64x256 x y (by omega) (by omega) (by omega)
  · exact B.o_piece x y (by omega)
  · exact B.v_piece 768 inb_S1x1024x1024_S1x256x1024_0_768_0 320 slices_S512x256_o320_0_S64x256 x y (by omega) (by omega) (by omega)
  · exact B.o_piece x y (by omega)
  · exact B.v_piece 768 inb_S1x1024x1024_S1x256x1024_0_768_0 256 slices_S512x256_o256_0_S64x256 x y (by omega) (by omega) (by omega)
  · exact B.o_piece x y (by omega)
  · exact B.v_piece 768 inb_S1x1024x1024_S1x256x1024_0_768_0 192 slices_S512x256_o192_0_S64x256 x y (by omega) (by omega) (by omega)
  · exact B.o_piece x y (by omega)
  · exact B.v_piece 768 inb_S1x1024x1024_S1x256x1024_0_768_0 128 slices_S512x256_o128_0_S64x256 x y (by omega) (by omega) (by omega)
  · exact B.o_piece x y (by omega)
  · exact B.v_piece 768 inb_S1x1024x1024_S1x256x1024_0_768_0 64 slices_S512x256_o64_0_S64x256 x y (by omega) (by omega) (by omega)
  · exact B.o_piece x y (by omega)
  · exact B.v_piece 768 inb_S1x1024x1024_S1x256x1024_0_768_0 0 slices_S512x256_o0_0_S64x256 x y (by omega) (by omega) (by omega)
  · exact B.o_piece x y (by omega)
  · exact B.v_piece 512 inb_S1x1024x1024_S1x256x1024_0_512_0 448 slices_S512x256_o448_0_S64x256 x y (by omega) (by omega) (by omega)
  · exact B.o_piece x y (by omega)
  · exact B.v_piece 512 inb_S1x1024x1024_S1x256x1024_0_512_0 384 slices_S512x256_o384_0_S64x256 x y (by omega) (by omega) (by omega)
  · exact B.o_piece x y (by omega)
  · exact B.v_piece 512 inb_S1x1024x1024_S1x256x1024_0_512_0 320 slices_S512x256_o320_0_S64x256 x y (by omega) (by omega) (by omega)
  · exact B.o_piece x y (by omega)
  · exact B.v_piece 512 inb_S1x1024x1024_S1x256x1024_0_512_0 256 slices_S512x256_o256_0_S64x256 x y (by omega) (by omega) (by omega)
  · exact B.o_piece x y (by omega)
  · exact B.v_piece 512 inb_S1x1024x1024_S1x256x1024_0_512_0 192 slices_S512x256_o192_0_S64x256 x y (by omega) (by omega) (by omega)
  · exact B.o_piece x y (by omega)
  · exact B.v_piece 512 inb_S1x1024x1024_S1x256x1024_0_512_0 128 slices_S512x256_o128_0_S64x256 x y (by omega) (by omega) (by omega)
  · exact B.o_piece x y (by omega)
  · exact B.v_piece 512 inb_S1x1024x1024_S1x256x1024_0_512_0 64 slices_S512x256_o64_0_S64x256 x y (by omega) (by omega) (by omega)
  · exact B.o_piece x y (by omega)
  · exact B.v_piece 512 inb_S1x1024x1024_S1x256x1024_0_512_0 0 slices_S512x256_o0_0_S64x256 x y (by omega) (by omega) (by omega)
  · exact B.o_piece x y (by omega)
  · exact B.v_piece 256 inb_S1x1024x1024_S1x256x1024_0_256_0 448 slices_S512x256_o448_0_S64x256 x y (by omega) (by omega) (by omega)
  · exact B.o_piece x y (by omega)
  · exact B.v_piece 256 inb_S1x1024x1024_S1x256x1024_0_256_0 384 slices_S512x256_o384_0_S64x256 x y (by omega) (by omega) (by omega)
  · exact B.o_piece x y (by omega)
  · exact B.v_piece 256 inb_S1x1024x1024_S1x256x1024_0_256_0 320 slices_S512x256_o320_0_S64x256 x y (by omega) (by omega) (by omega)
  · exact B.o_piece x y (by omega)
  · exact B.v_piece 256 inb_S1x1024x1024_S1x256x1024_0_256_0 256 slices_S512x256_o256_0_S64x256 x y (by omega) (by omega) (by omega)
  · exact B.o_piece x y (by omega)
  · exact B.v_piece 256 inb_S1x1024x1024_S1x256x1024_0_256_0 192 slices_S512x256_o192_0_S64x256 x y (by omega) (by omega) (by omega)
  · exact B.o_piece x y (by omega)
  · exact B.v_piece 256 inb_S1x1024x1024_S1x256x1024_0_256_0 128 slices_S512x256_o128_0_S64x256 x y (by omega) (by omega) (by omega)
  · exact B.o_piece x y (by omega)
  · exact B.v_piece 256 inb_S1x1024x1024_S1x256x1024_0_256_0 64 slices_S512x256_o64_0_S64x256 x y (by omega) (by omega) (by omega)
  · exact B.o_piece x y (by omega)
  · exact B.v_piece 256 inb_S1x1024x1024_S1x256x1024_0_256_0 0 slices_S512x256_o0_0_S64x256 x y (by omega) (by omega) (by omega)
  · exact B.o_piece x y (by omega)
  · exact B.v_piece 0 inb_S1x1024x1024_S1x256x1024_0_0_0 448 slices_S512x256_o448_0_S64x256 x y (by omega) (by omega) (by omega)
  · exact B.o_piece x y (by omega)
  · exact B.v_piece 0 inb_S1x1024x1024_S1x256x1024_0_0_0 384 slices_S512x256_o384_0_S64x256 x y (by omega) (by omega) (by omega)
  · exact B.o_piece x y (by omega)
  · exact B.v_piece 0 inb_S1x1024x1024_S1x256x1024_0_0_0 320 slices_S512x256_o320_0_S64x256 x y (by omega) (by omega) (by omega)
  · exact B.o_piece x y (by omega)
  · exact B.v_piece 0 inb_S1x1024x1024_S1x256x1024_0_0_0 256 slices_S512x256_o256_0_S64x256 x y (by omega) (by omega) (by omega)
  · exact B.o_piece x y (by omega)
  · exact B.v_piece 0 inb_S1x1024x1024_S1x256x1024_0_0_0 192 slices_S512x256_o192_0_S64x256 x y (by omega) (by omega) (by omega)
  · exact B.o_piece x y (by omega)
  · exact B.v_piece 0 inb_S1x1024x1024_S1x256x1024_0_0_0 128 slices_S512x256_o128_0_S64x256 x y (by omega) (by omega) (by omega)
  · exact B.o_piece x y (by omega)
  · exact B.v_piece 0 inb_S1x1024x1024_S1x256x1024_0_0_0 64 slices_S512x256_o64_0_S64x256 x y (by omega) (by omega) (by omega)
  · exact B.o_piece x y (by omega)
  · exact B.v_piece 0 inb_S1x1024x1024_S1x256x1024_0_0_0 0 slices_S512x256_o0_0_S64x256 x y (by omega) (by omega) (by omega)

end Cert.Proj
end
-- ==== Proof.Point2.lean ====
/-
  The eight blocks a grid point of the projections leaves.
-/
module
public import proofs.«01_k».proof.Proof.PieceQ2
public import proofs.«01_k».proof.Proof.PieceK2
public import proofs.«01_k».proof.Proof.PieceV2
public import proofs.«01_k».proof.Proof.At2
@[expose] public section
set_option maxRecDepth 16384
noncomputable section
namespace Cert.Proj
open Cert.Kernel2Ideal Cert.Kernel2Ideal.Gen Idealize.ShloMosaic Idealize.ShloMosaic.TcCoe

variable (m : (ℓ : Loc nD τ sig) → Buf (Elt Ideal) ℓ) (c : Dev nD) (t : Fin cfg0.N)

/-- The same with the blocks named one by one. -/
theorem sep15 (c : Dev nD) (i : grid0.Coords) (arg2 : Memref sig .tc .vmem S1x1024x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x2048 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S512x128 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1x8x1024x128 .bf16) (harg17 : arg17.IsWhole) (arg18 : Memref sig .tc .vmem S1x8x1024x128 .bf16) (harg18 : arg18.IsWhole) (arg19 : Memref sig .tc .vmem S1x8x80x1024 .bf16) (harg19 : arg19.IsWhole) (arg20 : Memref sig .tc .vmem S1x1024x512 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x1024 .f32) (harg24 : arg24.IsWhole)
    (x0 : Vec Ideal S1x1024x1024 .f32) (x1 : Vec Ideal S1x1x3072 .f32) (x2 : Vec Ideal S1x1024 .f32) (x3 : Vec Ideal S1x1024 .f32) (x4 : Vec Ideal S1024x512 .bf16) (x5 : Vec Ideal S1024x2048 .bf16) (x6 : Vec Ideal S1x256 .f32) (x7 : Vec Ideal S256x1024 .bf16) (x8 : Vec Ideal S1x128 .f32) (x9 : Vec Ideal S128x1024 .bf16) (x10 : Vec Ideal S512x128 .bf16) (x11 : Vec Ideal S1024x128 .f32) (x12 : Vec Ideal S1024x128 .f32) (x13 : Vec Ideal S1024x128 .f32) (x14 : Vec Ideal S1024x128 .f32) (y : S1x8x1024x128.Idx) (hc : ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).1, y ∈ p.1.set) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).1 y = (⟨x0, x1, x2, x3, x4, x5, x6, x7, x8, x9, x10, x11, x12, x13, x14⟩ : Blks).qry (y 1) (y 2) (y 3) :=
  of15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (⟨x0, x1, x2, x3, x4, x5, x6, x7, x8, x9, x10, x11, x12, x13, x14⟩ : Blks) y hc
/-- The queries. -/
theorem can15 (y : S1x8x1024x128.Idx) : View.canon (runAt m c t).1 y = (blks m c t).qry (y 1) (y 2) (y 3) :=
  sep15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y (cover15 m c t y)
/-- The same with the blocks named one by one. -/
theorem sep16 (c : Dev nD) (i : grid0.Coords) (arg2 : Memref sig .tc .vmem S1x1024x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x2048 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S512x128 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1x8x1024x128 .bf16) (harg17 : arg17.IsWhole) (arg18 : Memref sig .tc .vmem S1x8x1024x128 .bf16) (harg18 : arg18.IsWhole) (arg19 : Memref sig .tc .vmem S1x8x80x1024 .bf16) (harg19 : arg19.IsWhole) (arg20 : Memref sig .tc .vmem S1x1024x512 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x1024 .f32) (harg24 : arg24.IsWhole)
    (x0 : Vec Ideal S1x1024x1024 .f32) (x1 : Vec Ideal S1x1x3072 .f32) (x2 : Vec Ideal S1x1024 .f32) (x3 : Vec Ideal S1x1024 .f32) (x4 : Vec Ideal S1024x512 .bf16) (x5 : Vec Ideal S1024x2048 .bf16) (x6 : Vec Ideal S1x256 .f32) (x7 : Vec Ideal S256x1024 .bf16) (x8 : Vec Ideal S1x128 .f32) (x9 : Vec Ideal S128x1024 .bf16) (x10 : Vec Ideal S512x128 .bf16) (x11 : Vec Ideal S1024x128 .f32) (x12 : Vec Ideal S1024x128 .f32) (x13 : Vec Ideal S1024x128 .f32) (x14 : Vec Ideal S1024x128 .f32) (y : S1x8x1024x128.Idx) (hc : ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.1, y ∈ p.1.set) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.1 y = (⟨x0, x1, x2, x3, x4, x5, x6, x7, x8, x9, x10, x11, x12, x13, x14⟩ : Blks).key (y 1) (y 2) (y 3) :=
  of16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (⟨x0, x1, x2, x3, x4, x5, x6, x7, x8, x9, x10, x11, x12, x13, x14⟩ : Blks) y hc
/-- The keys. -/
theorem can16 (y : S1x8x1024x128.Idx) : View.canon (runAt m c t).2.1 y = (blks m c t).key (y 1) (y 2) (y 3) :=
  sep16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y (cover16 m c t y)
/-- The same with the blocks named one by one. -/
theorem sep17 (c : Dev nD) (i : grid0.Coords) (arg2 : Memref sig .tc .vmem S1x1024x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x2048 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S512x128 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1x8x1024x128 .bf16) (harg17 : arg17.IsWhole) (arg18 : Memref sig .tc .vmem S1x8x1024x128 .bf16) (harg18 : arg18.IsWhole) (arg19 : Memref sig .tc .vmem S1x8x80x1024 .bf16) (harg19 : arg19.IsWhole) (arg20 : Memref sig .tc .vmem S1x1024x512 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x1024 .f32) (harg24 : arg24.IsWhole)
    (x0 : Vec Ideal S1x1024x1024 .f32) (x1 : Vec Ideal S1x1x3072 .f32) (x2 : Vec Ideal S1x1024 .f32) (x3 : Vec Ideal S1x1024 .f32) (x4 : Vec Ideal S1024x512 .bf16) (x5 : Vec Ideal S1024x2048 .bf16) (x6 : Vec Ideal S1x256 .f32) (x7 : Vec Ideal S256x1024 .bf16) (x8 : Vec Ideal S1x128 .f32) (x9 : Vec Ideal S128x1024 .bf16) (x10 : Vec Ideal S512x128 .bf16) (x11 : Vec Ideal S1024x128 .f32) (x12 : Vec Ideal S1024x128 .f32) (x13 : Vec Ideal S1024x128 .f32) (x14 : Vec Ideal S1024x128 .f32) (y : S1x8x80x1024.Idx) (hc : ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.1, y ∈ p.1.set) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.1 y = (⟨x0, x1, x2, x3, x4, x5, x6, x7, x8, x9, x10, x11, x12, x13, x14⟩ : Blks).vt (y 1) (y 2) (y 3) :=
  of17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (⟨x0, x1, x2, x3, x4, x5, x6, x7, x8, x9, x10, x11, x12, x13, x14⟩ : Blks) y hc
/-- The values. -/
theorem can17 (y : S1x8x80x1024.Idx) : View.canon (runAt m c t).2.2.1 y = (blks m c t).vt (y 1) (y 2) (y 3) :=
  sep17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y (cover17 m c t y)
/-- The same with the blocks named one by one. -/
theorem sep18 (c : Dev nD) (i : grid0.Coords) (arg2 : Memref sig .tc .vmem S1x1024x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x2048 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S512x128 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1x8x1024x128 .bf16) (harg17 : arg17.IsWhole) (arg18 : Memref sig .tc .vmem S1x8x1024x128 .bf16) (harg18 : arg18.IsWhole) (arg19 : Memref sig .tc .vmem S1x8x80x1024 .bf16) (harg19 : arg19.IsWhole) (arg20 : Memref sig .tc .vmem S1x1024x512 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x1024 .f32) (harg24 : arg24.IsWhole)
    (x0 : Vec Ideal S1x1024x1024 .f32) (x1 : Vec Ideal S1x1x3072 .f32) (x2 : Vec Ideal S1x1024 .f32) (x3 : Vec Ideal S1x1024 .f32) (x4 : Vec Ideal S1024x512 .bf16) (x5 : Vec Ideal S1024x2048 .bf16) (x6 : Vec Ideal S1x256 .f32) (x7 : Vec Ideal S256x1024 .bf16) (x8 : Vec Ideal S1x128 .f32) (x9 : Vec Ideal S128x1024 .bf16) (x10 : Vec Ideal S512x128 .bf16) (x11 : Vec Ideal S1024x128 .f32) (x12 : Vec Ideal S1024x128 .f32) (x13 : Vec Ideal S1024x128 .f32) (x14 : Vec Ideal S1024x128 .f32) (y : S1x1024x512.Idx) (hc : ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.1, y ∈ p.1.set) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.1 y = (⟨x0, x1, x2, x3, x4, x5, x6, x7, x8, x9, x10, x11, x12, x13, x14⟩ : Blks).r (y 1) ⟨512 + (y 2).val, Blks.lane_lt (by decide) (y 2)⟩ :=
  of18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (⟨x0, x1, x2, x3, x4, x5, x6, x7, x8, x9, x10, x11, x12, x13, x14⟩ : Blks) y hc
/-- The product kept as it is. -/
theorem can18 (y : S1x1024x512.Idx) : View.canon (runAt m c t).2.2.2.1 y = (blks m c t).r (y 1) ⟨512 + (y 2).val, Blks.lane_lt (by decide) (y 2)⟩ :=
  sep18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y (cover18 m c t y)
/-- The same with the blocks named one by one. -/
theorem sep19 (c : Dev nD) (i : grid0.Coords) (arg2 : Memref sig .tc .vmem S1x1024x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x2048 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S512x128 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1x8x1024x128 .bf16) (harg17 : arg17.IsWhole) (arg18 : Memref sig .tc .vmem S1x8x1024x128 .bf16) (harg18 : arg18.IsWhole) (arg19 : Memref sig .tc .vmem S1x8x80x1024 .bf16) (harg19 : arg19.IsWhole) (arg20 : Memref sig .tc .vmem S1x1024x512 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x1024 .f32) (harg24 : arg24.IsWhole)
    (x0 : Vec Ideal S1x1024x1024 .f32) (x1 : Vec Ideal S1x1x3072 .f32) (x2 : Vec Ideal S1x1024 .f32) (x3 : Vec Ideal S1x1024 .f32) (x4 : Vec Ideal S1024x512 .bf16) (x5 : Vec Ideal S1024x2048 .bf16) (x6 : Vec Ideal S1x256 .f32) (x7 : Vec Ideal S256x1024 .bf16) (x8 : Vec Ideal S1x128 .f32) (x9 : Vec Ideal S128x1024 .bf16) (x10 : Vec Ideal S512x128 .bf16) (x11 : Vec Ideal S1024x128 .f32) (x12 : Vec Ideal S1024x128 .f32) (x13 : Vec Ideal S1024x128 .f32) (x14 : Vec Ideal S1024x128 .f32) (y : S1x1024x512.Idx) (hc : ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.2.1, y ∈ p.1.set) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.2.1 y = (⟨x0, x1, x2, x3, x4, x5, x6, x7, x8, x9, x10, x11, x12, x13, x14⟩ : Blks).r (y 1) ⟨0 + (y 2).val, Blks.lane_lt (by decide) (y 2)⟩ * Ref.sig ((⟨x0, x1, x2, x3, x4, x5, x6, x7, x8, x9, x10, x11, x12, x13, x14⟩ : Blks).r (y 1) ⟨0 + (y 2).val, Blks.lane_lt (by decide) (y 2)⟩) :=
  of19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (⟨x0, x1, x2, x3, x4, x5, x6, x7, x8, x9, x10, x11, x12, x13, x14⟩ : Blks) y hc
/-- The first gate. -/
theorem can19 (y : S1x1024x512.Idx) : View.canon (runAt m c t).2.2.2.2.1 y = (blks m c t).r (y 1) ⟨0 + (y 2).val, Blks.lane_lt (by decide) (y 2)⟩ * Ref.sig ((blks m c t).r (y 1) ⟨0 + (y 2).val, Blks.lane_lt (by decide) (y 2)⟩) :=
  sep19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y (cover19 m c t y)
/-- The same with the blocks named one by one. -/
theorem sep20 (c : Dev nD) (i : grid0.Coords) (arg2 : Memref sig .tc .vmem S1x1024x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x2048 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S512x128 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1x8x1024x128 .bf16) (harg17 : arg17.IsWhole) (arg18 : Memref sig .tc .vmem S1x8x1024x128 .bf16) (harg18 : arg18.IsWhole) (arg19 : Memref sig .tc .vmem S1x8x80x1024 .bf16) (harg19 : arg19.IsWhole) (arg20 : Memref sig .tc .vmem S1x1024x512 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x1024 .f32) (harg24 : arg24.IsWhole)
    (x0 : Vec Ideal S1x1024x1024 .f32) (x1 : Vec Ideal S1x1x3072 .f32) (x2 : Vec Ideal S1x1024 .f32) (x3 : Vec Ideal S1x1024 .f32) (x4 : Vec Ideal S1024x512 .bf16) (x5 : Vec Ideal S1024x2048 .bf16) (x6 : Vec Ideal S1x256 .f32) (x7 : Vec Ideal S256x1024 .bf16) (x8 : Vec Ideal S1x128 .f32) (x9 : Vec Ideal S128x1024 .bf16) (x10 : Vec Ideal S512x128 .bf16) (x11 : Vec Ideal S1024x128 .f32) (x12 : Vec Ideal S1024x128 .f32) (x13 : Vec Ideal S1024x128 .f32) (x14 : Vec Ideal S1024x128 .f32) (y : S1x1024x512.Idx) (hc : ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.2.2.1, y ∈ p.1.set) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.2.2.1 y = Ref.sig ((⟨x0, x1, x2, x3, x4, x5, x6, x7, x8, x9, x10, x11, x12, x13, x14⟩ : Blks).r (y 1) ⟨1024 + (y 2).val, Blks.lane_lt (by decide) (y 2)⟩) :=
  of20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (⟨x0, x1, x2, x3, x4, x5, x6, x7, x8, x9, x10, x11, x12, x13, x14⟩ : Blks) y hc
/-- The second gate. -/
theorem can20 (y : S1x1024x512.Idx) : View.canon (runAt m c t).2.2.2.2.2.1 y = Ref.sig ((blks m c t).r (y 1) ⟨1024 + (y 2).val, Blks.lane_lt (by decide) (y 2)⟩) :=
  sep20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y (cover20 m c t y)
/-- The same with the blocks named one by one. -/
theorem sep21 (c : Dev nD) (i : grid0.Coords) (arg2 : Memref sig .tc .vmem S1x1024x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x2048 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S512x128 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1x8x1024x128 .bf16) (harg17 : arg17.IsWhole) (arg18 : Memref sig .tc .vmem S1x8x1024x128 .bf16) (harg18 : arg18.IsWhole) (arg19 : Memref sig .tc .vmem S1x8x80x1024 .bf16) (harg19 : arg19.IsWhole) (arg20 : Memref sig .tc .vmem S1x1024x512 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x1024 .f32) (harg24 : arg24.IsWhole)
    (x0 : Vec Ideal S1x1024x1024 .f32) (x1 : Vec Ideal S1x1x3072 .f32) (x2 : Vec Ideal S1x1024 .f32) (x3 : Vec Ideal S1x1024 .f32) (x4 : Vec Ideal S1024x512 .bf16) (x5 : Vec Ideal S1024x2048 .bf16) (x6 : Vec Ideal S1x256 .f32) (x7 : Vec Ideal S256x1024 .bf16) (x8 : Vec Ideal S1x128 .f32) (x9 : Vec Ideal S128x1024 .bf16) (x10 : Vec Ideal S512x128 .bf16) (x11 : Vec Ideal S1024x128 .f32) (x12 : Vec Ideal S1024x128 .f32) (x13 : Vec Ideal S1024x128 .f32) (x14 : Vec Ideal S1024x128 .f32) (y : S1x1024x512.Idx) (hc : ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.2.2.2.1, y ∈ p.1.set) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.2.2.2.1 y = (⟨x0, x1, x2, x3, x4, x5, x6, x7, x8, x9, x10, x11, x12, x13, x14⟩ : Blks).r (y 1) ⟨1536 + (y 2).val, Blks.lane_lt (by decide) (y 2)⟩ * Ref.sig ((⟨x0, x1, x2, x3, x4, x5, x6, x7, x8, x9, x10, x11, x12, x13, x14⟩ : Blks).r (y 1) ⟨1536 + (y 2).val, Blks.lane_lt (by decide) (y 2)⟩) :=
  of21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (⟨x0, x1, x2, x3, x4, x5, x6, x7, x8, x9, x10, x11, x12, x13, x14⟩ : Blks) y hc
/-- The third gate. -/
theorem can21 (y : S1x1024x512.Idx) : View.canon (runAt m c t).2.2.2.2.2.2.1 y = (blks m c t).r (y 1) ⟨1536 + (y 2).val, Blks.lane_lt (by decide) (y 2)⟩ * Ref.sig ((blks m c t).r (y 1) ⟨1536 + (y 2).val, Blks.lane_lt (by decide) (y 2)⟩) :=
  sep21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y (cover21 m c t y)
/-- The same with the blocks named one by one. -/
theorem sep22 (c : Dev nD) (i : grid0.Coords) (arg2 : Memref sig .tc .vmem S1x1024x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x2048 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S512x128 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole) (arg17 : Memref sig .tc .vmem S1x8x1024x128 .bf16) (harg17 : arg17.IsWhole) (arg18 : Memref sig .tc .vmem S1x8x1024x128 .bf16) (harg18 : arg18.IsWhole) (arg19 : Memref sig .tc .vmem S1x8x80x1024 .bf16) (harg19 : arg19.IsWhole) (arg20 : Memref sig .tc .vmem S1x1024x512 .bf16) (harg20 : arg20.IsWhole) (arg21 : Memref sig .tc .vmem S1x1024x512 .bf16) (harg21 : arg21.IsWhole) (arg22 : Memref sig .tc .vmem S1x1024x512 .bf16) (harg22 : arg22.IsWhole) (arg23 : Memref sig .tc .vmem S1x1024x512 .bf16) (harg23 : arg23.IsWhole) (arg24 : Memref sig .tc .vmem S1x1024x1024 .f32) (harg24 : arg24.IsWhole)
    (x0 : Vec Ideal S1x1024x1024 .f32) (x1 : Vec Ideal S1x1x3072 .f32) (x2 : Vec Ideal S1x1024 .f32) (x3 : Vec Ideal S1x1024 .f32) (x4 : Vec Ideal S1024x512 .bf16) (x5 : Vec Ideal S1024x2048 .bf16) (x6 : Vec Ideal S1x256 .f32) (x7 : Vec Ideal S256x1024 .bf16) (x8 : Vec Ideal S1x128 .f32) (x9 : Vec Ideal S128x1024 .bf16) (x10 : Vec Ideal S512x128 .bf16) (x11 : Vec Ideal S1024x128 .f32) (x12 : Vec Ideal S1024x128 .f32) (x13 : Vec Ideal S1024x128 .f32) (x14 : Vec Ideal S1024x128 .f32) (y : S1x1024x1024.Idx) (hc : ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.2.2.2.2.1, y ∈ p.1.set) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14).2.2.2.2.2.2.2.1 y = (⟨x0, x1, x2, x3, x4, x5, x6, x7, x8, x9, x10, x11, x12, x13, x14⟩ : Blks).h (y 1) (y 2) :=
  of22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (⟨x0, x1, x2, x3, x4, x5, x6, x7, x8, x9, x10, x11, x12, x13, x14⟩ : Blks) y hc
/-- The normalised rows. -/
theorem can22 (y : S1x1024x1024.Idx) : View.canon (runAt m c t).2.2.2.2.2.2.2.1 y = (blks m c t).h (y 1) (y 2) :=
  sep22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y (cover22 m c t y)

end Cert.Proj
end
-- ==== Proof.Value2.lean ====
/-
  The eight arrays of the projections at the end, in the reference's layers of the arguments.
-/
module
public import proofs.«01_k».proof.Proof.Rows2
public import proofs.«01_k».proof.Proof.Point2
@[expose] public section
set_option maxRecDepth 16384
noncomputable section
open Idealize.ShloMosaic Idealize.ShloMosaic.TcCoe
namespace Cert.Proj
open Cert.Kernel2Ideal Cert.Kernel2Ideal.Gen

variable (m : (ℓ : Loc nD τ sig) → Buf (Elt Ideal) ℓ) (c : Dev nD)

/-- The eight results. -/
def R0 : FVec Ideal S8x8x2048x128 .bf16 := Ref.outQ (Q m c) (b9 m c) (b10 m c)
def R1 : FVec Ideal S8x8x2048x128 .bf16 := Ref.outK (KV m c) (P m c) (b9 m c) (b10 m c)
def R2 : FVec Ideal S8x8x80x2048 .bf16 := Ref.outV (KV m c)
def R3 : FVec Ideal S8x2048x512 .bf16 := Ref.outX (P m c)
def R4 : FVec Ideal S8x2048x512 .bf16 := Ref.outZ (P m c)
def R5 : FVec Ideal S8x2048x512 .bf16 := Ref.outO (P m c)
def R6 : FVec Ideal S8x2048x512 .bf16 := Ref.outM (P m c)
def R7 : FVec Ideal S8x2048x1024 .f32 := H m c

/-- Indices of the results' blocks, by their coordinates. -/
theorem ix_q (y : S1x8x1024x128.Idx) : ∃ (h : Fin 8) (n : Fin 1024) (d : Fin 128), y = ix4 0 h n d :=
  ⟨y 1, y 2, y 3, by funext a; fin_cases a <;> first | rfl | exact Subsingleton.elim (α := Fin 1) _ _⟩
theorem ix_v (y : S1x8x80x1024.Idx) : ∃ (h : Fin 8) (d : Fin 80) (n : Fin 1024), y = ix4 0 h d n :=
  ⟨y 1, y 2, y 3, by funext a; fin_cases a <;> first | rfl | exact Subsingleton.elim (α := Fin 1) _ _⟩
theorem ix_g (y : S1x1024x512.Idx) : ∃ (n : Fin 1024) (d : Fin 512), y = ix3 0 n d :=
  ⟨y 1, y 2, by funext a; fin_cases a <;> first | rfl | exact Subsingleton.elim (α := Fin 1) _ _⟩
theorem ix_h (y : S1x1024x1024.Idx) : ∃ n d : Fin 1024, y = ix3 0 n d :=
  ⟨y 1, y 2, by funext a; fin_cases a <;> first | rfl | exact Subsingleton.elim (α := Fin 1) _ _⟩

/-! ## The points' blocks -/

section
variable (t : Fin cfg0.N)
theorem pt15 (F : Fin4 m c) (h : Fin 8) (n : Fin 1024) (d : Fin 128) : View.canon (runAt m c t).1 (ix4 0 h n d) = R0 m c (ix4 (bat t) h (row t n) d) :=
  (can15 m c t (ix4 0 h n d)).trans (qry_row m c t F h n d)
theorem pt16 (F : Fin4 m c) (h : Fin 8) (n : Fin 1024) (d : Fin 128) : View.canon (runAt m c t).2.1 (ix4 0 h n d) = R1 m c (ix4 (bat t) h (row t n) d) :=
  (can16 m c t (ix4 0 h n d)).trans (key_row m c t F h n d)
theorem pt17 (h : Fin 8) (d : Fin 80) (n : Fin 1024) : View.canon (runAt m c t).2.2.1 (ix4 0 h d n) = R2 m c (ix4 (bat t) h d (row t n)) :=
  (can17 m c t (ix4 0 h d n)).trans (vt_row m c t h d n)
/-- A product of the row with a gate's column, as the reference's. -/
theorem r_col (n : Fin 1024) (o : ℕ) (d : Fin 512) (ho : o + d.val < 2048) (o' : ℕ) (e : o' = 416 + o) :
    (blks m c t).r n ⟨o + d.val, ho⟩ = P m c (ix3 (bat t) (row t n) (⟨o' + d.val, by omega⟩ : Fin 2464)) :=
  (r_row m c t n ⟨o + d.val, ho⟩).trans (congrArg (fun z => P m c (ix3 (bat t) (row t n) z)) (Fin.ext (by show 416 + (o + d.val) = o' + d.val; omega)))
theorem pt18 (n : Fin 1024) (d : Fin 512) : View.canon (runAt m c t).2.2.2.1 (ix3 0 n d) = R3 m c (ix3 (bat t) (row t n) d) :=
  ((can18 m c t (ix3 0 n d)).trans (r_col m c t n 512 d (by omega) 928 rfl)).trans (Ref.outX_at _ _ _ _).symm
theorem pt19 (n : Fin 1024) (d : Fin 512) : View.canon (runAt m c t).2.2.2.2.1 (ix3 0 n d) = R4 m c (ix3 (bat t) (row t n) d) :=
  ((can19 m c t (ix3 0 n d)).trans (congrArg (fun z => z * Ref.sig z) (r_col m c t n 0 d (by omega) 416 rfl))).trans (Ref.outZ_at _ _ _ _).symm
theorem pt20 (n : Fin 1024) (d : Fin 512) : View.canon (runAt m c t).2.2.2.2.2.1 (ix3 0 n d) = R5 m c (ix3 (bat t) (row t n) d) :=
  ((can20 m c t (ix3 0 n d)).trans (congrArg Ref.sig (r_col m c t n 1024 d (by omega) 1440 rfl))).trans (Ref.outO_at _ _ _ _).symm
theorem pt21 (n : Fin 1024) (d : Fin 512) : View.canon (runAt m c t).2.2.2.2.2.2.1 (ix3 0 n d) = R6 m c (ix3 (bat t) (row t n) d) :=
  ((can21 m c t (ix3 0 n d)).trans (congrArg (fun z => z * Ref.sig z) (r_col m c t n 1536 d (by omega) 1952 rfl))).trans (Ref.outM_at _ _ _ _).symm
theorem pt22 (n d : Fin 1024) : View.canon (runAt m c t).2.2.2.2.2.2.2.1 (ix3 0 n d) = R7 m c (ix3 (bat t) (row t n) d) :=
  (can22 m c t (ix3 0 n d)).trans (h_row m c t n d)
end

/-! ## The arrays at the end -/

set_option maxHeartbeats 4000000 in
theorem final15 (F : Fin4 m c) : (dats m 0 c).arrAt 15 (cfgs 0).N = R0 m c := by
  refine (dats m 0 c).arrAt_eq_of_covers 15 _ (by decide +kernel) fun t _ y => ?_
  blk_simp
  rw [after0_15]
  obtain ⟨h, n, d, rfl⟩ := ix_q y
  exact (pt15 m c t F h n d).trans (congrArg (R0 m c) (emb15 t h n d)).symm
set_option maxHeartbeats 4000000 in
theorem final16 (F : Fin4 m c) : (dats m 0 c).arrAt 16 (cfgs 0).N = R1 m c := by
  refine (dats m 0 c).arrAt_eq_of_covers 16 _ (by decide +kernel) fun t _ y => ?_
  blk_simp
  rw [after0_16]
  obtain ⟨h, n, d, rfl⟩ := ix_q y
  exact (pt16 m c t F h n d).trans (congrArg (R1 m c) (emb16 t h n d)).symm
set_option maxHeartbeats 4000000 in
theorem final17 : (dats m 0 c).arrAt 17 (cfgs 0).N = R2 m c := by
  refine (dats m 0 c).arrAt_eq_of_covers 17 _ (by decide +kernel) fun t _ y => ?_
  blk_simp
  rw [after0_17]
  obtain ⟨h, d, n, rfl⟩ := ix_v y
  exact (pt17 m c t h d n).trans (congrArg (R2 m c) (emb17 t h d n)).symm
set_option maxHeartbeats 4000000 in
theorem final18 : (dats m 0 c).arrAt 18 (cfgs 0).N = R3 m c := by
  refine (dats m 0 c).arrAt_eq_of_covers 18 _ (by decide +kernel) fun t _ y => ?_
  blk_simp
  rw [after0_18]
  obtain ⟨n, d, rfl⟩ := ix_g y
  exact (pt18 m c t n d).trans (congrArg (R3 m c) (emb18 t n d)).symm
set_option maxHeartbeats 4000000 in
theorem final19 : (dats m 0 c).arrAt 19 (cfgs 0).N = R4 m c := by
  refine (dats m 0 c).arrAt_eq_of_covers 19 _ (by decide +kernel) fun t _ y => ?_
  blk_simp
  rw [after0_19]
  obtain ⟨n, d, rfl⟩ := ix_g y
  exact (pt19 m c t n d).trans (congrArg (R4 m c) (emb19 t n d)).symm
set_option maxHeartbeats 4000000 in
theorem final20 : (dats m 0 c).arrAt 20 (cfgs 0).N = R5 m c := by
  refine (dats m 0 c).arrAt_eq_of_covers 20 _ (by decide +kernel) fun t _ y => ?_
  blk_simp
  rw [after0_20]
  obtain ⟨n, d, rfl⟩ := ix_g y
  exact (pt20 m c t n d).trans (congrArg (R5 m c) (emb20 t n d)).symm
set_option maxHeartbeats 4000000 in
theorem final21 : (dats m 0 c).arrAt 21 (cfgs 0).N = R6 m c := by
  refine (dats m 0 c).arrAt_eq_of_covers 21 _ (by decide +kernel) fun t _ y => ?_
  blk_simp
  rw [after0_21]
  obtain ⟨n, d, rfl⟩ := ix_g y
  exact (pt21 m c t n d).trans (congrArg (R6 m c) (emb21 t n d)).symm
set_option maxHeartbeats 4000000 in
theorem final22 : (dats m 0 c).arrAt 22 (cfgs 0).N = R7 m c := by
  refine (dats m 0 c).arrAt_eq_of_covers 22 _ (by decide +kernel) fun t _ y => ?_
  blk_simp
  rw [after0_22]
  obtain ⟨n, d, rfl⟩ := ix_h y
  exact (pt22 m c t n d).trans (congrArg (R7 m c) (emb22 t n d)).symm

end Cert.Proj
end
-- ==== Proof.Finite2.lean ====
/-
  What the projections' precondition says: the modulated rows, the rotary columns of the first weights, the normalised
  latent of the queries and the queries' weights are real.
-/
module
public import proofs.«01_k».proof.Defs
public import proofs.«01_k».proof.Proof.Finite
public import proofs.«01_k».proof.Proof.Ref2
@[expose] public section
set_option maxRecDepth 16384
noncomputable section
open Idealize.ShloMosaic Idealize.ShloMosaic.TcCoe
namespace Cert.Proj.Finite
open Cert.Pre_finite_rows

/-- The side conditions of the precondition's operations. -/
theorem facts : Cert.Pre_finite_rows.Facts where
  reducesTo_S8x2048x1024_S8x2048_d2 := by decide
  h_S_ := by decide
  bcast_S8x2048_S8x2048x1_0_1 := by decide
  bcast_S_S8x2048x1 := by decide
  bcast_S8x2048x1_S8x2048x1024_0_1_2 := by decide
  bcast_S1024_S1x1x1024_2 := by decide
  bcast_S1x1x1024_S8x2048x1024_0_1_2 := by decide
  slices_S9x1x3072_S8x1x1024_0_0_0 := by decide
  slices_S9x1x3072_S8x1x1024_0_0_1024 := by decide
  bcast_S_S8x1x1024 := by decide
  bcast_S8x1x1024_S8x2048x1024_0_1_2 := by decide
  bcast_S_S8x2048x1024 := by decide
  reducesTo_S8x2048x1024_S_d0_1_2 := by decide
  slices_S1024x2464_S1024x32_0_384 := by decide
  bcast_S_S1024x32 := by decide
  reducesTo_S1024x32_S_d0_1 := by decide
  slices_S8x2048x2464_S8x2048x256_0_0_0 := by decide
  reducesTo_S8x2048x256_S8x2048_d2 := by decide
  bcast_S8x2048x1_S8x2048x256_0_1_2 := by decide
  bcast_S256_S1x1x256_2 := by decide
  bcast_S1x1x256_S8x2048x256_0_1_2 := by decide
  bcast_S_S8x2048x256 := by decide
  reducesTo_S8x2048x256_S_d0_1_2 := by decide
  bcast_S_S256x768 := by decide
  reducesTo_S256x768_S_d0_1 := by decide
  dot_S8x2048x1024_S1024x2464_S8x2048x2464_2_0_01_1_n_n_wf := by decide

attribute [local instance] facts Cert.Reference2Ideal.Gen.facts

/-- The rotary columns. -/
def rotW (w : FVec Ideal S1024x2464 .f32) : FVec Ideal S1024x32 .f32 :=
  extractStridedSlice S1024x32 ![0, 384] w facts.slices_S1024x2464_S1024x32_0_384

theorem of_fn (x0 : FVec Ideal S8x2048x1024 .f32) (x1 : FVec Ideal S9x1x3072 .f32) (x2 x3 : FVec Ideal S1024 .f32)
    (x4 : FVec Ideal S1024x2464 .f32) (x5 : FVec Ideal S256 .f32) (x6 : FVec Ideal S256x768 .f32) (x7 : FVec Ideal S128 .f32)
    (x8 : FVec Ideal S128x1024 .f32) (x9 x10 : FVec Ideal S2048x2x8 .f32)
    (e : fn (F := Ideal) x0 x1 x2 x3 x4 x5 x6 x7 x8 x9 x10 = fun _ => 1#1) :
    (∀ i, ∃ r : ℝ, Ref.modul (Ref.lnorm (Ref.cent x0) x2 x3) x1 i = (r : EReal)) ∧ (∀ i, ∃ r : ℝ, rotW x4 i = (r : EReal))
      ∧ (∀ i, ∃ r : ℝ, Ref.nq (Ref.inp (Ref.modul (Ref.lnorm (Ref.cent x0) x2 x3) x1) x4) x5 i = (r : EReal))
      ∧ (∀ i, ∃ r : ℝ, x6 i = (r : EReal)) := by
  have e := congrFun e (fun i => i.elim0)
  obtain ⟨e, h3⟩ := IntOp.andi_eq_one.1 e
  obtain ⟨e, h2⟩ := IntOp.andi_eq_one.1 e
  obtain ⟨h0, h1⟩ := IntOp.andi_eq_one.1 e
  exact ⟨Cert.Attn.Finite.all_real (Ref.modul (Ref.lnorm (Ref.cent x0) x2 x3) x1) _ _ _ _ h0, Cert.Attn.Finite.all_real (rotW x4) _ _ _ _ h1,
    Cert.Attn.Finite.all_real (Ref.nq (Ref.inp (Ref.modul (Ref.lnorm (Ref.cent x0) x2 x3) x1) x4) x5) _ _ _ _ h2,
    Cert.Attn.Finite.all_real x6 _ _ _ _ h3⟩

end Cert.Proj.Finite
end
-- ==== Proof.RefRun2.lean ====
/- The run of the projections' reference: its results are the layers of its arguments. -/
module
public import proofs.«01_k».proof.Proof.Gen.Reference2Ideal.Run
public import proofs.«01_k».proof.Proof.Ref2
@[expose] public section
set_option maxRecDepth 16384
noncomputable section
open Idealize.ShloMosaic Idealize.ShloMosaic.TcCoe Idealize.SL.Sem
namespace Cert.Proj.Ref
open Cert.Reference2Ideal Cert.Reference2Ideal.Gen
variable (m : (ℓ : Loc nD τ Cert.Reference2Ideal.sig) → Buf (Elt Ideal) ℓ) (c : Dev nD)

/-- The normalised rows, the modulated rows' products, the queries, the keys and values, of the arguments. -/
def rH : FVec Ideal S8x2048x1024 .f32 := lnorm (cent (m ((c.tc : Thread nD τ).loc main_arg0))) (m ((c.tc : Thread nD τ).loc main_arg2)) (m ((c.tc : Thread nD τ).loc main_arg3))
def rP : FVec Ideal S8x2048x2464 .f32 := inp (modul (rH m c) (m ((c.tc : Thread nD τ).loc main_arg1))) (m ((c.tc : Thread nD τ).loc main_arg4))
def rQ : FVec Ideal S8x2048x8x96 .f32 := qh (nq (rP m c) (m ((c.tc : Thread nD τ).loc main_arg5))) (m ((c.tc : Thread nD τ).loc main_arg6))
def rKV : FVec Ideal S8x2048x8x128 .f32 := kvh (nkv (rP m c) (m ((c.tc : Thread nD τ).loc main_arg7))) (m ((c.tc : Thread nD τ).loc main_arg8))

theorem v131_eq : Cert.Reference2Ideal.Value.res_main_v131 m c = outQ (rQ m c) (m ((c.tc : Thread nD τ).loc main_arg9)) (m ((c.tc : Thread nD τ).loc main_arg10)) := by
  unfold Cert.Reference2Ideal.Value.res_main_v131
  rfl
theorem v132_eq : Cert.Reference2Ideal.Value.res_main_v132 m c = outK (rKV m c) (rP m c) (m ((c.tc : Thread nD τ).loc main_arg9)) (m ((c.tc : Thread nD τ).loc main_arg10)) := by
  unfold Cert.Reference2Ideal.Value.res_main_v132
  rfl
theorem v133_eq : Cert.Reference2Ideal.Value.res_main_v133 m c = outV (rKV m c) := by
  unfold Cert.Reference2Ideal.Value.res_main_v133
  rfl
theorem v136_eq : Cert.Reference2Ideal.Value.res_main_v136 m c = outZ (rP m c) := by
  unfold Cert.Reference2Ideal.Value.res_main_v136
  rfl
theorem v145_eq : Cert.Reference2Ideal.Value.res_main_v145 m c = outM (rP m c) := by
  unfold Cert.Reference2Ideal.Value.res_main_v145
  rfl

theorem run (ρ : Dev nD → PrngReg) :
    θ_run defs (onTc (τ := τ) (main (F := Ideal))) ⟨m, fun _ => 0, ρ⟩ fun r => ∀ c : Dev nD,
      r.2.mem ((c.tc : Thread nD τ).loc main_v131) = outQ (rQ m c) (m ((c.tc : Thread nD τ).loc main_arg9)) (m ((c.tc : Thread nD τ).loc main_arg10))
      ∧ r.2.mem ((c.tc : Thread nD τ).loc main_v132) = outK (rKV m c) (rP m c) (m ((c.tc : Thread nD τ).loc main_arg9)) (m ((c.tc : Thread nD τ).loc main_arg10))
      ∧ r.2.mem ((c.tc : Thread nD τ).loc main_v133) = outV (rKV m c)
      ∧ r.2.mem ((c.tc : Thread nD τ).loc main_v134) = outX (rP m c)
      ∧ r.2.mem ((c.tc : Thread nD τ).loc main_v136) = outZ (rP m c)
      ∧ r.2.mem ((c.tc : Thread nD τ).loc main_v143) = outO (rP m c)
      ∧ r.2.mem ((c.tc : Thread nD τ).loc main_v145) = outM (rP m c)
      ∧ r.2.mem ((c.tc : Thread nD τ).loc main_v21) = rH m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(h c).1.trans (v131_eq m c), (h c).2.1.trans (v132_eq m c), (h c).2.2.1.trans (v133_eq m c), (h c).2.2.2.1, (h c).2.2.2.2.1.trans (v136_eq m c), (h c).2.2.2.2.2.1, (h c).2.2.2.2.2.2.1.trans (v145_eq m c), (h c).2.2.2.2.2.2.2.1, (h c).2.2.2.2.2.2.2.2⟩)
    (Cert.Reference2Ideal.Value.run (F := Ideal) m ρ)

end Cert.Proj.Ref
end
-- ==== Proof.Algebraic2.lean ====
/- The projections' two idealized programs agree on all eight results. -/
module
public import proofs.«01_k».proof.Proof.Value2
public import proofs.«01_k».proof.Proof.Finite2
public import proofs.«01_k».proof.Proof.RefRun2
public import proofs.«01_k».proof.Proof.Algebraic
@[expose] public section
set_option maxRecDepth 16384
noncomputable section
open Idealize.ShloMosaic Idealize.SL.Sem
namespace Cert.Proj

section
open Cert.Kernel2Ideal Cert.Kernel2Ideal.Gen
variable {F : FTy → Type} [FloatOps F]

/-- The projections' run: the eight results are the staged arrays' last contents, and the arguments are as they were. -/
theorem run_any (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v66_0) = (dats m 0 c).arrAt 15 (cfgs 0).N
      ∧ r.2.mem ((c.tc : Thread nD τ).loc main_v66_1) = (dats m 0 c).arrAt 16 (cfgs 0).N
      ∧ r.2.mem ((c.tc : Thread nD τ).loc main_v66_2) = (dats m 0 c).arrAt 17 (cfgs 0).N
      ∧ r.2.mem ((c.tc : Thread nD τ).loc main_v66_3) = (dats m 0 c).arrAt 18 (cfgs 0).N
      ∧ r.2.mem ((c.tc : Thread nD τ).loc main_v66_4) = (dats m 0 c).arrAt 19 (cfgs 0).N
      ∧ r.2.mem ((c.tc : Thread nD τ).loc main_v66_5) = (dats m 0 c).arrAt 20 (cfgs 0).N
      ∧ r.2.mem ((c.tc : Thread nD τ).loc main_v66_6) = (dats m 0 c).arrAt 21 (cfgs 0).N
      ∧ r.2.mem ((c.tc : Thread nD τ).loc main_v66_7) = (dats m 0 c).arrAt 22 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h.1.1 c).1 15, (h.1.1 c).1 16, (h.1.1 c).1 17, (h.1.1 c).1 18, (h.1.1 c).1 19, (h.1.1 c).1 20, (h.1.1 c).1 21, (h.1.1 c).1 22, h.2.1 c⟩) (Cert.Attn.run_and (run_main m ρ) (frame_any m ρ))

end

section
variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ) (c : Dev Cert.Kernel2Ideal.nD)

/-- The reference's layers are those functions of the arguments it shares with the kernel. -/
theorem ref_layers (e : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) :
    Ref.rH m' c = H m c ∧ Ref.rP m' c = P m c ∧ Ref.rQ m' c = Q m c ∧ Ref.rKV m' c = KV m c
      ∧ m' ((c.tc : Thread Cert.Reference2Ideal.nD Cert.Reference2Ideal.τ).loc Cert.Reference2Ideal.main_arg9) = b9 m c ∧ m' ((c.tc : Thread Cert.Reference2Ideal.nD Cert.Reference2Ideal.τ).loc Cert.Reference2Ideal.main_arg10) = b10 m c := by
  obtain ⟨e0, e1, e2, e3, e4, e5, e6, e7, e8, e9, e10⟩ := e
  have eH : Ref.rH m' c = H m c := by unfold Ref.rH; rw [e0, e2, e3]; rfl
  have eP : Ref.rP m' c = P m c := by unfold Ref.rP; rw [eH, e1, e4]; rfl
  have eQ : Ref.rQ m' c = Q m c := by unfold Ref.rQ; rw [eP, e5, e6]; rfl
  have eK : Ref.rKV m' c = KV m c := by unfold Ref.rKV; rw [eP, e7, e8]; rfl
  exact ⟨eH, eP, eQ, eK, e9, e10⟩

end

section
attribute [local instance] Finite.facts

/-- The precondition is the finiteness the turned columns need. -/
theorem fin4 (m : (ℓ : Loc Cert.Kernel2Ideal.nD Cert.Kernel2Ideal.τ Cert.Kernel2Ideal.sig) → Buf (Elt Ideal) ℓ) (h : Cert.Pre_Kernel2Ideal_finite_rows m) (c : Dev Cert.Kernel2Ideal.nD) : Fin4 m c := by
  obtain ⟨hu, hw, hn, hq⟩ := Finite.of_fn _ _ _ _ _ _ _ _ _ _ _ (h c)
  exact ⟨hu, hw, hn, hq⟩

end

/-- From finite rows the projections and their reference end with equal results. -/
theorem algebraic : Cert.algebraic_Kernel2Ideal_Reference2Ideal_pre_finite_rows (hKernel2Ideal := Cert.Kernel2Ideal.Gen.facts)
    (hReference2Ideal := Cert.Reference2Ideal.Gen.facts) (hPre_finite_rows := Finite.facts) := fun m g m' g' hp hag =>
  ⟨fun c => R0 m c, fun c => R1 m c, fun c => R2 m c, fun c => R3 m c, fun c => R4 m c, fun c => R5 m c, fun c => R6 m c, fun c => R7 m c,
    (θ_run Cert.Kernel2Ideal.defs _ _).mono
      (fun r h c => ⟨(h c).1.trans (final15 m c (fin4 m hp c)), (h c).2.1.trans (final16 m c (fin4 m hp c)), (h c).2.2.1.trans (final17 m c), (h c).2.2.2.1.trans (final18 m c), (h c).2.2.2.2.1.trans (final19 m c), (h c).2.2.2.2.2.1.trans (final20 m c), (h c).2.2.2.2.2.2.1.trans (final21 m c), (h c).2.2.2.2.2.2.2.1.trans (final22 m c), (h c).2.2.2.2.2.2.2.2⟩)
      (run_any (F := Ideal) m g),
    (θ_run Cert.Reference2Ideal.defs _ _).mono (fun r h c => by
      obtain ⟨eH, eP, eQ, eK, e9, e10⟩ := ref_layers m m' c (hag c)
      refine ⟨(h c).1.trans ?_, (h c).2.1.trans ?_, (h c).2.2.1.trans ?_, (h c).2.2.2.1.trans ?_, (h c).2.2.2.2.1.trans ?_, (h c).2.2.2.2.2.1.trans ?_,
        (h c).2.2.2.2.2.2.1.trans ?_, (h c).2.2.2.2.2.2.2.1.trans eH, (h c).2.2.2.2.2.2.2.2⟩
      · rw [eQ, e9, e10]; rfl
      · rw [eK, eP, e9, e10]; rfl
      · rw [eK]; rfl
      · rw [eP]; rfl
      · rw [eP]; rfl
      · rw [eP]; rfl
      · rw [eP]; rfl) (Ref.run m' g')⟩

end Cert.Proj
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Frames
public import proofs.«01_k».proof.Proof.Algebraic
public import proofs.«01_k».proof.Proof.Frames2
public import proofs.«01_k».proof.Proof.Algebraic2
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Attn.Finite.facts,
  Cert.Proj.Finite.facts,
  Cert.Attn.frame_kernel, Cert.Attn.frame_ideal, fun m g _ => Cert.Attn.frame_ideal m g trivial,
  Cert.Attn.frame_reference, fun m g _ => Cert.Attn.frame_reference m g trivial,
  Cert.Proj.frame_kernel, Cert.Proj.frame_ideal, fun m g _ => Cert.Proj.frame_ideal m g trivial,
  Cert.Proj.frame_reference, fun m g _ => Cert.Proj.frame_reference m g trivial,
  trivial, Cert.Attn.algebraic, trivial, Cert.Proj.algebraic⟩

end Cert.Proof

end
